-- ==== Defs.lean ====
def Pre_Kernel [hPre_groups_fill_rows : Cert.Pre_groups_fill_rows.Facts] (m : (ℓ : Loc Cert.Kernel.nD Cert.Kernel.τ Cert.Kernel.sig) → Buf (Elt Bits) ℓ) : Prop :=
  ∀ c : Dev Cert.Kernel.nD,
    (Cert.Pre_groups_fill_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_groups_fill_rows : Cert.Pre_groups_fill_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fill_rows [hPre_groups_fill_rows : Cert.Pre_groups_fill_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_groups_fill_rows : Cert.Pre_groups_fill_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_groups_fill_rows : Cert.Pre_groups_fill_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_groups_fill_rows [hReferenceIdeal : Cert.ReferenceIdeal.Facts] [hPre_groups_fill_rows : Cert.Pre_groups_fill_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fill_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_fill_rows : Cert.Pre_groups_fill_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_groups_fill_rows : Cert.Pre_groups_fill_rows.Facts),
    quiescent_Kernel (hKernel := hKernel) (hPre_groups_fill_rows := hPre_groups_fill_rows)
    ∧ quiescent_KernelIdeal (hKernelIdeal := hKernelIdeal) (hPre_groups_fill_rows := hPre_groups_fill_rows)
    ∧ quiescent_ReferenceIdeal (hReferenceIdeal := hReferenceIdeal)
    ∧ quiescent_ReferenceIdeal_pre_groups_fill_rows (hReferenceIdeal := hReferenceIdeal) (hPre_groups_fill_rows := hPre_groups_fill_rows)
    ∧ preserves_Kernel_KernelIdeal
    ∧ algebraic_KernelIdeal_ReferenceIdeal (hKernelIdeal := hKernelIdeal) (hReferenceIdeal := hReferenceIdeal) (hPre_groups_fill_rows := hPre_groups_fill_rows)
-- ==== Pre_groups_fill_rows.lean ====
abbrev S8192x2048 : Shape := ⟨2, ![8192, 2048]⟩
abbrev S8192x16 : Shape := ⟨2, ![8192, 16]⟩
abbrev S32x2048x2816 : Shape := ⟨3, ![32, 2048, 2816]⟩
abbrev S32x16x22 : Shape := ⟨3, ![32, 16, 22]⟩
abbrev S8192x1408 : Shape := ⟨2, ![8192, 1408]⟩
abbrev S8192x11 : Shape := ⟨2, ![8192, 11]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S8192x2048 .fp8e4m3) (main_arg1 : FVec F S8192x16 .f32) (main_arg2 : FVec F S32x2048x2816 .fp8e4m3) (main_arg3 : FVec F S32x16x22 .f32) (main_arg4 : FVec F S8192x1408 .fp8e5m2) (main_arg5 : FVec F S8192x11 .f32) (main_arg6 : IVec S32 32) : IVec S_ 1 :=
  let main_c : IVec S_ 32 := constantI S_ 32 0#32
  let main_v0 : IVec S32 32 := broadcastInDim S32 ![] bcast_S_S32 main_c
  let main_v1 : IVec S32 1 := cmpi .sge main_arg6 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 8192#32
  let main_v3 : IVec S32 32 := broadcastInDim S32 ![] bcast_S_S32 main_c_1
  let main_v4 : IVec S32 1 := cmpi .sle main_arg6 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S32_S_d0 h_S_) main_arg6 main_c_3
  let main_c_4 : IVec S_ 32 := constantI S_ 32 8192#32
  let main_v8 : IVec S_ 1 := cmpi .eq main_v7 main_c_4
  let main_v9 : IVec S_ 1 := andi main_v6 main_v8
  main_v9
-- ==== Kernel.lean ====
abbrev S8192x2048 : Shape := ⟨2, ![8192, 2048]⟩
abbrev S8192x16 : Shape := ⟨2, ![8192, 16]⟩
abbrev S32x2048x2816 : Shape := ⟨3, ![32, 2048, 2816]⟩
abbrev S32x16x22 : Shape := ⟨3, ![32, 16, 22]⟩
abbrev S8192x1408 : Shape := ⟨2, ![8192, 1408]⟩
abbrev S8192x11 : Shape := ⟨2, ![8192, 11]⟩
abbrev S32 : Shape := ⟨1, ![32]⟩
abbrev S_ : Shape := ⟨0, ![]⟩
abbrev S1 : Shape := ⟨1, ![1]⟩
abbrev S63 : Shape := ⟨1, ![63]⟩
abbrev S1x63 : Shape := ⟨2, ![1, 63]⟩
abbrev S32x1 : Shape := ⟨2, ![32, 1]⟩
abbrev S32x63 : Shape := ⟨2, ![32, 63]⟩
abbrev S63x1 : Shape := ⟨2, ![63, 1]⟩
abbrev S62 : Shape := ⟨1, ![62]⟩
abbrev S8192x2816 : Shape := ⟨2, ![8192, 2816]⟩
abbrev S8192x22 : Shape := ⟨2, ![8192, 22]⟩
abbrev S256x2048 : Shape := ⟨2, ![256, 2048]⟩
abbrev S256x16 : Shape := ⟨2, ![256, 16]⟩
abbrev S1x2048x2816 : Shape := ⟨3, ![1, 2048, 2816]⟩
abbrev S1x16x22 : Shape := ⟨3, ![1, 16, 22]⟩
abbrev S256x1408 : Shape := ⟨2, ![256, 1408]⟩
abbrev S256x11 : Shape := ⟨2, ![256, 11]⟩
abbrev S256x2816 : Shape := ⟨2, ![256, 2816]⟩
abbrev S256x22 : Shape := ⟨2, ![256, 22]⟩
abbrev S2048x2816 : Shape := ⟨2, ![2048, 2816]⟩
abbrev S1x1x1 : Shape := ⟨3, ![1, 1, 1]⟩
abbrev S1x128x128 : Shape := ⟨3, ![1, 128, 128]⟩
abbrev S128x128 : Shape := ⟨2, ![128, 128]⟩
abbrev S256x128 : Shape := ⟨2, ![256, 128]⟩
abbrev S256x1 : Shape := ⟨2, ![256, 1]⟩
abbrev S2048x128 : Shape := ⟨2, ![2048, 128]⟩
abbrev S2048x256 : Shape := ⟨2, ![2048, 256]⟩
abbrev S256x256 : Shape := ⟨2, ![256, 256]⟩
abbrev S256 : Shape := ⟨1, ![256]⟩

abbrev nBuf : Space → Nat
  | .hbm => 165
  | .vmem => 18
  | .smem => 8
  | _ => 0

abbrev hbmTy0_0 (i : Nat) : BufTy := match i % 128 with
  | 0 => ⟨S8192x2048, .fp8e4m3⟩
  | 1 => ⟨S8192x16, .f32⟩
  | 2 => ⟨S32x2048x2816, .fp8e4m3⟩
  | 3 => ⟨S32x16x22, .f32⟩
  | 4 => ⟨S8192x1408, .fp8e5m2⟩
  | 5 => ⟨S8192x11, .f32⟩
  | 6 => ⟨S32, .i32⟩
  | 7 => ⟨S_, .i32⟩
  | 8 => ⟨S_, .i32⟩
  | 9 => ⟨S32, .i32⟩
  | 10 => ⟨S32, .i32⟩
  | 11 => ⟨S_, .i32⟩
  | 12 => ⟨S32, .i32⟩
  | 13 => ⟨S32, .i1⟩
  | 14 => ⟨S_, .i32⟩
  | 15 => ⟨S32, .i32⟩
  | 16 => ⟨S32, .i32⟩
  | 17 => ⟨S_, .i32⟩
  | 18 => ⟨S32, .i32⟩
  | 19 => ⟨S32, .i32⟩
  | 20 => ⟨S_, .i32⟩
  | 21 => ⟨S_, .i32⟩
  | 22 => ⟨S32, .i32⟩
  | 23 => ⟨S32, .i32⟩
  | 24 => ⟨S32, .i32⟩
  | 25 => ⟨S_, .i32⟩
  | 26 => ⟨S32, .i32⟩
  | 27 => ⟨S32, .i1⟩
  | 28 => ⟨S32, .i32⟩
  | 29 => ⟨S32, .i32⟩
  | 30 => ⟨S_, .i32⟩
  | 31 => ⟨S32, .i32⟩
  | 32 => ⟨S32, .i1⟩
  | 33 => ⟨S32, .i1⟩
  | 34 => ⟨S_, .i32⟩
  | 35 => ⟨S32, .i32⟩
  | 36 => ⟨S32, .i32⟩
  | 37 => ⟨S32, .i32⟩
  | 38 => ⟨S_, .i32⟩
  | 39 => ⟨S_, .i32⟩
  | 40 => ⟨S32, .i32⟩
  | 41 => ⟨S32, .i32⟩
  | 42 => ⟨S32, .i32⟩
  | 43 => ⟨S_, .i32⟩
  | 44 => ⟨S32, .i32⟩
  | 45 => ⟨S32, .i1⟩
  | 46 => ⟨S32, .i32⟩
  | 47 => ⟨S32, .i32⟩
  | 48 => ⟨S_, .i32⟩
  | 49 => ⟨S32, .i32⟩
  | 50 => ⟨S32, .i1⟩
  | 51 => ⟨S32, .i1⟩
  | 52 => ⟨S_, .i32⟩
  | 53 => ⟨S32, .i32⟩
  | 54 => ⟨S32, .i32⟩
  | 55 => ⟨S32, .i32⟩
  | 56 => ⟨S32, .i32⟩
  | 57 => ⟨S_, .i32⟩
  | 58 => ⟨S_, .i32⟩
  | 59 => ⟨S32, .i32⟩
  | 60 => ⟨S32, .i32⟩
  | 61 => ⟨S_, .i32⟩
  | 62 => ⟨S_, .i32⟩
  | 63 => ⟨S32, .i32⟩
  | 64 => ⟨S1, .i32⟩
  | 65 => ⟨S_, .i32⟩
  | 66 => ⟨S63, .i32⟩
  | 67 => ⟨S_, .i32⟩
  | 68 => ⟨S_, .i32⟩
  | 69 => ⟨S63, .i32⟩
  | 70 => ⟨S63, .i32⟩
  | 71 => ⟨S1x63, .i32⟩
  | 72 => ⟨S32x1, .i32⟩
  | 73 => ⟨S32x63, .i32⟩
  | 74 => ⟨S32x63, .i32⟩
  | 75 => ⟨S32x63, .i1⟩
  | 76 => ⟨S32x63, .i32⟩
  | 77 => ⟨S_, .i32⟩
  | 78 => ⟨S_, .i32⟩
  | 79 => ⟨S_, .i32⟩
  | 80 => ⟨S32, .i32⟩
  | 81 => ⟨S32, .i32⟩
  | 82 => ⟨S32, .i32⟩
  | 83 => ⟨S_, .i32⟩
  | 84 => ⟨S32, .i32⟩
  | 85 => ⟨S32, .i1⟩
  | 86 => ⟨S32, .i32⟩
  | 87 => ⟨S32, .i32⟩
  | 88 => ⟨S_, .i32⟩
  | 89 => ⟨S32, .i32⟩
  | 90 => ⟨S32, .i1⟩
  | 91 => ⟨S32, .i1⟩
  | 92 => ⟨S_, .i32⟩
  | 93 => ⟨S32, .i32⟩
  | 94 => ⟨S32, .i32⟩
  | 95 => ⟨S32, .i32⟩
  | 96 => ⟨S_, .i32⟩
  | 97 => ⟨S63, .i32⟩
  | 98 => ⟨S63, .i1⟩
  | 99 => ⟨S_, .i32⟩
  | 100 => ⟨S63, .i32⟩
  | 101 => ⟨S63, .i32⟩
  | 102 => ⟨S63, .i32⟩
  | 103 => ⟨S63x1, .i32⟩
  | 104 => ⟨S63, .i32⟩
  | 105 => ⟨S63, .i32⟩
  | 106 => ⟨S32, .i32⟩
  | 107 => ⟨S_, .i32⟩
  | 108 => ⟨S63, .i32⟩
  | 109 => ⟨S63, .i1⟩
  | 110 => ⟨S_, .i32⟩
  | 111 => ⟨S63, .i32⟩
  | 112 => ⟨S63, .i32⟩
  | 113 => ⟨S63, .i32⟩
  | 114 => ⟨S63x1, .i32⟩
  | 115 => ⟨S63, .i32⟩
  | 116 => ⟨S63, .i32⟩
  | 117 => ⟨S63, .i32⟩
  | 118 => ⟨S63, .i1⟩
  | 119 => ⟨S_, .i32⟩
  | 120 => ⟨S63, .i32⟩
  | 121 => ⟨S63, .i1⟩
  | 122 => ⟨S_, .i32⟩
  | 123 => ⟨S63, .i32⟩
  | 124 => ⟨S63, .i32⟩
  | 125 => ⟨S63, .i32⟩
  | 126 => ⟨S63x1, .i32⟩
  | 127 => ⟨S63, .i32⟩
  | _ => ⟨S8192x2048, .fp8e4m3⟩

abbrev hbmTy0_1 (i : Nat) : BufTy := match i % 128 with
  | 0 => ⟨S_, .i32⟩
  | 1 => ⟨S63, .i32⟩
  | 2 => ⟨S63, .i32⟩
  | 3 => ⟨S63, .i32⟩
  | 4 => ⟨S_, .i32⟩
  | 5 => ⟨S63, .i32⟩
  | 6 => ⟨S_, .i32⟩
  | 7 => ⟨S63, .i32⟩
  | 8 => ⟨S63, .i1⟩
  | 9 => ⟨S_, .i32⟩
  | 10 => ⟨S63, .i32⟩
  | 11 => ⟨S63, .i32⟩
  | 12 => ⟨S63, .i32⟩
  | 13 => ⟨S63x1, .i32⟩
  | 14 => ⟨S63, .i32⟩
  | 15 => ⟨S_, .i32⟩
  | 16 => ⟨S63, .i32⟩
  | 17 => ⟨S63, .i32⟩
  | 18 => ⟨S63, .i32⟩
  | 19 => ⟨S_, .i32⟩
  | 20 => ⟨S63, .i32⟩
  | 21 => ⟨S63, .i32⟩
  | 22 => ⟨S_, .i32⟩
  | 23 => ⟨S1, .i32⟩
  | 24 => ⟨S62, .i32⟩
  | 25 => ⟨S62, .i32⟩
  | 26 => ⟨S62, .i1⟩
  | 27 => ⟨S62, .i32⟩
  | 28 => ⟨S_, .i32⟩
  | 29 => ⟨S1, .i32⟩
  | 30 => ⟨S62, .i32⟩
  | 31 => ⟨S62, .i32⟩
  | 32 => ⟨S62, .i1⟩
  | 33 => ⟨S62, .i32⟩
  | 34 => ⟨S8192x2048, .bf16⟩
  | 35 => ⟨S8192x2816, .fp8e5m2⟩
  | 36 => ⟨S8192x22, .f32⟩
  | _ => ⟨S8192x2048, .fp8e4m3⟩

abbrev hbmTy (i : Nat) : BufTy := match i / 128 with
  | 0 => hbmTy0_0 i
  | 1 => hbmTy0_1 i
  | _ => ⟨S8192x2048, .fp8e4m3⟩

abbrev bufTy : (tb : Table) → Fin (tcTables nBuf tb) → BufTy
  | .hbm, ⟨i, _⟩ => hbmTy i
  | .local _ .vmem, ⟨0, _⟩ => ⟨S256x2048, .fp8e4m3⟩
  | .local _ .vmem, ⟨1, _⟩ => ⟨S256x2048, .fp8e4m3⟩
  | .local _ .vmem, ⟨2, _⟩ => ⟨S256x16, .f32⟩
  | .local _ .vmem, ⟨3, _⟩ => ⟨S256x16, .f32⟩
  | .local _ .vmem, ⟨4, _⟩ => ⟨S1x2048x2816, .fp8e4m3⟩
  | .local _ .vmem, ⟨5, _⟩ => ⟨S1x2048x2816, .fp8e4m3⟩
  | .local _ .vmem, ⟨6, _⟩ => ⟨S256x1408, .fp8e5m2⟩
  | .local _ .vmem, ⟨7, _⟩ => ⟨S256x1408, .fp8e5m2⟩
  | .local _ .vmem, ⟨8, _⟩ => ⟨S256x11, .f32⟩
  | .local _ .vmem, ⟨9, _⟩ => ⟨S256x11, .f32⟩
  | .local _ .vmem, ⟨10, _⟩ => ⟨S256x2048, .bf16⟩
  | .local _ .vmem, ⟨11, _⟩ => ⟨S256x2048, .bf16⟩
  | .local _ .vmem, ⟨12, _⟩ => ⟨S256x2816, .fp8e5m2⟩
  | .local _ .vmem, ⟨13, _⟩ => ⟨S256x2816, .fp8e5m2⟩
  | .local _ .vmem, ⟨14, _⟩ => ⟨S256x22, .f32⟩
  | .local _ .vmem, ⟨15, _⟩ => ⟨S256x22, .f32⟩
  | .local _ .vmem, ⟨16, _⟩ => ⟨S2048x2816, .bf16⟩
  | .local _ .vmem, ⟨17, _⟩ => ⟨S256x2816, .bf16⟩
  | .local _ .smem, ⟨0, _⟩ => ⟨S63, .i32⟩
  | .local _ .smem, ⟨1, _⟩ => ⟨S63, .i32⟩
  | .local _ .smem, ⟨2, _⟩ => ⟨S63, .i32⟩
  | .local _ .smem, ⟨3, _⟩ => ⟨S63, .i32⟩
  | .local _ .smem, ⟨4, _⟩ => ⟨S63, .i32⟩
  | .local _ .smem, ⟨5, _⟩ => ⟨S63, .i32⟩
  | .local _ .smem, ⟨6, _⟩ => ⟨S1x16x22, .f32⟩
  | .local _ .smem, ⟨7, _⟩ => ⟨S1x16x22, .f32⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_c : Ref sig .tc := ⟨.hbm, 7, rfl⟩
abbrev main_call0_call0_v0 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v8 : Ref sig .tc := ⟨.hbm, 37, rfl⟩
abbrev main_c_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_0 : Ref sig .tc := ⟨.hbm, 52, rfl⟩
abbrev main_call2_v12 : Ref sig .tc := ⟨.hbm, 53, rfl⟩
abbrev main_call2_v13 : Ref sig .tc := ⟨.hbm, 54, rfl⟩
abbrev main_v9 : Ref sig .tc := ⟨.hbm, 55, rfl⟩
abbrev main_v10 : Ref sig .tc := ⟨.hbm, 56, rfl⟩
abbrev main_c_4 : Ref sig .tc := ⟨.hbm, 57, rfl⟩
abbrev main_call3_v0 : Ref sig .tc := ⟨.hbm, 58, rfl⟩
abbrev main_call3_v1 : Ref sig .tc := ⟨.hbm, 59, rfl⟩
abbrev main_v11 : Ref sig .tc := ⟨.hbm, 60, rfl⟩
abbrev main_call4_call0_c : Ref sig .tc := ⟨.hbm, 61, rfl⟩
abbrev main_call4_call0_v0 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_c_5 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_call5_call0_v0 : Ref sig .tc := ⟨.hbm, 71, rfl⟩
abbrev main_call5_call0_v1 : Ref sig .tc := ⟨.hbm, 72, rfl⟩
abbrev main_call5_call0_v2 : Ref sig .tc := ⟨.hbm, 73, rfl⟩
abbrev main_call5_call0_v3 : Ref sig .tc := ⟨.hbm, 74, rfl⟩
abbrev main_call5_call0_v4 : Ref sig .tc := ⟨.hbm, 75, rfl⟩
abbrev main_call5_call0_v5 : Ref sig .tc := ⟨.hbm, 76, rfl⟩
abbrev main_call5_call0_c : Ref sig .tc := ⟨.hbm, 77, rfl⟩
abbrev main_c_6 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_call6_v5 : Ref sig .tc := ⟨.hbm, 84, rfl⟩
abbrev main_call6_v6 : Ref sig .tc := ⟨.hbm, 85, rfl⟩
abbrev main_call6_v7 : Ref sig .tc := ⟨.hbm, 86, rfl⟩
abbrev main_call6_v8 : Ref sig .tc := ⟨.hbm, 87, rfl⟩
abbrev main_call6_c : Ref sig .tc := ⟨.hbm, 88, rfl⟩
abbrev main_call6_v9 : Ref sig .tc := ⟨.hbm, 89, rfl⟩
abbrev main_call6_v10 : Ref sig .tc := ⟨.hbm, 90, rfl⟩
abbrev main_call6_v11 : Ref sig .tc := ⟨.hbm, 91, rfl⟩
abbrev main_call6_c_0 : Ref sig .tc := ⟨.hbm, 92, rfl⟩
abbrev main_call6_v12 : Ref sig .tc := ⟨.hbm, 93, rfl⟩
abbrev main_call6_v13 : Ref sig .tc := ⟨.hbm, 94, rfl⟩
abbrev main_v20 : Ref sig .tc := ⟨.hbm, 95, rfl⟩
abbrev main_c_7 : Ref sig .tc := ⟨.hbm, 96, rfl⟩
abbrev main_v21 : Ref sig .tc := ⟨.hbm, 97, rfl⟩
abbrev main_v22 : Ref sig .tc := ⟨.hbm, 98, rfl⟩
abbrev main_c_8 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_c_9 : Ref sig .tc := ⟨.hbm, 107, rfl⟩
abbrev main_v30 : Ref sig .tc := ⟨.hbm, 108, rfl⟩
abbrev main_v31 : Ref sig .tc := ⟨.hbm, 109, rfl⟩
abbrev main_c_10 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_c_11 : Ref sig .tc := ⟨.hbm, 119, rfl⟩
abbrev main_v41 : Ref sig .tc := ⟨.hbm, 120, rfl⟩
abbrev main_v42 : Ref sig .tc := ⟨.hbm, 121, rfl⟩
abbrev main_c_12 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_c_13 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_c_14 : Ref sig .tc := ⟨.hbm, 132, rfl⟩
abbrev main_v51 : Ref sig .tc := ⟨.hbm, 133, rfl⟩
abbrev main_c_15 : Ref sig .tc := ⟨.hbm, 134, rfl⟩
abbrev main_v53 : Ref sig .tc := ⟨.hbm, 135, rfl⟩
abbrev main_v54 : Ref sig .tc := ⟨.hbm, 136, rfl⟩
abbrev main_c_16 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_c_17 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_c_18 : Ref sig .tc := ⟨.hbm, 147, rfl⟩
abbrev main_v63 : Ref sig .tc := ⟨.hbm, 148, rfl⟩
abbrev main_v64 : Ref sig .tc := ⟨.hbm, 149, rfl⟩
abbrev main_c_19 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_c_20 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v78_0 : Ref sig .tc := ⟨.hbm, 162, rfl⟩
abbrev main_v78_1 : Ref sig .tc := ⟨.hbm, 163, rfl⟩
abbrev main_v78_2 : Ref sig .tc := ⟨.hbm, 164, rfl⟩
abbrev main_v19 : Ref sig .tc := ⟨.smem, 0, rfl⟩
abbrev main_v37 : Ref sig .tc := ⟨.smem, 1, rfl⟩
abbrev main_v52 : Ref sig .tc := ⟨.smem, 2, rfl⟩
abbrev main_v65 : Ref sig .tc := ⟨.smem, 3, rfl⟩
abbrev main_v71 : Ref sig .tc := ⟨.smem, 4, rfl⟩
abbrev main_v77 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg3_0 : Ref sig .tc := ⟨.smem, 6, rfl⟩
abbrev cc0_stg3_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![63], ![false]⟩

abbrev pre0 : Pipeline.Prefetch sig := ⟨6, ![main_v19.idx, main_v37.idx, main_v52.idx, main_v65.idx, main_v71.idx, main_v77.idx], fun | 0 => main_v19.names | 1 => main_v37.names | 2 => main_v52.names | 3 => main_v65.names | 4 => main_v71.names | 5 => main_v77.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
@[reducible] def k0_t1_loop : Scf.Loop 32 :=
  let c0_i32_734 : BitVec 32 := 0#32
  let c16_i32_735 : BitVec 32 := 16#32
  let v2408 : BitVec 32 := Scalar.addi c0_i32_734 c16_i32_735
  let c1_i32_736 : BitVec 32 := 1#32
  ⟨c0_i32_734, v2408, c1_i32_736⟩
def k0_mult1 (k0_t1 : Fin k0_t1_loop.trips) : BitVec 32 :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  v2409
def k0_off3 (k0_t1 : Fin k0_t1_loop.trips) : Fin 3 → Nat :=
  let c0_738 : Index := 0#32
  let c0_i32_734 : BitVec 32 := 0#32
  let c1_i32_736 : BitVec 32 := 1#32
  let arg18 : BitVec 32 := Scf.iv c0_i32_734 c1_i32_736 k0_t1
  let v2411 : Index := Scalar.indexCast arg18
  let c0_739 : Index := 0#32
  ![0, v2411.toNat, 0]
def k0_off4 (k0_t1 : Fin k0_t1_loop.trips) : Fin 3 → Nat :=
  let c0_740 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2414 : Index := Scalar.indexCast v2410
  let c0_741 : Index := 0#32
  ![0, v2414.toNat, 0]
def k0_off5 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2420 : Index := Scalar.indexCast v2410
  let c0_742 : Index := 0#32
  ![v2420.toNat, 0]
def k0_off6 (k0_t1 : Fin k0_t1_loop.trips) : Fin 3 → Nat :=
  let c0_743 : Index := 0#32
  let c0_i32_734 : BitVec 32 := 0#32
  let c1_i32_736 : BitVec 32 := 1#32
  let arg18 : BitVec 32 := Scf.iv c0_i32_734 c1_i32_736 k0_t1
  let v2424 : Index := Scalar.indexCast arg18
  let c1_744 : Index := 1#32
  ![0, v2424.toNat, 1]
def k0_off7 (k0_t1 : Fin k0_t1_loop.trips) : Fin 3 → Nat :=
  let c0_745 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2427 : Index := Scalar.indexCast v2410
  let c128_746 : Index := 128#32
  ![0, v2427.toNat, 128]
def k0_off8 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2433 : Index := Scalar.indexCast v2410
  let c128_747 : Index := 128#32
  ![v2433.toNat, 128]
def k0_off9 (k0_t1 : Fin k0_t1_loop.trips) : Fin 3 → Nat :=
  let c0_748 : Index := 0#32
  let c0_i32_734 : BitVec 32 := 0#32
  let c1_i32_736 : BitVec 32 := 1#32
  let arg18 : BitVec 32 := Scf.iv c0_i32_734 c1_i32_736 k0_t1
  let v2437 : Index := Scalar.indexCast arg18
  let c2_749 : Index := 2#32
  ![0, v2437.toNat, 2]
def k0_off10 (k0_t1 : Fin k0_t1_loop.trips) : Fin 3 → Nat :=
  let c0_750 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2440 : Index := Scalar.indexCast v2410
  let c256_751 : Index := 256#32
  ![0, v2440.toNat, 256]
def k0_off11 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2446 : Index := Scalar.indexCast v2410
  let c256_752 : Index := 256#32
  ![v2446.toNat, 256]
def k0_off12 (k0_t1 : Fin k0_t1_loop.trips) : Fin 3 → Nat :=
  let c0_753 : Index := 0#32
  let c0_i32_734 : BitVec 32 := 0#32
  let c1_i32_736 : BitVec 32 := 1#32
  let arg18 : BitVec 32 := Scf.iv c0_i32_734 c1_i32_736 k0_t1
  let v2450 : Index := Scalar.indexCast arg18
  let c3_754 : Index := 3#32
  ![0, v2450.toNat, 3]
def k0_off13 (k0_t1 : Fin k0_t1_loop.trips) : Fin 3 → Nat :=
  let c0_755 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2453 : Index := Scalar.indexCast v2410
  let c384_756 : Index := 384#32
  ![0, v2453.toNat, 384]
def k0_off14 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2459 : Index := Scalar.indexCast v2410
  let c384_757 : Index := 384#32
  ![v2459.toNat, 384]
def k0_off15 (k0_t1 : Fin k0_t1_loop.trips) : Fin 3 → Nat :=
  let c0_758 : Index := 0#32
  let c0_i32_734 : BitVec 32 := 0#32
  let c1_i32_736 : BitVec 32 := 1#32
  let arg18 : BitVec 32 := Scf.iv c0_i32_734 c1_i32_736 k0_t1
  let v2463 : Index := Scalar.indexCast arg18
  let c4_759 : Index := 4#32
  ![0, v2463.toNat, 4]
def k0_off16 (k0_t1 : Fin k0_t1_loop.trips) : Fin 3 → Nat :=
  let c0_760 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2466 : Index := Scalar.indexCast v2410
  let c512_761 : Index := 512#32
  ![0, v2466.toNat, 512]
def k0_off17 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2472 : Index := Scalar.indexCast v2410
  let c512_762 : Index := 512#32
  ![v2472.toNat, 512]
def k0_off18 (k0_t1 : Fin k0_t1_loop.trips) : Fin 3 → Nat :=
  let c0_763 : Index := 0#32
  let c0_i32_734 : BitVec 32 := 0#32
  let c1_i32_736 : BitVec 32 := 1#32
  let arg18 : BitVec 32 := Scf.iv c0_i32_734 c1_i32_736 k0_t1
  let v2476 : Index := Scalar.indexCast arg18
  let c5_764 : Index := 5#32
  ![0, v2476.toNat, 5]
def k0_off19 (k0_t1 : Fin k0_t1_loop.trips) : Fin 3 → Nat :=
  let c0_765 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2479 : Index := Scalar.indexCast v2410
  let c640_766 : Index := 640#32
  ![0, v2479.toNat, 640]
def k0_off20 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2485 : Index := Scalar.indexCast v2410
  let c640_767 : Index := 640#32
  ![v2485.toNat, 640]
def k0_off21 (k0_t1 : Fin k0_t1_loop.trips) : Fin 3 → Nat :=
  let c0_768 : Index := 0#32
  let c0_i32_734 : BitVec 32 := 0#32
  let c1_i32_736 : BitVec 32 := 1#32
  let arg18 : BitVec 32 := Scf.iv c0_i32_734 c1_i32_736 k0_t1
  let v2489 : Index := Scalar.indexCast arg18
  let c6_769 : Index := 6#32
  ![0, v2489.toNat, 6]
def k0_off22 (k0_t1 : Fin k0_t1_loop.trips) : Fin 3 → Nat :=
  let c0_770 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2492 : Index := Scalar.indexCast v2410
  let c768_771 : Index := 768#32
  ![0, v2492.toNat, 768]
def k0_off23 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2498 : Index := Scalar.indexCast v2410
  let c768_772 : Index := 768#32
  ![v2498.toNat, 768]
def k0_off24 (k0_t1 : Fin k0_t1_loop.trips) : Fin 3 → Nat :=
  let c0_773 : Index := 0#32
  let c0_i32_734 : BitVec 32 := 0#32
  let c1_i32_736 : BitVec 32 := 1#32
  let arg18 : BitVec 32 := Scf.iv c0_i32_734 c1_i32_736 k0_t1
  let v2502 : Index := Scalar.indexCast arg18
  let c7_774 : Index := 7#32
  ![0, v2502.toNat, 7]
def k0_off25 (k0_t1 : Fin k0_t1_loop.trips) : Fin 3 → Nat :=
  let c0_775 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2505 : Index := Scalar.indexCast v2410
  let c896_776 : Index := 896#32
  ![0, v2505.toNat, 896]
def k0_off26 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2511 : Index := Scalar.indexCast v2410
  let c896_777 : Index := 896#32
  ![v2511.toNat, 896]
def k0_off27 (k0_t1 : Fin k0_t1_loop.trips) : Fin 3 → Nat :=
  let c0_778 : Index := 0#32
  let c0_i32_734 : BitVec 32 := 0#32
  let c1_i32_736 : BitVec 32 := 1#32
  let arg18 : BitVec 32 := Scf.iv c0_i32_734 c1_i32_736 k0_t1
  let v2515 : Index := Scalar.indexCast arg18
  let c8_779 : Index := 8#32
  ![0, v2515.toNat, 8]
def k0_off28 (k0_t1 : Fin k0_t1_loop.trips) : Fin 3 → Nat :=
  let c0_780 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2518 : Index := Scalar.indexCast v2410
  let c1024_781 : Index := 1024#32
  ![0, v2518.toNat, 1024]
def k0_off29 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2524 : Index := Scalar.indexCast v2410
  let c1024_782 : Index := 1024#32
  ![v2524.toNat, 1024]
def k0_off30 (k0_t1 : Fin k0_t1_loop.trips) : Fin 3 → Nat :=
  let c0_783 : Index := 0#32
  let c0_i32_734 : BitVec 32 := 0#32
  let c1_i32_736 : BitVec 32 := 1#32
  let arg18 : BitVec 32 := Scf.iv c0_i32_734 c1_i32_736 k0_t1
  let v2528 : Index := Scalar.indexCast arg18
  let c9_784 : Index := 9#32
  ![0, v2528.toNat, 9]
def k0_off31 (k0_t1 : Fin k0_t1_loop.trips) : Fin 3 → Nat :=
  let c0_785 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2531 : Index := Scalar.indexCast v2410
  let c1152_786 : Index := 1152#32
  ![0, v2531.toNat, 1152]
def k0_off32 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2537 : Index := Scalar.indexCast v2410
  let c1152_787 : Index := 1152#32
  ![v2537.toNat, 1152]
def k0_off33 (k0_t1 : Fin k0_t1_loop.trips) : Fin 3 → Nat :=
  let c0_788 : Index := 0#32
  let c0_i32_734 : BitVec 32 := 0#32
  let c1_i32_736 : BitVec 32 := 1#32
  let arg18 : BitVec 32 := Scf.iv c0_i32_734 c1_i32_736 k0_t1
  let v2541 : Index := Scalar.indexCast arg18
  let c10_789 : Index := 10#32
  ![0, v2541.toNat, 10]
def k0_off34 (k0_t1 : Fin k0_t1_loop.trips) : Fin 3 → Nat :=
  let c0_790 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2544 : Index := Scalar.indexCast v2410
  let c1280_791 : Index := 1280#32
  ![0, v2544.toNat, 1280]
def k0_off35 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2550 : Index := Scalar.indexCast v2410
  let c1280_792 : Index := 1280#32
  ![v2550.toNat, 1280]
def k0_off36 (k0_t1 : Fin k0_t1_loop.trips) : Fin 3 → Nat :=
  let c0_793 : Index := 0#32
  let c0_i32_734 : BitVec 32 := 0#32
  let c1_i32_736 : BitVec 32 := 1#32
  let arg18 : BitVec 32 := Scf.iv c0_i32_734 c1_i32_736 k0_t1
  let v2554 : Index := Scalar.indexCast arg18
  let c11 : Index := 11#32
  ![0, v2554.toNat, 11]
def k0_off37 (k0_t1 : Fin k0_t1_loop.trips) : Fin 3 → Nat :=
  let c0_794 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2557 : Index := Scalar.indexCast v2410
  let c1408_795 : Index := 1408#32
  ![0, v2557.toNat, 1408]
def k0_off38 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2563 : Index := Scalar.indexCast v2410
  let c1408_796 : Index := 1408#32
  ![v2563.toNat, 1408]
def k0_off39 (k0_t1 : Fin k0_t1_loop.trips) : Fin 3 → Nat :=
  let c0_797 : Index := 0#32
  let c0_i32_734 : BitVec 32 := 0#32
  let c1_i32_736 : BitVec 32 := 1#32
  let arg18 : BitVec 32 := Scf.iv c0_i32_734 c1_i32_736 k0_t1
  let v2567 : Index := Scalar.indexCast arg18
  let c12 : Index := 12#32
  ![0, v2567.toNat, 12]
def k0_off40 (k0_t1 : Fin k0_t1_loop.trips) : Fin 3 → Nat :=
  let c0_798 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2570 : Index := Scalar.indexCast v2410
  let c1536_799 : Index := 1536#32
  ![0, v2570.toNat, 1536]
def k0_off41 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2576 : Index := Scalar.indexCast v2410
  let c1536_800 : Index := 1536#32
  ![v2576.toNat, 1536]
def k0_off42 (k0_t1 : Fin k0_t1_loop.trips) : Fin 3 → Nat :=
  let c0_801 : Index := 0#32
  let c0_i32_734 : BitVec 32 := 0#32
  let c1_i32_736 : BitVec 32 := 1#32
  let arg18 : BitVec 32 := Scf.iv c0_i32_734 c1_i32_736 k0_t1
  let v2580 : Index := Scalar.indexCast arg18
  let c13 : Index := 13#32
  ![0, v2580.toNat, 13]
def k0_off43 (k0_t1 : Fin k0_t1_loop.trips) : Fin 3 → Nat :=
  let c0_802 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2583 : Index := Scalar.indexCast v2410
  let c1664_803 : Index := 1664#32
  ![0, v2583.toNat, 1664]
def k0_off44 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2589 : Index := Scalar.indexCast v2410
  let c1664_804 : Index := 1664#32
  ![v2589.toNat, 1664]
def k0_off45 (k0_t1 : Fin k0_t1_loop.trips) : Fin 3 → Nat :=
  let c0_805 : Index := 0#32
  let c0_i32_734 : BitVec 32 := 0#32
  let c1_i32_736 : BitVec 32 := 1#32
  let arg18 : BitVec 32 := Scf.iv c0_i32_734 c1_i32_736 k0_t1
  let v2593 : Index := Scalar.indexCast arg18
  let c14 : Index := 14#32
  ![0, v2593.toNat, 14]
def k0_off46 (k0_t1 : Fin k0_t1_loop.trips) : Fin 3 → Nat :=
  let c0_806 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2596 : Index := Scalar.indexCast v2410
  let c1792_807 : Index := 1792#32
  ![0, v2596.toNat, 1792]
def k0_off47 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2602 : Index := Scalar.indexCast v2410
  let c1792_808 : Index := 1792#32
  ![v2602.toNat, 1792]
def k0_off48 (k0_t1 : Fin k0_t1_loop.trips) : Fin 3 → Nat :=
  let c0_809 : Index := 0#32
  let c0_i32_734 : BitVec 32 := 0#32
  let c1_i32_736 : BitVec 32 := 1#32
  let arg18 : BitVec 32 := Scf.iv c0_i32_734 c1_i32_736 k0_t1
  let v2606 : Index := Scalar.indexCast arg18
  let c15 : Index := 15#32
  ![0, v2606.toNat, 15]
def k0_off49 (k0_t1 : Fin k0_t1_loop.trips) : Fin 3 → Nat :=
  let c0_810 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2609 : Index := Scalar.indexCast v2410
  let c1920_811 : Index := 1920#32
  ![0, v2609.toNat, 1920]
def k0_off50 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2615 : Index := Scalar.indexCast v2410
  let c1920_812 : Index := 1920#32
  ![v2615.toNat, 1920]
def k0_off51 (k0_t1 : Fin k0_t1_loop.trips) : Fin 3 → Nat :=
  let c0_813 : Index := 0#32
  let c0_i32_734 : BitVec 32 := 0#32
  let c1_i32_736 : BitVec 32 := 1#32
  let arg18 : BitVec 32 := Scf.iv c0_i32_734 c1_i32_736 k0_t1
  let v2619 : Index := Scalar.indexCast arg18
  let c16 : Index := 16#32
  ![0, v2619.toNat, 16]
def k0_off52 (k0_t1 : Fin k0_t1_loop.trips) : Fin 3 → Nat :=
  let c0_814 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2622 : Index := Scalar.indexCast v2410
  let c2048_815 : Index := 2048#32
  ![0, v2622.toNat, 2048]
def k0_off53 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2628 : Index := Scalar.indexCast v2410
  let c2048_816 : Index := 2048#32
  ![v2628.toNat, 2048]
def k0_off54 (k0_t1 : Fin k0_t1_loop.trips) : Fin 3 → Nat :=
  let c0_817 : Index := 0#32
  let c0_i32_734 : BitVec 32 := 0#32
  let c1_i32_736 : BitVec 32 := 1#32
  let arg18 : BitVec 32 := Scf.iv c0_i32_734 c1_i32_736 k0_t1
  let v2632 : Index := Scalar.indexCast arg18
  let c17 : Index := 17#32
  ![0, v2632.toNat, 17]
def k0_off55 (k0_t1 : Fin k0_t1_loop.trips) : Fin 3 → Nat :=
  let c0_818 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2635 : Index := Scalar.indexCast v2410
  let c2176_819 : Index := 2176#32
  ![0, v2635.toNat, 2176]
def k0_off56 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2641 : Index := Scalar.indexCast v2410
  let c2176_820 : Index := 2176#32
  ![v2641.toNat, 2176]
def k0_off57 (k0_t1 : Fin k0_t1_loop.trips) : Fin 3 → Nat :=
  let c0_821 : Index := 0#32
  let c0_i32_734 : BitVec 32 := 0#32
  let c1_i32_736 : BitVec 32 := 1#32
  let arg18 : BitVec 32 := Scf.iv c0_i32_734 c1_i32_736 k0_t1
  let v2645 : Index := Scalar.indexCast arg18
  let c18 : Index := 18#32
  ![0, v2645.toNat, 18]
def k0_off58 (k0_t1 : Fin k0_t1_loop.trips) : Fin 3 → Nat :=
  let c0_822 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2648 : Index := Scalar.indexCast v2410
  let c2304_823 : Index := 2304#32
  ![0, v2648.toNat, 2304]
def k0_off59 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2654 : Index := Scalar.indexCast v2410
  let c2304_824 : Index := 2304#32
  ![v2654.toNat, 2304]
def k0_off60 (k0_t1 : Fin k0_t1_loop.trips) : Fin 3 → Nat :=
  let c0_825 : Index := 0#32
  let c0_i32_734 : BitVec 32 := 0#32
  let c1_i32_736 : BitVec 32 := 1#32
  let arg18 : BitVec 32 := Scf.iv c0_i32_734 c1_i32_736 k0_t1
  let v2658 : Index := Scalar.indexCast arg18
  let c19 : Index := 19#32
  ![0, v2658.toNat, 19]
def k0_off61 (k0_t1 : Fin k0_t1_loop.trips) : Fin 3 → Nat :=
  let c0_826 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2661 : Index := Scalar.indexCast v2410
  let c2432_827 : Index := 2432#32
  ![0, v2661.toNat, 2432]
def k0_off62 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2667 : Index := Scalar.indexCast v2410
  let c2432_828 : Index := 2432#32
  ![v2667.toNat, 2432]
def k0_off63 (k0_t1 : Fin k0_t1_loop.trips) : Fin 3 → Nat :=
  let c0_829 : Index := 0#32
  let c0_i32_734 : BitVec 32 := 0#32
  let c1_i32_736 : BitVec 32 := 1#32
  let arg18 : BitVec 32 := Scf.iv c0_i32_734 c1_i32_736 k0_t1
  let v2671 : Index := Scalar.indexCast arg18
  let c20 : Index := 20#32
  ![0, v2671.toNat, 20]
def k0_off64 (k0_t1 : Fin k0_t1_loop.trips) : Fin 3 → Nat :=
  let c0_830 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2674 : Index := Scalar.indexCast v2410
  let c2560_831 : Index := 2560#32
  ![0, v2674.toNat, 2560]
def k0_off65 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2680 : Index := Scalar.indexCast v2410
  let c2560_832 : Index := 2560#32
  ![v2680.toNat, 2560]
def k0_off66 (k0_t1 : Fin k0_t1_loop.trips) : Fin 3 → Nat :=
  let c0_833 : Index := 0#32
  let c0_i32_734 : BitVec 32 := 0#32
  let c1_i32_736 : BitVec 32 := 1#32
  let arg18 : BitVec 32 := Scf.iv c0_i32_734 c1_i32_736 k0_t1
  let v2684 : Index := Scalar.indexCast arg18
  let c21 : Index := 21#32
  ![0, v2684.toNat, 21]
def k0_off67 (k0_t1 : Fin k0_t1_loop.trips) : Fin 3 → Nat :=
  let c0_834 : Index := 0#32
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2687 : Index := Scalar.indexCast v2410
  let c2688_835 : Index := 2688#32
  ![0, v2687.toNat, 2688]
def k0_off68 (k0_t1 : Fin k0_t1_loop.trips) : Fin 2 → Nat :=
  let c0_i32_734 : BitVec 32 := 0#32
  let c1_i32_736 : BitVec 32 := 1#32
  let arg18 : BitVec 32 := Scf.iv c0_i32_734 c1_i32_736 k0_t1
  let c128_i32 : BitVec 32 := 128#32
  let v2409 : BitVec 32 := Scalar.muli arg18 c128_i32
  let v2410 : BitVec 32 := v2409
  let v2693 : Index := Scalar.indexCast v2410
  let c2688_836 : Index := 2688#32
  ![v2693.toNat, 2688]
def k0_cond1 (v1 : BitVec 32) (v3 : BitVec 32) : BitVec 1 :=
  let v4 : BitVec 1 := Scalar.cmpi .sgt v3 v1
  let v5 : BitVec 32 := Scalar.extui v4
  let c0_i32 : BitVec 32 := 0#32
  let v6 : BitVec 1 := Scalar.cmpi .ne v5 c0_i32
  v6

def cc0_transform_0 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S63.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S63) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S63.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S63) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  ![v1.toNat, c0_i32.toNat]

def cc0_transform_6 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  ![v1.toNat, c0_i32.toNat]

def cc0_transform_8 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S63) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x16x22 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x11 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x22 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x2048 : Shape := ⟨2, ![8192, 2048]⟩
abbrev S8192x16 : Shape := ⟨2, ![8192, 16]⟩
abbrev S32x2048x2816 : Shape := ⟨3, ![32, 2048, 2816]⟩
abbrev S32x16x22 : Shape := ⟨3, ![32, 16, 22]⟩
abbrev S8192x1408 : Shape := ⟨2, ![8192, 1408]⟩
abbrev S8192x11 : Shape := ⟨2, ![8192, 11]⟩
abbrev S32 : Shape := ⟨1, ![32]⟩
abbrev S_ : Shape := ⟨0, ![]⟩
abbrev S8192 : Shape := ⟨1, ![8192]⟩
abbrev S1x8192 : Shape := ⟨2, ![1, 8192]⟩
abbrev S32x1 : Shape := ⟨2, ![32, 1]⟩
abbrev S32x8192 : Shape := ⟨2, ![32, 8192]⟩
abbrev S32x8192x1 : Shape := ⟨3, ![32, 8192, 1]⟩
abbrev S8192x2816 : Shape := ⟨2, ![8192, 2816]⟩
abbrev S8192x22 : Shape := ⟨2, ![8192, 22]⟩
abbrev S8192x16x128 : Shape := ⟨3, ![8192, 16, 128]⟩
abbrev S8192x16x1 : Shape := ⟨3, ![8192, 16, 1]⟩
abbrev S32x16x128x22x128 : Shape := ⟨5, ![32, 16, 128, 22, 128]⟩
abbrev S32x16x1x22x1 : Shape := ⟨5, ![32, 16, 1, 22, 1]⟩
abbrev S1x8192x2048 : Shape := ⟨3, ![1, 8192, 2048]⟩
abbrev S32x8192x2048 : Shape := ⟨3, ![32, 8192, 2048]⟩
abbrev S32x8192x2816 : Shape := ⟨3, ![32, 8192, 2816]⟩
abbrev S8192x11x128 : Shape := ⟨3, ![8192, 11, 128]⟩
abbrev S8192x11x1 : Shape := ⟨3, ![8192, 11, 1]⟩
abbrev S8192x22x128 : Shape := ⟨3, ![8192, 22, 128]⟩
abbrev S8192x22x1 : Shape := ⟨3, ![8192, 22, 1]⟩
abbrev S1x8192x2816 : Shape := ⟨3, ![1, 8192, 2816]⟩

abbrev nBuf : Space → Nat
  | .hbm => 28
  | .vmem => 10
  | .smem => 0
  | _ => 0

abbrev bufTy : (tb : Table) → Fin (tcTables nBuf tb) → BufTy
  | .hbm, ⟨0, _⟩ => ⟨S8192x2048, .fp8e4m3⟩
  | .hbm, ⟨1, _⟩ => ⟨S8192x16, .f32⟩
  | .hbm, ⟨2, _⟩ => ⟨S32x2048x2816, .fp8e4m3⟩
  | .hbm, ⟨3, _⟩ => ⟨S32x16x22, .f32⟩
  | .hbm, ⟨4, _⟩ => ⟨S8192x1408, .fp8e5m2⟩
  | .hbm, ⟨5, _⟩ => ⟨S8192x11, .f32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S8192, .i32⟩
  | .hbm, ⟨12, _⟩ => ⟨S1x8192, .i32⟩
  | .hbm, ⟨13, _⟩ => ⟨S32x1, .i32⟩
  | .hbm, ⟨14, _⟩ => ⟨S32x8192, .i32⟩
  | .hbm, ⟨15, _⟩ => ⟨S32x8192, .i32⟩
  | .hbm, ⟨16, _⟩ => ⟨S32x8192, .i1⟩
  | .hbm, ⟨17, _⟩ => ⟨S1x8192, .i32⟩
  | .hbm, ⟨18, _⟩ => ⟨S32x1, .i32⟩
  | .hbm, ⟨19, _⟩ => ⟨S32x8192, .i32⟩
  | .hbm, ⟨20, _⟩ => ⟨S32x8192, .i32⟩
  | .hbm, ⟨21, _⟩ => ⟨S32x8192, .i1⟩
  | .hbm, ⟨22, _⟩ => ⟨S32x8192, .i1⟩
  | .hbm, ⟨23, _⟩ => ⟨S32x8192, .i32⟩
  | .hbm, ⟨24, _⟩ => ⟨S32x8192x1, .i32⟩
  | .hbm, ⟨25, _⟩ => ⟨S8192x2048, .bf16⟩
  | .hbm, ⟨26, _⟩ => ⟨S8192x2816, .fp8e5m2⟩
  | .hbm, ⟨27, _⟩ => ⟨S8192x22, .f32⟩
  | .local _ .vmem, ⟨0, _⟩ => ⟨S8192x2048, .fp8e4m3⟩
  | .local _ .vmem, ⟨1, _⟩ => ⟨S8192x16, .f32⟩
  | .local _ .vmem, ⟨2, _⟩ => ⟨S32x2048x2816, .fp8e4m3⟩
  | .local _ .vmem, ⟨3, _⟩ => ⟨S32x16x22, .f32⟩
  | .local _ .vmem, ⟨4, _⟩ => ⟨S8192x1408, .fp8e5m2⟩
  | .local _ .vmem, ⟨5, _⟩ => ⟨S8192x11, .f32⟩
  | .local _ .vmem, ⟨6, _⟩ => ⟨S32x8192x1, .i32⟩
  | .local _ .vmem, ⟨7, _⟩ => ⟨S8192x2048, .bf16⟩
  | .local _ .vmem, ⟨8, _⟩ => ⟨S8192x2816, .fp8e5m2⟩
  | .local _ .vmem, ⟨9, _⟩ => ⟨S8192x22, .f32⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_c : Ref sig .tc := ⟨.hbm, 7, rfl⟩
abbrev main_call0_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1408 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x8192x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x2816 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x22 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelHost.lean ====
/- The host's part of the program: what the buffers hold when the pallas_call is entered, the six tables among them, and
   the pipeline at those tables. -/
module

public import proofs.«01_k».proof.Proof.Gen.Kernel.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- A table's buffer on core `c`: the type of its contents, -/
abbrev TbBuf (c : Dev nD) {S : Shape} {e : EltTy} (M : Memref sig .tc .smem S e) : Type := Buf (Elt F) (M.view.loc (c : Thread nD τ))
/-- and it held at half the full share, which reads and does not write. -/
abbrev tbPt (c : Dev nD) {S : Shape} {e : EltTy} (M : Memref sig .tc .smem S e) (f : TbBuf (F := F) c M) : sProp 𝕄 :=
  M.view.loc (c : Thread nD τ) ↦{fullShare.right} f

variable (m : (ℓ : Loc nD τ sig) → Buf (Elt F) ℓ)

/-- Core `c`'s buffers when the region is entered. -/
def V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

set_option maxHeartbeats 1600000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables when the region is entered (there is one device). -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl
/-- The pipeline's side condition of them, -/
abbrev Ok : Prop := ok0 (F := F) (tbl m)
/-- the tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables' halves the region hands the body, table by table. -/
theorem PhiT_eq (c : Dev nD) : (Pipeline.ΦT pre0 (tbl m) c : sProp 𝕄) = iprop(tbPt c (Memref.whole main_v19) (tbl m 0) ∗ tbPt c (Memref.whole main_v37) (tbl m 1) ∗ tbPt c (Memref.whole main_v52) (tbl m 2) ∗ tbPt c (Memref.whole main_v65) (tbl m 3) ∗ tbPt c (Memref.whole main_v71) (tbl m 4) ∗ tbPt c (Memref.whole main_v77) (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-- The body at a grid point, on the staging buffers the pipeline hands it there. -/
abbrev bodyAt (hO : Ok m) (t : Fin (cfgM m hO).N) : Prog (TpuEff nD τ sig (Elt F) Λ₀ .tc) PUnit :=
  cc0_moe_bwd (grid0.coords t) (Memref.whole main_v19) (Memref.isWhole_whole _) (Memref.whole main_v37) (Memref.isWhole_whole _) (Memref.whole main_v52) (Memref.isWhole_whole _) (Memref.whole main_v65) (Memref.isWhole_whole _) (Memref.whole main_v71) (Memref.isWhole_whole _) (Memref.whole main_v77) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (spec0_8.stage ((cfgM m hO).slots t 8)) (hstage0_8 (((cfgM m hO).slots t 8).cast nbuf0_8))
    (Memref.whole cc0_scratch0) (Memref.isWhole_whole _) (Memref.whole cc0_scratch1) (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.Kernel.Hand

end
-- ==== Proof.KernelBody.lean ====
/- The frame of the kernel's body: run at any grid point on any tables, it ends with every buffer it only reads as
   it found it. Nothing is said here of what it leaves in the others. -/
module

public import proofs.«01_k».proof.Proof.KernelHost
public import proofs.«01_k».proof.Proof.Gen.Kernel.Skeleton
public import proofs.«01_k».proof.Proof.Gen.Kernel.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 0 in
theorem run_body (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2048 .fp8e4m3) (harg7 : arg7.IsWhole) (arg8 : Memref sig .tc .vmem S256x16 .f32) (harg8 : arg8.IsWhole) (arg9 : Memref sig .tc .vmem S1x2048x2816 .fp8e4m3) (harg9 : arg9.IsWhole) (arg10 : Memref sig .tc .smem S1x16x22 .f32) (harg10 : arg10.IsWhole) (arg11 : Memref sig .tc .vmem S256x1408 .fp8e5m2) (harg11 : arg11.IsWhole) (arg12 : Memref sig .tc .vmem S256x11 .f32) (harg12 : arg12.IsWhole) (arg13 : Memref sig .tc .vmem S256x2048 .bf16) (harg13 : arg13.IsWhole) (arg14 : Memref sig .tc .vmem S256x2816 .fp8e5m2) (harg14 : arg14.IsWhole) (arg15 : Memref sig .tc .vmem S256x22 .f32) (harg15 : arg15.IsWhole) (arg16 : Memref sig .tc .vmem S2048x2816 .bf16) (harg16 : arg16.IsWhole) (arg17 : Memref sig .tc .vmem S256x2816 .bf16) (harg17 : arg17.IsWhole)
    (t1 : TbBuf (F := F) c arg1) (t2 : TbBuf (F := F) c arg2) (t3 : TbBuf (F := F) c arg3) (t4 : TbBuf (F := F) c arg4) (t5 : TbBuf (F := F) c arg5) (t6 : TbBuf (F := F) c arg6)
    (x7 : Vec F S256x2048 .fp8e4m3) (x8 : Vec F S256x16 .f32) (x9 : Vec F S1x2048x2816 .fp8e4m3) (x10 : Vec F S1x16x22 .f32) (x11 : Vec F S256x1408 .fp8e5m2) (x12 : Vec F S256x11 .f32) (x13 : Vec F S256x2048 .bf16) (x14 : Vec F S256x2816 .fp8e5m2) (x15 : Vec F S256x22 .f32) (K : PUnit → sProp 𝕄) :
    iprop(tbPt c arg1 t1 ∗ tbPt c arg2 t2 ∗ tbPt c arg3 t3 ∗ tbPt c arg4 t4 ∗ tbPt c arg5 t5 ∗ tbPt c arg6 t6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d)
        ∗ (iprop(tbPt c arg1 t1 ∗ tbPt c arg2 t2 ∗ tbPt c arg3 t3 ∗ tbPt c arg4 t4 ∗ tbPt c arg5 t5 ∗ tbPt c arg6 t6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_moe_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_moe_bwd_eq_skeleton]; unfold cc0_moe_bwd_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨HT1, HT2, HT3, HT4, HT5, HT6, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf7 hf8 hf9 hf10 hf11 hf12 hf13 hf14 hf15
  sl_exec
  split
  · sl_exec
    split
    · sl_exec
      sl_step
      iapply Hk
      isplitl [HT1]; · iexact HT1
      isplitl [HT2]; · iexact HT2
      isplitl [HT3]; · iexact HT3
      isplitl [HT4]; · iexact HT4
      isplitl [HT5]; · iexact HT5
      isplitl [HT6]; · iexact HT6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists _; iexists _; isplitr
        swap; · iexact H13
        ipureintro; rfl
      isplitl [H14]
      · iexists _; iexists _; isplitr
        swap; · iexact H14
        ipureintro; rfl
      isplitl [H15]
      · iexists _; iexists _; isplitr
        swap; · iexact H15
        ipureintro; rfl
      isplitl [H16]
      · iexists _; iexists _; isplitr
        swap; · iexact H16
        ipureintro; rfl
      iexists _; iexists _; isplitr
      swap; · iexact H17
      ipureintro; rfl
    · sl_exec
      sl_step
      iapply Hk
      isplitl [HT1]; · iexact HT1
      isplitl [HT2]; · iexact HT2
      isplitl [HT3]; · iexact HT3
      isplitl [HT4]; · iexact HT4
      isplitl [HT5]; · iexact HT5
      isplitl [HT6]; · iexact HT6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists _; iexists _; isplitr
        swap; · iexact H13
        ipureintro; rfl
      isplitl [H14]
      · iexists _; iexists _; isplitr
        swap; · iexact H14
        ipureintro; rfl
      isplitl [H15]
      · iexists _; iexists _; isplitr
        swap; · iexact H15
        ipureintro; rfl
      isplitl [H16]
      · iexists _; iexists _; isplitr
        swap; · iexact H16
        ipureintro; rfl
      iexists _; iexists _; isplitr
      swap; · iexact H17
      ipureintro; rfl
  · sl_exec
    sl_step
    iapply Hk
    isplitl [HT1]; · iexact HT1
    isplitl [HT2]; · iexact HT2
    isplitl [HT3]; · iexact HT3
    isplitl [HT4]; · iexact HT4
    isplitl [HT5]; · iexact HT5
    isplitl [HT6]; · iexact HT6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    isplitl [H16]
    · iexists _; iexists _; isplitr
      swap; · iexact H16
      ipureintro; rfl
    iexists _; iexists _; isplitr
    swap; · iexact H17
    ipureintro; rfl

end Cert.Kernel.Hand

end
-- ==== Proof.KernelRun.lean ====
/- The frame of the program: from any memory whose tables admit the pipeline, it runs, its arguments end unchanged and
   every counter ends at zero. -/
module

public import proofs.«01_k».proof.Proof.KernelBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is said of the pipeline: an input's buffer is left as it was found, nothing of an output's. -/
def rdats (hO : Ok m) (c : Dev nD) : RDat τ (Elt F) Unit ℕ (UR sig nD τ) ℕ (cfgM m hO) c where
  A w := V m c (Pipeline.arrRef spec0 w)
  after w _ Y X := (spec0 w).isOut = false → X = Y
  Φ _ := iprop(Pipeline.ΦA spec0 c ∗ Pipeline.ΦT pre0 (tbl m) c)
  q _ := fullShare
  owed _ := 0

theorem A_eq (hO : Ok m) (c : Dev nD) (w : Fin 9) : (rdats m hO c).A w = V m c (Pipeline.arrRef spec0 w) := by
  dsimp only [rdats]

theorem body_obligation (hO : Ok m) (c : Dev nD) : (rdats (F := F) m hO c).BodyObligation (defs₀ (F := F)) Variants.none () Set.univ := fun t Y _ => by
  rw [bigSep_W0, bigSep_W0, defs₀_row]
  rw [show (rdats m hO c).Φ t.castSucc = iprop(Pipeline.ΦA spec0 c ∗ Pipeline.ΦT pre0 (tbl m) c) from rfl,
    show (rdats m hO c).Φ t.succ = iprop(Pipeline.ΦA spec0 c ∗ Pipeline.ΦT pre0 (tbl m) c) from rfl,
    show (rdats m hO c).owesAt () t.succ = (rdats m hO c).owesAt () t.castSucc from rfl, PhiT_eq]
  unfold Pipeline.ΦA
  rw [scopedRest0_eq]
  iintro ⟨⟨⟨⟨⟨%s0, S0⟩, ⟨%s1, S1⟩⟩, HP⟩, HT⟩, Ho, H0, H1, H2, H3, H4, H5, H6, H7, H8⟩
  icases HT with ⟨HT1, HT2, HT3, HT4, HT5, HT6⟩
  iapply (run_body c Set.univ (grid0.coords t) _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) _)

  isplitl [HT1]; · iexact HT1
  isplitl [HT2]; · iexact HT2
  isplitl [HT3]; · iexact HT3
  isplitl [HT4]; · iexact HT4
  isplitl [HT5]; · iexact HT5
  isplitl [HT6]; · iexact HT6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexists s0; rw [owns_whole]; iexact S0
  isplitl [S1]; · iexists s1; rw [owns_whole]; iexact S1
  iintro ⟨HT1, HT2, HT3, HT4, HT5, HT6, H0, H1, H2, H3, H4, H5, ⟨%d6, H6⟩, ⟨%d7, H7⟩, ⟨%d8, H8⟩, ⟨%e0, S0⟩, ⟨%e1, S1⟩⟩
  isplitl [S0 S1 HP HT1 HT2 HT3 HT4 HT5 HT6]
  · isplitl [S0 S1 HP]
    · isplitl [S0 S1]
      · isplitl [S0]
        · iexists e0; rw [← owns_whole (Val := Elt F) (c : Thread nD τ) cc0_scratch0]; iexact S0
        · iexists e1; rw [← owns_whole (Val := Elt F) (c : Thread nD τ) cc0_scratch1]; iexact S1
      · iexact HP
    isplitl [HT1]; · iexact HT1
    isplitl [HT2]; · iexact HT2
    isplitl [HT3]; · iexact HT3
    isplitl [HT4]; · iexact HT4
    isplitl [HT5]; · iexact HT5
    iexact HT6
  isplitl [Ho]; · iexact Ho
  isplitl [H0]
  · iexists (Y 0); isplitr
    · ipureintro; exact fun _ => rfl
    iexact H0
  isplitl [H1]
  · iexists (Y 1); isplitr
    · ipureintro; exact fun _ => rfl
    iexact H1
  isplitl [H2]
  · iexists (Y 2); isplitr
    · ipureintro; exact fun _ => rfl
    iexact H2
  isplitl [H3]
  · iexists (Y 3); isplitr
    · ipureintro; exact fun _ => rfl
    iexact H3
  isplitl [H4]
  · iexists (Y 4); isplitr
    · ipureintro; exact fun _ => rfl
    iexact H4
  isplitl [H5]
  · iexists (Y 5); isplitr
    · ipureintro; exact fun _ => rfl
    iexact H5
  isplitl [H6]
  · iexists d6; isplitr
    · ipureintro; exact fun h => absurd h (by decide)
    iexact H6
  isplitl [H7]
  · iexists d7; isplitr
    · ipureintro; exact fun h => absurd h (by decide)
    iexact H7
  iexists d8; isplitr
  · ipureintro; exact fun h => absurd h (by decide)
  iexact H8

set_option backward.isDefEq.respectTransparency.types false in
set_option maxHeartbeats 800000 in
/-- THE LAUNCH. -/
theorem run_main (hO : Ok m) : θ_run defs (onTc (τ := τ) (main (F := F))) (s₀ m ρ)
    (fun r => RDat.FramePost (cfgM m hO) (rdats m hO) (V m) r ∧ r.2.sem = fun _ => 0) :=
  RDat.θ_run_frameP (Q' := _) pcfgs (fun _ => adm m hO) (0 : Fin 1) launch0 defs₀ Variants.none (rdats m hO) m ρ main
    (hbody := fun c => body_obligation m hO c) (hshare := fun c => (rdats m hO c).share_full fun _ => rfl)
    (howed := fun _ _ => rfl) (V := V m) (hmain := hmain m Variants.none) (hA := fun c w => A_eq m hO c w)
    (hpf := fun c k => V_pre m c k) (hΦ := fun _ _ => rfl) (hQ' := fun _ h => h)

/-- THE FRAME. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (h.1.arr_in c 0 rfl).trans ((A_eq m hO c 0).trans (V_main_arg0 m c)),
    (h.1.arr_in c 1 rfl).trans ((A_eq m hO c 1).trans (V_main_arg1 m c)),
    (h.1.arr_in c 2 rfl).trans ((A_eq m hO c 2).trans (V_main_arg2 m c)),
    (h.1.arr_in c 3 rfl).trans ((A_eq m hO c 3).trans (V_main_arg3 m c)),
    (h.1.arr_in c 4 rfl).trans ((A_eq m hO c 4).trans (V_main_arg4 m c)),
    (h.1.arr_in c 5 rfl).trans ((A_eq m hO c 5).trans (V_main_arg5 m c)),
    ((h.1 c).2 main_arg6 (show main_arg6 ∈ Pipeline.restRefs sig spec0 from Pipeline.mem_restRefs_of main_arg6 (by decide) (by decide))).trans (V_main_arg6 m c)⟩, h.2⟩) (run_main m ρ hO)

end Cert.Kernel.Hand

end
-- ==== Proof.Sched.lean ====
/- The schedule of visits as numbers: from the group sizes, which group and which tile of 256 rows each of the 63 visits
   takes and which of the tile's rows are the visit's own. Every row belongs to exactly one visit, and the tiles come in
   order. -/
module

public import Idealize.ShloMosaic.Lib.Routing.Ops
public import Idealize.ShloMosaic.Lib.Routing.OpsOne
public import Idealize.ShloMosaic.Lib.Routing.OpsSet
public import Idealize.ShloMosaic.Lib.Routing.OpsSearch

@[expose] public section

namespace Cert.Sched

/-- The sum of the first `n` values of `f`. -/
def S (f : ℕ → ℕ) (n : ℕ) : ℕ := ((List.range n).map f).sum

theorem S_zero (f : ℕ → ℕ) : S f 0 = 0 := by simp [S]
theorem S_succ (f : ℕ → ℕ) (n : ℕ) : S f (n + 1) = S f n + f n := by simp [S, List.range_succ]
theorem S_mono (f : ℕ → ℕ) {a b : ℕ} (h : a ≤ b) : S f a ≤ S f b := by
  induction b, h using Nat.le_induction with
  | base => exact le_rfl
  | succ b _ ih => rw [S_succ]; omega

variable (g : ℕ → ℕ)

/-- How many tiles group `e` touches. -/
def tv (e : ℕ) : ℕ := if 0 < g e then (S g (e + 1) + 255) / 256 - S g e / 256 else 0
/-- The number of visits. -/
def total : ℕ := S (tv g) 32
/-- The visit's number; the visits past the last repeat it. -/
def vid (v : ℕ) : ℕ := min v (total g - 1)
/-- The visit's group: how many groups' visits end before it. -/
def ex (v : ℕ) : ℕ := ((List.range 32).filter fun e => decide (S (tv g) (e + 1) ≤ vid g v)).length
/-- The visit's tile. -/
def tile (v : ℕ) : ℕ := S g (ex g v) / 256 + vid g v - S (tv g) (ex g v)
/-- The rows of the tile that are the visit's own. -/
def lo (v : ℕ) : ℕ := S g (ex g v) - tile g v * 256
def hi (v : ℕ) : ℕ := if v < total g then min (S g (ex g v + 1) - tile g v * 256) 256 else lo g v
/-- Whether the visit's group is not the one before's. -/
def newe (v : ℕ) : ℕ := if v = 0 then 1 else if ex g v = ex g (v - 1) then 0 else 1

theorem tv_add (e : ℕ) : S g e / 256 + tv g e ≤ S g (e + 1) / 256 + 1 := by
  unfold tv; rw [S_succ]; split <;> omega

theorem visits_le (n : ℕ) : S (tv g) n ≤ S g n / 256 + n ∧ (1 ≤ n → S g n % 256 = 0 → S (tv g) n + 1 ≤ S g n / 256 + n) := by
  induction n with
  | zero => simp [S_zero]
  | succ n ih =>
    obtain ⟨h1, h2⟩ := ih
    have h3 := tv_add g n
    have hs : S g (n + 1) = S g n + g n := S_succ g n
    rw [S_succ (tv g)]
    refine ⟨by omega, fun _ hm => ?_⟩
    have h4 : S g n / 256 + tv g n ≤ S g (n + 1) / 256 := by unfold tv; split <;> omega
    omega

theorem visits_ge (n : ℕ) : (S g n + 255) / 256 ≤ S (tv g) n := by
  induction n with
  | zero => simp [S_zero]
  | succ n ih =>
    rw [S_succ (tv g)]
    have hs : S g (n + 1) = S g n + g n := S_succ g n
    have h1 : (S g (n + 1) + 255) / 256 ≤ (S g n + 255) / 256 + tv g n := by unfold tv; split <;> omega
    omega

variable (hs : S g 32 = 8192)
include hs

theorem total_le : total g ≤ 63 := by
  have := (visits_le g 32).2 (by omega) (by omega); unfold total; omega
theorem total_ge : 32 ≤ total g := by
  have := visits_ge g 32; unfold total; omega

theorem vid_lt (v : ℕ) : vid g v < total g := by have := total_ge g hs; unfold vid; omega

omit hs in
/-- A count of an initial segment is its length. -/
theorem count_eq (p : ℕ → Bool) (n k : ℕ) (hk : k ≤ n) (hp : ∀ e < n, p e = decide (e < k)) :
    ((List.range n).filter p).length = k := by
  rw [List.filter_congr (q := fun e => decide (e < k)) (by intro e he; exact hp e (List.mem_range.mp he))]
  induction n generalizing k with
  | zero => simp; omega
  | succ n ih =>
    rw [List.range_succ, List.filter_append, List.length_append]
    by_cases h : k ≤ n
    · rw [ih k h (fun e he => hp e (by omega))]; simp; omega
    · obtain rfl : k = n + 1 := by omega
      have : (List.range n).filter (fun e => decide (e < n + 1)) = List.range n := by
        rw [List.filter_eq_self]; intro e he; simp at he ⊢; omega
      rw [this]; simp

/-- The visit's group is the one whose visits contain it. -/
theorem ex_spec (v : ℕ) : ex g v < 32 ∧ S (tv g) (ex g v) ≤ vid g v ∧ vid g v < S (tv g) (ex g v + 1) := by
  have hex : ∃ e, vid g v < S (tv g) (e + 1) := ⟨31, vid_lt g hs v⟩
  classical
  have h1 := Nat.find_spec hex
  have h2 : ∀ e, e < Nat.find hex → S (tv g) (e + 1) ≤ vid g v := fun e he => not_lt.mp (Nat.find_min hex he)
  have h3 : Nat.find hex < 32 := by have := Nat.find_le (h := hex) (n := 31) (vid_lt g hs v); omega
  have h4 : ex g v = Nat.find hex := by
    refine count_eq _ 32 _ (by omega) fun e he => ?_
    by_cases hh : e < Nat.find hex
    · simp [hh, h2 e hh]
    · have : S (tv g) (Nat.find hex + 1) ≤ S (tv g) (e + 1) := S_mono _ (by omega)
      simp only [hh, decide_false, decide_eq_false_iff_not]; omega
  rw [h4]
  refine ⟨h3, ?_, h1⟩
  rcases Nat.eq_zero_or_pos (Nat.find hex) with h0 | h0
  · rw [h0, S_zero]; omega
  · have := h2 (Nat.find hex - 1) (by omega)
    rwa [Nat.sub_add_cancel h0] at this

theorem ex_lt (v : ℕ) : ex g v < 32 := (ex_spec g hs v).1

theorem end_le (v : ℕ) : S g (ex g v + 1) ≤ 8192 := by rw [← hs]; exact S_mono _ (ex_lt g hs v)

/-- The visit's group is not empty, the tile touches it, and is a tile of the 32. -/
theorem tile_spec (v : ℕ) : 0 < g (ex g v) ∧ S g (ex g v) / 256 ≤ tile g v ∧ tile g v * 256 < S g (ex g v + 1) := by
  obtain ⟨h1, h2, h3⟩ := ex_spec g hs v
  have h5 : S (tv g) (ex g v + 1) = S (tv g) (ex g v) + tv g (ex g v) := S_succ _ _
  have h4 : 0 < g (ex g v) := by
    by_contra h
    have : tv g (ex g v) = 0 := by simp [tv, h]
    omega
  have h6 : tv g (ex g v) = (S g (ex g v + 1) + 255) / 256 - S g (ex g v) / 256 := by simp [tv, h4]
  refine ⟨h4, by unfold tile; omega, by unfold tile; omega⟩

theorem tile_lt (v : ℕ) : tile g v < 32 := by
  have := (tile_spec g hs v).2.2; have := end_le g hs v; omega

/-- The group's rows in the tile, counted from the tile's first row. -/
theorem lo_lt (v : ℕ) : lo g v < 256 := by
  have := (tile_spec g hs v).2.1; unfold lo; omega
theorem hi_le (v : ℕ) : hi g v ≤ 256 := by
  have := lo_lt g hs v; unfold hi; split <;> omega
theorem live_iff (v : ℕ) : lo g v < hi g v ↔ v < total g := by
  obtain ⟨h1, h2, h3⟩ := tile_spec g hs v
  have h4 := lo_lt g hs v
  have h5 : S g (ex g v + 1) = S g (ex g v) + g (ex g v) := S_succ _ _
  unfold hi; split
  · simp only [*, iff_true]; unfold lo at *; omega
  · simp [*]

/-- A visit's own row is a row of its group. -/
theorem row_mem (v ρ : ℕ) (h1 : lo g v ≤ ρ) (h2 : ρ < hi g v) :
    S g (ex g v) ≤ tile g v * 256 + ρ ∧ tile g v * 256 + ρ < S g (ex g v + 1) := by
  obtain ⟨h3, h4, h5⟩ := tile_spec g hs v
  have h6 : v < total g := (live_iff g hs v).mp (by omega)
  simp only [hi, h6, if_true] at h2
  unfold lo at h1; omega

omit hs in
theorem vid_live (v : ℕ) (h : v < total g) : vid g v = v := by unfold vid; omega

omit hs in
/-- Groups are disjoint. -/
theorem group_unique {r e e' : ℕ} (h1 : S g e ≤ r) (h2 : r < S g (e + 1)) (h3 : S g e' ≤ r) (h4 : r < S g (e' + 1)) : e = e' := by
  by_contra h
  rcases Nat.lt_or_gt_of_ne h with h | h
  · have := S_mono g (show e + 1 ≤ e' from h); omega
  · have := S_mono g (show e' + 1 ≤ e from h); omega

/-- Every row has a visit. -/
theorem row_visit (r : ℕ) (hr : r < 8192) : ∃ v < total g, tile g v = r / 256 ∧ lo g v ≤ r % 256 ∧ r % 256 < hi g v := by
  have hex : ∃ e, r < S g (e + 1) := ⟨31, by rw [hs]; exact hr⟩
  classical
  have h1 := Nat.find_spec hex
  have h2 : ∀ e, e < Nat.find hex → S g (e + 1) ≤ r := fun e he => not_lt.mp (Nat.find_min hex he)
  have h3 : Nat.find hex < 32 := by have := Nat.find_le (h := hex) (n := 31) (by rw [hs]; exact hr); omega
  generalize Nat.find hex = e at h1 h2 h3
  have h4 : S g e ≤ r := by
    rcases Nat.eq_zero_or_pos e with h0 | h0
    · rw [h0, S_zero]; omega
    · have := h2 (e - 1) (by omega)
      rwa [Nat.sub_add_cancel h0] at this
  have h5 : S g (e + 1) = S g e + g e := S_succ _ _
  have h6 : tv g e = (S g (e + 1) + 255) / 256 - S g e / 256 := by simp [tv, show 0 < g e by omega]
  have h7 : S (tv g) (e + 1) = S (tv g) e + tv g e := S_succ _ _
  have h8 : S (tv g) (e + 1) ≤ total g := S_mono _ h3
  set v := S (tv g) e + (r / 256 - S g e / 256) with hv
  have hvt : v < total g := by omega
  have hvid := vid_live g v hvt
  obtain ⟨h9, h10, h11⟩ := ex_spec g hs v
  rw [hvid] at h10 h11
  have hexv : ex g v = e := group_unique (tv g) (r := v) h10 h11 (by omega) (by omega)
  have htile : tile g v = r / 256 := by unfold tile; rw [hexv, hvid]; omega
  refine ⟨v, hvt, htile, ?_, ?_⟩
  · unfold lo; rw [hexv, htile]; omega
  · unfold hi; rw [if_pos hvt, hexv, htile]; omega

/-- The tiles come in order. -/
theorem tile_mono {v v' : ℕ} (h : v ≤ v') : tile g v ≤ tile g v' := by
  have hv : vid g v ≤ vid g v' := by unfold vid; omega
  obtain ⟨h1, h2, h3⟩ := ex_spec g hs v
  obtain ⟨h1', h2', h3'⟩ := ex_spec g hs v'
  rcases Nat.lt_trichotomy (ex g v) (ex g v') with h4 | h4 | h4
  · have h5 := S_mono g (show ex g v + 1 ≤ ex g v' from h4)
    have h6 := (tile_spec g hs v).2.2
    have h7 := (tile_spec g hs v').2.1
    omega
  · unfold tile; rw [h4] at *; omega
  · have := S_mono (tv g) (show ex g v' + 1 ≤ ex g v from h4); omega

end Cert.Sched
-- ==== Proof.SchedWords.lean ====
/- The schedule of the visits as the host computes it, in 32-bit words: each of the vectors that the host's integer
   operations leave, and the natural number (Sched) that its every entry holds. Nothing here names a program: the shape
   facts that the operations take come in one record. -/
module

public import proofs.«01_k».proof.Proof.Sched
public import Idealize.ShloMosaic.Lib.Routing.OpsSearch
public import Idealize.ShloMosaic.Lib.Routing.OpsOne
public import Idealize.ShloMosaic.Lib.Routing.Model
public import Idealize.ShloMosaic.Lib.Routing.Words
public import Idealize.ShloMosaic.Lib.WordCmp

@[expose] public section

set_option maxRecDepth 16384

noncomputable section

namespace Cert.SchedWords

open Idealize.ShloMosaic Idealize.ShloMosaic.ValueIdx Idealize.ShloMosaic.Routing Idealize.ShloMosaic.WordCmp
open Cert.Sched

/-- The shape facts that the host's integer operations take. -/
structure HostFacts : Prop where
  bs : shape0.BroadcastsInDim shape0 (![] : Fin 0 → Fin shape0.rank)
  b32 : shape0.BroadcastsInDim (shape1 32) (![] : Fin 0 → Fin (shape1 32).rank)
  b63 : shape0.BroadcastsInDim (shape1 63) (![] : Fin 0 → Fin (shape1 63).rank)
  b1 : shape0.BroadcastsInDim (shape1 1) (![] : Fin 0 → Fin (shape1 1).rank)
  rw : (shape1 32).ReduceWindows (![32] : Fin 1 → Nat) ![1] ![31] ![0] (shape1 32)
  hu : 0 < shape0.numel
  last : (shape1 32).Slices ![31] (shape1 1)
  sc : (shape1 1).ShapeCasts shape0
  row63 : (shape1 63).BroadcastsInDim (shape2 1 63) (![1] : Fin 1 → Fin (shape2 1 63).rank)
  rows63 : (shape2 1 63).BroadcastsInDim (shape2 32 63) (![0, 1] : Fin 2 → Fin (shape2 32 63).rank)
  col32 : (shape1 32).BroadcastsInDim (shape2 32 1) (![0] : Fin 1 → Fin (shape2 32 1).rank)
  cols32 : (shape2 32 1).BroadcastsInDim (shape2 32 63) (![0, 1] : Fin 2 → Fin (shape2 32 63).rank)
  lt : 1 < 32
  red : (shape2 32 63).ReducesTo [0] (shape1 63)
  col63 : (shape1 63).BroadcastsInDim (shape2 63 1) (![0] : Fin 1 → Fin (shape2 63 1).rank)
  tail : (shape1 63).Slices ![1] (shape1 62)
  head : (shape1 63).Slices ![0] (shape1 62)
  cat : Shape.Concatenates [shape1 1, shape1 62] (shape1 63) 0

variable (hf : HostFacts) (d : GatherDims (shape1 32) (shape2 63 1) (shape1 63)) (gs : IVec (shape1 32) 32)

/-- A constant spread over a vector. -/
abbrev k32 (hf : HostFacts) (c : BitVec 32) : IVec (shape1 32) 32 := broadcastInDim (shape1 32) ![] hf.b32 (constantI shape0 32 c)
abbrev k63 (hf : HostFacts) (c : BitVec 32) : IVec (shape1 63) 32 := broadcastInDim (shape1 63) ![] hf.b63 (constantI shape0 32 c)

theorem k32_at (c : BitVec 32) (e : Fin 32) : k32 hf c (ix1 e) = c := bc0 _ _ _
theorem k63_at (c : BitVec 32) (v : Fin 63) : k63 hf c (ix1 v) = c := bc0 _ _ _

/-- Running sums of a vector. -/
def runSum (x : IVec (shape1 32) 32) : IVec (shape1 32) 32 :=
  Host.reduceWindow IntOp.addi ![32] ![1] ![31] ![0] x (broadcastInDim shape0 ![] hf.bs (constantI shape0 32 0#32)) hf.rw hf.hu
/-- Where each group ends, and where it starts. -/
def endW : IVec (shape1 32) 32 := runSum hf gs
def startW : IVec (shape1 32) 32 := subi (endW hf gs) gs
/-- The quotient by 256, rounded down. -/
def div256 (x : IVec (shape1 32) 32) : IVec (shape1 32) 32 := pyDiv hf.b32 x (constantI shape0 32 256#32)
/-- How many visits each group takes, and their running sums. -/
def tvW : IVec (shape1 32) 32 :=
  select (cmpi .sgt gs (k32 hf 0#32)) (subi (div256 hf (subi (addi (endW hf gs) (k32 hf 256#32)) (k32 hf 1#32))) (div256 hf (startW hf gs))) (k32 hf 0#32)
def vendW : IVec (shape1 32) 32 := runSum hf (tvW hf gs)
/-- The number of visits. -/
def totalW : IVec shape0 32 := shapeCast shape0 (extractStridedSlice (shape1 1) ![31] (vendW hf gs) hf.last) hf.sc
/-- The visit each grid point stands for: its own number, the last visit for the points after it. -/
def vidW : IVec (shape1 63) 32 :=
  minsi (iotaInDim (shape1 63) 32 0) (broadcastInDim (shape1 63) ![] hf.b63 (subi (totalW hf gs) (constantI shape0 32 1#32)))
/-- The group of each visit: how many groups' visits end at it or before. -/
def exW : IVec (shape1 63) 32 :=
  Host.reduce IntOp.addi (extui 32 (cmpi .sle (broadcastInDim (shape2 32 63) ![0, 1] hf.cols32 (broadcastInDim (shape2 32 1) ![0] hf.col32 (vendW hf gs)))
    (broadcastInDim (shape2 32 63) ![0, 1] hf.rows63 (broadcastInDim (shape2 1 63) ![1] hf.row63 (vidW hf gs)))) hf.lt)
    (constantI shape0 32 0#32) hf.red hf.hu
/-- A vector read at each visit's group. -/
def atEx (x : IVec (shape1 32) 32) : IVec (shape1 63) 32 :=
  Host.gather d x (broadcastInDim (shape2 63 1) ![0] hf.col63
    (select (cmpi .slt (exW hf gs) (k63 hf 0#32)) (addi (exW hf gs) (k63 hf 32#32)) (exW hf gs)))
/-- The row tile of each visit. -/
def tileW : IVec (shape1 63) 32 :=
  subi (addi (atEx hf d gs (div256 hf (startW hf gs))) (vidW hf gs)) (atEx hf d gs (subi (vendW hf gs) (tvW hf gs)))
/-- The first and last row of the tile that belong to each visit. -/
def loW : IVec (shape1 63) 32 :=
  maxsi (subi (atEx hf d gs (startW hf gs)) (muli (tileW hf d gs) (k63 hf 256#32))) (k63 hf 0#32)
def hiW : IVec (shape1 63) 32 :=
  select (cmpi .slt (iotaInDim (shape1 63) 32 0) (broadcastInDim (shape1 63) ![] hf.b63 (totalW hf gs)))
    (minsi (subi (atEx hf d gs (endW hf gs)) (muli (tileW hf d gs) (k63 hf 256#32))) (k63 hf 256#32)) (loW hf d gs)
/-- Whether a vector's entry differs from the one before it; the first does. -/
def newW (x : IVec (shape1 63) 32) : IVec (shape1 63) 32 :=
  concatenate (shape1 63) 0 [⟨shape1 1, broadcastInDim (shape1 1) ![] hf.b1 (constantI shape0 32 1#32)⟩,
    ⟨shape1 62, extui 32 (cmpi .ne (extractStridedSlice (shape1 62) ![1] x hf.tail) (extractStridedSlice (shape1 62) ![0] x hf.head)) hf.lt⟩] hf.cat

/-! ## What each entry holds -/

/-- Summing a widened two-dimensional mask down its columns counts, at column `p`, the rows whose bit is set there. -/
theorem reduce_count_rows {N n : Nat} (hN : N < 2 ^ 32) (msk : IVec (shape2 N n) 1) (hw : 1 < 32) (h : (shape2 N n).ReducesTo [0] (shape1 n))
    (hu : 0 < shape0.numel) (p : Fin n) (Q : Nat → Prop) [DecidablePred Q] (hQ : ∀ j : Fin N, msk (ix2 j p) = 1#1 ↔ Q j.val) :
    Host.reduce IntOp.addi (extui 32 msk hw) (constantI shape0 32 0#32) h hu (ix1 p) = BitVec.ofNat 32 (Nat.count Q N) := by
  classical
  have hval : ∀ i, (extui 32 msk hw i).toNat = if msk i = 1#1 then 1 else 0 := fun i => StableHlo.Predicate.toNat_setWidth_bit (msk i)
  have hdrop : ∀ i : (shape2 N n).Idx, h.drop i = ix1 p ↔ i 1 = p := by
    intro i
    have hv0 : (h.drop i 0 : Nat) = i 1 := Shape.ReducesTo.drop_apply_val h i 0
    constructor
    · intro e
      rw [e] at hv0
      exact Fin.ext hv0.symm
    · intro e1
      funext c
      match c with
      | ⟨0, _⟩ => exact Fin.ext (hv0.trans (congrArg Fin.val e1))
  have hback : ∀ i : (shape2 N n).Idx, i 1 = p → ix2 (i 0) p = i := fun i hi => by
    funext c
    match c with
    | ⟨0, _⟩ => rfl
    | ⟨1, _⟩ => exact hi.symm
  have hsum : ∑ i ∈ Finset.univ.filter (fun i : (shape2 N n).Idx => h.drop i = ix1 p), (extui 32 msk hw i).toNat
      = (Finset.univ.filter (fun j : Fin N => msk (ix2 j p) = 1#1)).card := by
    rw [Finset.card_filter]
    refine Finset.sum_bij' (fun i _ => i 0) (fun j _ => ix2 j p) (fun _ _ => Finset.mem_univ _)
      (fun j _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  apply BitVec.eq_of_toNat_eq
  rw [Host.reduce_eq_fold]
  show (Finset.fold IntOp.addi 0#32 (extui 32 msk hw) (Finset.univ.filter fun i : (shape2 N n).Idx => h.drop i = ix1 p)).toNat = _
  rw [StableHlo.Predicate.toNat_fold_addi _ _ (by rw [hsum]; exact lt_of_le_of_lt (Finset.card_le_univ _) (by simpa using hN)), hsum, BitVec.toNat_ofNat,
    Nat.mod_eq_of_lt (Nat.lt_of_le_of_lt (Nat.count_le _) hN), ← card_filter_fin N Q]
  refine congrArg Finset.card (Finset.filter_congr fun j _ => hQ j)

/-- The groups' sizes are the words of naturals that add up to 8192 rows. -/
structure Sizes (g : ℕ → ℕ) : Prop where
  word : ∀ e : Fin 32, gs (ix1 e) = BitVec.ofNat 32 (g e.val)
  sum : S g 32 = 8192

variable {gs} {g : ℕ → ℕ} (hs : Sizes gs g)
include hs

omit gs g hs in
theorem runSum_at (x : IVec (shape1 32) 32) (f : ℕ → ℕ) (hx : ∀ e : Fin 32, x (ix1 e) = BitVec.ofNat 32 (f e.val)) (e : Fin 32) :
    runSum hf x (ix1 e) = BitVec.ofNat 32 (S f (e.val + 1)) := by
  unfold runSum
  refine cumsum1 (by decide) x f hx _ ?_ hf.rw hf.hu e
  rw [bc0]; rfl

omit gs hs in
theorem S_le (h : S g 32 = 8192) {e : ℕ} (he : e ≤ 32) : S g e ≤ 8192 := by rw [← h]; exact S_mono g he

theorem endW_at (e : Fin 32) : endW hf gs (ix1 e) = BitVec.ofNat 32 (S g (e.val + 1)) := runSum_at hf gs g hs.word e

theorem startW_at (e : Fin 32) : startW hf gs (ix1 e) = BitVec.ofNat 32 (S g e.val) := by
  unfold startW
  rw [subi_ap, endW_at hf hs, hs.word, ofNat32_sub (by rw [S_succ]; omega), S_succ, Nat.add_sub_cancel]

omit gs g hs in
theorem div256_at (x : IVec (shape1 32) 32) (e : Fin 32) {a : ℕ} (hx : x (ix1 e) = BitVec.ofNat 32 a) (ha : a < 2 ^ 31) :
    div256 hf x (ix1 e) = BitVec.ofNat 32 (a / 256) :=
  pyDiv_ap hf.b32 x _ (ix1 e) hx rfl ha (by decide) (by decide)

theorem tvW_at (e : Fin 32) : tvW hf gs (ix1 e) = BitVec.ofNat 32 (tv g e.val) := by
  have he := e.isLt
  have h1 := S_le hs.sum (show e.val + 1 ≤ 32 by omega)
  have h0 := S_succ g e.val
  have hq : div256 hf (subi (addi (endW hf gs) (k32 hf 256#32)) (k32 hf 1#32)) (ix1 e) = BitVec.ofNat 32 ((S g (e.val + 1) + 255) / 256) := by
    refine div256_at hf _ e ?_ (by omega)
    rw [subi_ap, addi_ap, endW_at hf hs, k32_at, k32_at]
    show BitVec.ofNat 32 _ + BitVec.ofNat 32 256 - BitVec.ofNat 32 1 = _
    rw [← BitVec.ofNat_add, ofNat32_sub (by omega)]
    rfl
  have hq' := div256_at hf (startW hf gs) e (startW_at hf hs e) (by omega)
  unfold tvW
  rw [select_at, cmpi_at, subi_ap, hq, hq', k32_at, hs.word]
  show Scalar.select (IntOp.cmpi .sgt (BitVec.ofNat 32 _) (BitVec.ofNat 32 0)) _ (BitVec.ofNat 32 0) = _
  rw [cmpi_sgt_ofNat (w := 32) (by omega) (by decide), select_decide, ofNat32_sub (by omega)]
  unfold tv
  split <;> rfl

theorem vendW_at (e : Fin 32) : vendW hf gs (ix1 e) = BitVec.ofNat 32 (S (tv g) (e.val + 1)) :=
  runSum_at hf (tvW hf gs) (tv g) (tvW_at hf hs) e

theorem totalW_at : totalW hf gs ix0 = BitVec.ofNat 32 (total g) := by
  unfold totalW
  rw [shapeCast_apply _ hf.sc ix0 (ix1 (0 : Fin 1)) (by rw [Shape.rowMajor_val_one]; decide), slice1 31 _ hf.last (0 : Fin 1) (by decide)]
  exact vendW_at hf hs ⟨31, by decide⟩

theorem vidW_at (v : Fin 63) : vidW hf gs (ix1 v) = BitVec.ofNat 32 (vid g v.val) := by
  have h1 := total_le g hs.sum
  have h2 := total_ge g hs.sum
  have hv := v.isLt
  unfold vidW
  show IntOp.minsi (BitVec.ofNat 32 v.val) (broadcastInDim (shape1 63) ![] hf.b63 (subi (totalW hf gs) (constantI shape0 32 1#32)) (ix1 v)) = _
  rw [bc0, subi_ap, totalW_at hf hs]
  show IntOp.minsi _ (BitVec.ofNat 32 _ - BitVec.ofNat 32 1) = _
  rw [ofNat32_sub (by omega)]
  unfold IntOp.minsi vid
  rw [slt_ofNat32 (by omega) (by omega)]
  by_cases h : v.val < total g - 1
  · simp [h, Nat.min_eq_left h.le]
  · simp [h, Nat.min_eq_right (Nat.not_lt.1 h)]

theorem exW_at (v : Fin 63) : exW hf gs (ix1 v) = BitVec.ofNat 32 (ex g v.val) := by
  have hv := v.isLt
  unfold exW
  rw [reduce_count_rows (by decide) _ hf.lt hf.red hf.hu v (fun e => S (tv g) (e + 1) ≤ vid g v.val)]
  · unfold ex
    rw [Nat.count_eq_card_filter_range]
    rfl
  · intro j
    have hj := j.isLt
    have h1 := total_le g hs.sum
    have hS : S (tv g) (j.val + 1) ≤ total g := S_mono (tv g) (show j.val + 1 ≤ 32 by omega)
    have hvd := vid_lt g hs.sum v.val
    rw [cmpi_at, bcRows, bcCols, vendW_at hf hs, vidW_at hf hs, cmpi_sle_ofNat (w := 32) (by omega) (by omega)]
    by_cases h : S (tv g) (j.val + 1) ≤ vid g v.val <;> simp [h]

theorem atEx_at (hcoll : d.collapsedSliceDims = [0]) (hob : d.operandBatchingDims = [])
    (hsim : d.startIndexMap = [0]) (hivd : d.indexVectorDim = 1) (x : IVec (shape1 32) 32) (v : Fin 63) :
    atEx hf d gs x (ix1 v) = x (ix1 ⟨ex g v.val, ex_lt g hs.sum v.val⟩) := by
  have h1 := ex_lt g hs.sum v.val
  unfold atEx
  refine take_ap d hcoll hob hsim hivd x _ v h1 (by omega) ?_
  rw [bcCol, select_at, cmpi_at, addi_ap, exW_at hf hs, k63_at]
  show Scalar.select (IntOp.cmpi .slt (BitVec.ofNat 32 _) (BitVec.ofNat 32 0)) _ _ = _
  rw [cmpi_slt_ofNat (w := 32) (by omega) (by decide), select_decide, if_neg (by omega)]

variable (hcoll : d.collapsedSliceDims = [0]) (hob : d.operandBatchingDims = [])
    (hsim : d.startIndexMap = [0]) (hivd : d.indexVectorDim = 1)
include hcoll hob hsim hivd

theorem tileW_at (v : Fin 63) : tileW hf d gs (ix1 v) = BitVec.ofNat 32 (tile g v.val) := by
  have h1 := ex_lt g hs.sum v.val
  have hS := S_le hs.sum (show ex g v.val ≤ 32 by omega)
  obtain ⟨-, h2, -⟩ := ex_spec g hs.sum v.val
  unfold tileW
  rw [subi_ap, addi_ap, atEx_at hf d hs hcoll hob hsim hivd, atEx_at hf d hs hcoll hob hsim hivd, vidW_at hf hs, subi_ap, vendW_at hf hs,
    tvW_at hf hs, div256_at hf _ _ (startW_at hf hs _) (by show S g (ex g v.val) < _; omega)]
  show BitVec.ofNat 32 (S g (ex g v.val) / 256) + BitVec.ofNat 32 _ - (BitVec.ofNat 32 (S (tv g) (ex g v.val + 1)) - BitVec.ofNat 32 (tv g (ex g v.val))) = _
  rw [ofNat32_sub (by rw [S_succ]; omega), ← BitVec.ofNat_add, S_succ, Nat.add_sub_cancel, ofNat32_sub (by omega)]
  rfl

theorem loW_at (v : Fin 63) : loW hf d gs (ix1 v) = BitVec.ofNat 32 (lo g v.val) := by
  have h1 := ex_lt g hs.sum v.val
  have h2 := tile_lt g hs.sum v.val
  have hS := S_le hs.sum (show ex g v.val ≤ 32 by omega)
  unfold loW
  show IntOp.maxsi (subi _ _ (ix1 v)) (k63 hf 0#32 (ix1 v)) = _
  rw [subi_ap, muli_ap, atEx_at hf d hs hcoll hob hsim hivd, startW_at hf hs, tileW_at hf d hs hcoll hob hsim hivd, k63_at, k63_at]
  show IntOp.maxsi (BitVec.ofNat 32 (S g (ex g v.val)) - BitVec.ofNat 32 (tile g v.val) * BitVec.ofNat 32 256) 0#32 = _
  rw [← BitVec.ofNat_mul]
  unfold lo
  by_cases h : tile g v.val * 256 ≤ S g (ex g v.val)
  · rw [ofNat32_sub h]
    unfold IntOp.maxsi
    rw [show (0#32 : BitVec 32) = BitVec.ofNat 32 0 from rfl, slt_ofNat32 (by omega) (by omega)]
    by_cases h' : 0 < S g (ex g v.val) - tile g v.val * 256
    · rw [decide_eq_true h', if_pos rfl]
    · rw [decide_eq_false h', if_neg (by decide), show S g (ex g v.val) - tile g v.val * 256 = 0 by omega]
  · obtain ⟨k, hk⟩ : ∃ k, tile g v.val * 256 = S g (ex g v.val) + (k + 1) := ⟨tile g v.val * 256 - S g (ex g v.val) - 1, by omega⟩
    rw [hk, show S g (ex g v.val) - (S g (ex g v.val) + (k + 1)) = 0 by omega]
    have e : BitVec.ofNat 32 (S g (ex g v.val)) - BitVec.ofNat 32 (S g (ex g v.val) + (k + 1)) = -BitVec.ofNat 32 (k + 1) := by
      rw [BitVec.ofNat_add]
      generalize BitVec.ofNat 32 (S g (ex g v.val)) = a
      generalize BitVec.ofNat 32 (k + 1) = b
      bv_omega
    rw [e]
    have hslt : (0#32 : BitVec 32).slt (-BitVec.ofNat 32 (k + 1)) = false := by
      rw [BitVec.slt_eq_decide, decide_eq_false_iff_not, BitVec.toInt_eq_toNat_cond, BitVec.toInt_eq_toNat_cond, BitVec.toNat_neg, BitVec.toNat_ofNat, BitVec.toNat_ofNat]
      omega
    unfold IntOp.maxsi
    rw [hslt]
    rfl

theorem hiW_at (v : Fin 63) : hiW hf d gs (ix1 v) = BitVec.ofNat 32 (hi g v.val) := by
  have h1 := ex_lt g hs.sum v.val
  obtain ⟨-, h2, h3⟩ := tile_spec g hs.sum v.val
  have h4 := total_le g hs.sum
  have hv := v.isLt
  have hS := S_le hs.sum (show ex g v.val + 1 ≤ 32 by omega)
  unfold hiW
  rw [select_at, cmpi_at, bc0, totalW_at hf hs, loW_at hf d hs hcoll hob hsim hivd]
  show Scalar.select (IntOp.cmpi .slt (BitVec.ofNat 32 v.val) (BitVec.ofNat 32 (total g))) (IntOp.minsi (subi _ _ (ix1 v)) (k63 hf 256#32 (ix1 v))) _ = _
  rw [subi_ap, muli_ap, k63_at, atEx_at hf d hs hcoll hob hsim hivd, endW_at hf hs, tileW_at hf d hs hcoll hob hsim hivd]
  show Scalar.select _ (IntOp.minsi (BitVec.ofNat 32 (S g (ex g v.val + 1)) - BitVec.ofNat 32 (tile g v.val) * BitVec.ofNat 32 256) (BitVec.ofNat 32 256)) _ = _
  rw [← BitVec.ofNat_mul, ofNat32_sub (by omega), cmpi_slt_ofNat (w := 32) (by omega) (by omega), select_decide]
  unfold hi
  split
  · unfold IntOp.minsi
    rw [slt_ofNat32 (by omega) (by omega)]
    by_cases h : S g (ex g v.val + 1) - tile g v.val * 256 < 256
    · simp [h, Nat.min_eq_left h.le]
    · simp [h, Nat.min_eq_right (Nat.not_lt.1 h)]
  · rfl

omit hcoll hob hsim hivd in
/-- The first entry of the "new group" vector is 1; a later one is 0 exactly when the group is the one before's. -/
theorem newexW_at (v : Fin 63) : newW hf (exW hf gs) (ix1 v) = BitVec.ofNat 32 (newe g v.val) := by
  have hv := v.isLt
  unfold newW newe
  by_cases h0 : v.val = 0
  · rw [if_pos h0]
    refine (concatenate_pair_apply_left 0 _ _ hf.cat (ix1 v) rfl (ix1 (0 : Fin 1)) fun b => ?_).trans (bc0 _ _ _)
    match b with
    | ⟨0, _⟩ => exact h0.symm
  · rw [if_neg h0]
    have h1 := ex_lt g hs.sum v.val
    have h2 := ex_lt g hs.sum (v.val - 1)
    refine (concatenate_pair_apply_right 0 _ _ hf.cat (ix1 v) rfl rfl (ix1 (⟨v.val - 1, by omega⟩ : Fin 62)) (fun b hb => ?_) ?_).trans ?_
    · match b with
      | ⟨0, _⟩ => exact absurd rfl hb
    · show v.val - 1 + 1 = v.val
      omega
    · show (IntOp.cmpi .ne (extractStridedSlice (shape1 62) ![1] (exW hf gs) hf.tail (ix1 _)) (extractStridedSlice (shape1 62) ![0] (exW hf gs) hf.head (ix1 _))).setWidth 32 = _
      rw [slice1 1 _ hf.tail _ (show 1 + (v.val - 1) < 63 by omega), slice1 0 _ hf.head _ (show 0 + (v.val - 1) < 63 by omega), exW_at hf hs, exW_at hf hs,
        cmpi_ne_ofNat (w := 32) (by show ex g (1 + (v.val - 1)) < _; rw [show 1 + (v.val - 1) = v.val by omega]; omega)
          (by show ex g (0 + (v.val - 1)) < _; rw [Nat.zero_add]; omega)]
      show BitVec.setWidth 32 (BitVec.ofBool (decide (ex g (1 + (v.val - 1)) ≠ ex g (0 + (v.val - 1))))) = _
      rw [show 1 + (v.val - 1) = v.val by omega, Nat.zero_add]
      by_cases h : ex g v.val = ex g (v.val - 1) <;> simp [h]

end Cert.SchedWords
-- ==== Proof.KernelTables.lean ====
/- What the host leaves in the six tables of Kernel: the schedule of Sched, in words; so every grid point's blocks lie in
   their arrays. -/
module

public import proofs.«01_k».proof.Proof.KernelHost
public import proofs.«01_k».proof.Proof.SchedWords
public import Idealize.ShloMosaic.Lib.StableHlo.RunRead
public import Idealize.ShloMosaic.Lib.Affine

@[expose] public section

set_option maxRecDepth 16384

noncomputable section

namespace Cert.Kernel.Hand

open Idealize.ShloMosaic Idealize.ShloMosaic.TcCoe Idealize.ShloMosaic.ValueIdx Idealize.ShloMosaic.Routing
open Cert.Kernel.Gen
open Cert.SchedWords Cert.Sched

variable {F : FTy → Type} [FloatOps F] (m : (ℓ : Loc nD τ sig) → Buf (Elt F) ℓ)

theorem hf : HostFacts where
  bs := bcast_S_S_
  b32 := bcast_S_S32
  b63 := bcast_S_S63
  b1 := bcast_S_S1
  rw := reduceWindows_S32_S32_w32s1p31_0
  hu := h_S_
  last := slices_S32_S1_31
  sc := shapeCasts_S1_S_
  row63 := bcast_S63_S1x63_1
  rows63 := bcast_S1x63_S32x63_0_1
  col32 := bcast_S32_S32x1_0
  cols32 := bcast_S32x1_S32x63_0_1
  lt := natLt_1_32
  red := reducesTo_S32x63_S63_d0
  col63 := bcast_S63_S63x1_0
  tail := slices_S63_S62_1
  head := slices_S63_S62_0
  cat := concatenates_S1_S62_S63_d0

/-- The group sizes. -/
abbrev gsz : IVec (shape1 32) 32 := m (((0 : Dev nD) : Thread nD τ).loc main_arg6)

set_option maxHeartbeats 1600000 in
theorem V_ex (c : Dev nD) : V m c main_v19 = exW hf (gsz m) := by
  obtain rfl : c = 0 := Subsingleton.elim _ _
  unfold V
  after_reads_simp
  simp -implicitDefEqProofs only [StableHlo.TRef.toBuf, StableHlo.TRef.ofBuf, cast_cast, cast_eq, id_eq]
  unfold exW vidW totalW vendW tvW div256 startW endW runSum pyDiv
  rfl
set_option maxHeartbeats 1600000 in
theorem V_tile (c : Dev nD) : V m c main_v37 = tileW hf gather_S32_S63x1_S63_n_0_n_n_0_1_1 (gsz m) := by
  obtain rfl : c = 0 := Subsingleton.elim _ _
  unfold V
  after_reads_simp
  simp -implicitDefEqProofs only [StableHlo.TRef.toBuf, StableHlo.TRef.ofBuf, cast_cast, cast_eq, id_eq]
  unfold tileW atEx exW vidW totalW vendW tvW div256 startW endW runSum pyDiv
  rfl
set_option maxHeartbeats 1600000 in
theorem V_lo (c : Dev nD) : V m c main_v52 = loW hf gather_S32_S63x1_S63_n_0_n_n_0_1_1 (gsz m) := by
  obtain rfl : c = 0 := Subsingleton.elim _ _
  unfold V
  after_reads_simp
  simp -implicitDefEqProofs only [StableHlo.TRef.toBuf, StableHlo.TRef.ofBuf, cast_cast, cast_eq, id_eq]
  unfold loW tileW atEx exW vidW totalW vendW tvW div256 startW endW runSum pyDiv
  rfl
set_option maxHeartbeats 1600000 in
theorem V_hi (c : Dev nD) : V m c main_v65 = hiW hf gather_S32_S63x1_S63_n_0_n_n_0_1_1 (gsz m) := by
  obtain rfl : c = 0 := Subsingleton.elim _ _
  unfold V
  after_reads_simp
  simp -implicitDefEqProofs only [StableHlo.TRef.toBuf, StableHlo.TRef.ofBuf, cast_cast, cast_eq, id_eq]
  unfold hiW loW tileW atEx exW vidW totalW vendW tvW div256 startW endW runSum pyDiv
  rfl
set_option maxHeartbeats 1600000 in
theorem V_newe (c : Dev nD) : V m c main_v71 = newW hf (exW hf (gsz m)) := by
  rw [← V_ex m c]
  obtain rfl : c = 0 := Subsingleton.elim _ _
  unfold newW V
  after_reads_simp
  refine congrArg₂ (fun (a : IVec S1 32) (b : IVec S62 32) => concatenate S63 0 [⟨S1, a⟩, ⟨S62, b⟩] concatenates_S1_S62_S63_d0) ?_ ?_
  · after_reads_simp
  · after_reads_simp

/-! ## The tables' entries as numbers -/

variable {m} {g : ℕ → ℕ} (hs : Sizes (gsz m) g)
include hs

theorem tbl_ex (v : Fin 63) : tbl m 0 (ix1 v) = BitVec.ofNat 32 (ex g v.val) := (congrFun (V_ex m 0) _).trans (exW_at hf hs v)
theorem tbl_tile (v : Fin 63) : tbl m 1 (ix1 v) = BitVec.ofNat 32 (tile g v.val) :=
  (congrFun (V_tile m 0) _).trans (tileW_at hf _ hs rfl rfl rfl rfl v)
theorem tbl_lo (v : Fin 63) : tbl m 2 (ix1 v) = BitVec.ofNat 32 (lo g v.val) :=
  (congrFun (V_lo m 0) _).trans (loW_at hf _ hs rfl rfl rfl rfl v)
theorem tbl_hi (v : Fin 63) : tbl m 3 (ix1 v) = BitVec.ofNat 32 (hi g v.val) :=
  (congrFun (V_hi m 0) _).trans (hiW_at hf _ hs rfl rfl rfl rfl v)
theorem tbl_newe (v : Fin 63) : tbl m 4 (ix1 v) = BitVec.ofNat 32 (newe g v.val) :=
  (congrFun (V_newe m 0) _).trans (newexW_at hf hs v)

omit hs in
/-- The entry that a load at offset `v` reads. -/
theorem unit_at (off : Fin 1 → ℕ) (inb : ∀ a, off a + S1.size a ≤ S63.size a) (v : Fin 63) (hv : off 0 = v.val)
    (j : (Rect.unit (s := S63) off S1.size inb).shape.Idx) : (Rect.unit (s := S63) off S1.size inb).emb j = ix1 v := by
  refine funext fun a => Fin.ext ?_
  match a with
  | ⟨0, _⟩ =>
    have hj : (j 0).val < 1 := (j 0).isLt
    show off 0 + 1 * (j 0).val = v.val
    omega

omit hs in
theorem off1_val (i : grid0.Coords) : k0_off1 i 0 = (i 0).val := by
  have hi : (i 0).val < 63 := (i 0).isLt
  show (BitVec.ofNat 32 (i 0).val).toNat = (i 0).val
  rw [BitVec.toNat_ofNat, Nat.mod_eq_of_lt (by omega)]

/-- At every grid point the blocks lie in their arrays and are made of whole words. -/
theorem ok : Ok m := by
  have ht : ∀ i : grid0.Coords, cc0_transform_0 (F := F) k0_off1_inb numel1_S1 (tbl m) i = ![tile g (i 0).val, 0] := by
    intro i
    have h := tile_lt g hs.sum (i 0).val
    refine (congrArg (fun x : BitVec 32 => ![x.toNat, 0]) ((congrArg (tbl m 1) (unit_at (k0_off1 i) (k0_off1_inb i) (i 0) (off1_val i) _)).trans (tbl_tile hs (i 0)))).trans ?_
    show ![(BitVec.ofNat 32 (tile g (i 0).val)).toNat, 0] = _
    rw [BitVec.toNat_ofNat, Nat.mod_eq_of_lt (by omega)]
  have he : ∀ i : grid0.Coords, cc0_transform_2 (F := F) k0_off1_inb numel1_S1 (tbl m) i = ![ex g (i 0).val, 0, 0] := by
    intro i
    have h := ex_lt g hs.sum (i 0).val
    refine (congrArg (fun x : BitVec 32 => ![x.toNat, 0, 0]) ((congrArg (tbl m 0) (unit_at (k0_off1 i) (k0_off1_inb i) (i 0) (off1_val i) _)).trans (tbl_ex hs (i 0)))).trans ?_
    show ![(BitVec.ofNat 32 (ex g (i 0).val)).toNat, 0, 0] = _
    rw [BitVec.toNat_ofNat, Nat.mod_eq_of_lt (by omega)]
  have key2 : ∀ {w : ℕ} (i : grid0.Coords) (f : Fin 2 → ℕ), f = ![tile g (i 0).val, 0] →
      ∀ a, (f a + 1) * (⟨2, ![256, w]⟩ : Shape).size a ≤ (⟨2, ![8192, w]⟩ : Shape).size a := by
    intro w i f hf' a
    have h := tile_lt g hs.sum (i 0).val
    subst hf'
    match a with
    | ⟨0, _⟩ => show (tile g (i 0).val + 1) * 256 ≤ 8192; omega
    | ⟨1, _⟩ => show (0 + 1) * w ≤ w; omega
  have key3 : ∀ {u w : ℕ} (i : grid0.Coords) (f : Fin 3 → ℕ), f = ![ex g (i 0).val, 0, 0] →
      ∀ a, (f a + 1) * (⟨3, ![1, u, w]⟩ : Shape).size a ≤ (⟨3, ![32, u, w]⟩ : Shape).size a := by
    intro u w i f hf' a
    have h := ex_lt g hs.sum (i 0).val
    subst hf'
    match a with
    | ⟨0, _⟩ => show (ex g (i 0).val + 1) * 1 ≤ 32; omega
    | ⟨1, _⟩ => show (0 + 1) * u ≤ u; omega
    | ⟨2, _⟩ => show (0 + 1) * w ≤ w; omega
  exact ⟨fun i => ⟨key2 i _ (ht i), .inr (Affine.block_words_dvd (by decide) (by decide))⟩, fun i => ⟨key2 i _ (ht i), .inl rfl⟩,
    fun i => ⟨key3 i _ (he i), .inr (Affine.block_words_rows (by decide) rfl)⟩, fun i => ⟨key3 i _ (he i), .inl rfl⟩,
    fun i => ⟨key2 i _ (ht i), .inr (Affine.block_words_dvd (by decide) (by decide))⟩, fun i => ⟨key2 i _ (ht i), .inl rfl⟩,
    fun i => ⟨key2 i _ (ht i), .inr (Affine.block_words_dvd (by decide) (by decide))⟩, fun i => ⟨key2 i _ (ht i), .inr (Affine.block_words_dvd (by decide) (by decide))⟩,
    fun i => ⟨key2 i _ (ht i), .inl rfl⟩⟩

end Cert.Kernel.Hand

end
-- ==== Proof.KernelIdealHost.lean ====
/- The host's part of the program: what the buffers hold when the pallas_call is entered, the six tables among them, and
   the pipeline at those tables. -/
module

public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A table's buffer on core `c`: the type of its contents, -/
abbrev TbBuf (c : Dev nD) {S : Shape} {e : EltTy} (M : Memref sig .tc .smem S e) : Type := Buf (Elt F) (M.view.loc (c : Thread nD τ))
/-- and it held at half the full share, which reads and does not write. -/
abbrev tbPt (c : Dev nD) {S : Shape} {e : EltTy} (M : Memref sig .tc .smem S e) (f : TbBuf (F := F) c M) : sProp 𝕄 :=
  M.view.loc (c : Thread nD τ) ↦{fullShare.right} f

variable (m : (ℓ : Loc nD τ sig) → Buf (Elt F) ℓ)

/-- Core `c`'s buffers when the region is entered. -/
def V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

set_option maxHeartbeats 1600000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The tables when the region is entered (there is one device). -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl
/-- The pipeline's side condition of them, -/
abbrev Ok : Prop := ok0 (F := F) (tbl m)
/-- the tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables' halves the region hands the body, table by table. -/
theorem PhiT_eq (c : Dev nD) : (Pipeline.ΦT pre0 (tbl m) c : sProp 𝕄) = iprop(tbPt c (Memref.whole main_v19) (tbl m 0) ∗ tbPt c (Memref.whole main_v37) (tbl m 1) ∗ tbPt c (Memref.whole main_v52) (tbl m 2) ∗ tbPt c (Memref.whole main_v65) (tbl m 3) ∗ tbPt c (Memref.whole main_v71) (tbl m 4) ∗ tbPt c (Memref.whole main_v77) (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-- The body at a grid point, on the staging buffers the pipeline hands it there. -/
abbrev bodyAt (hO : Ok m) (t : Fin (cfgM m hO).N) : Prog (TpuEff nD τ sig (Elt F) Λ₀ .tc) PUnit :=
  cc0_moe_bwd (grid0.coords t) (Memref.whole main_v19) (Memref.isWhole_whole _) (Memref.whole main_v37) (Memref.isWhole_whole _) (Memref.whole main_v52) (Memref.isWhole_whole _) (Memref.whole main_v65) (Memref.isWhole_whole _) (Memref.whole main_v71) (Memref.isWhole_whole _) (Memref.whole main_v77) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (spec0_8.stage ((cfgM m hO).slots t 8)) (hstage0_8 (((cfgM m hO).slots t 8).cast nbuf0_8))
    (Memref.whole cc0_scratch0) (Memref.isWhole_whole _) (Memref.whole cc0_scratch1) (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.KernelIdeal.Hand

end
-- ==== Proof.KernelIdealBody.lean ====
/- The frame of the kernel's body: run at any grid point on any tables, it ends with every buffer it only reads as
   it found it. Nothing is said here of what it leaves in the others. -/
module

public import proofs.«01_k».proof.Proof.KernelIdealHost
public import proofs.«01_k».proof.Proof.Gen.KernelIdeal.Skeleton
public import proofs.«01_k».proof.Proof.Gen.KernelIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 0 in
theorem run_body (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2048 .fp8e4m3) (harg7 : arg7.IsWhole) (arg8 : Memref sig .tc .vmem S256x16 .f32) (harg8 : arg8.IsWhole) (arg9 : Memref sig .tc .vmem S1x2048x2816 .fp8e4m3) (harg9 : arg9.IsWhole) (arg10 : Memref sig .tc .smem S1x16x22 .f32) (harg10 : arg10.IsWhole) (arg11 : Memref sig .tc .vmem S256x1408 .fp8e5m2) (harg11 : arg11.IsWhole) (arg12 : Memref sig .tc .vmem S256x11 .f32) (harg12 : arg12.IsWhole) (arg13 : Memref sig .tc .vmem S256x2048 .bf16) (harg13 : arg13.IsWhole) (arg14 : Memref sig .tc .vmem S256x2816 .fp8e5m2) (harg14 : arg14.IsWhole) (arg15 : Memref sig .tc .vmem S256x22 .f32) (harg15 : arg15.IsWhole) (arg16 : Memref sig .tc .vmem S2048x2816 .bf16) (harg16 : arg16.IsWhole) (arg17 : Memref sig .tc .vmem S256x2816 .bf16) (harg17 : arg17.IsWhole)
    (t1 : TbBuf (F := F) c arg1) (t2 : TbBuf (F := F) c arg2) (t3 : TbBuf (F := F) c arg3) (t4 : TbBuf (F := F) c arg4) (t5 : TbBuf (F := F) c arg5) (t6 : TbBuf (F := F) c arg6)
    (x7 : Vec F S256x2048 .fp8e4m3) (x8 : Vec F S256x16 .f32) (x9 : Vec F S1x2048x2816 .fp8e4m3) (x10 : Vec F S1x16x22 .f32) (x11 : Vec F S256x1408 .fp8e5m2) (x12 : Vec F S256x11 .f32) (x13 : Vec F S256x2048 .bf16) (x14 : Vec F S256x2816 .fp8e5m2) (x15 : Vec F S256x22 .f32) (K : PUnit → sProp 𝕄) :
    iprop(tbPt c arg1 t1 ∗ tbPt c arg2 t2 ∗ tbPt c arg3 t3 ∗ tbPt c arg4 t4 ∗ tbPt c arg5 t5 ∗ tbPt c arg6 t6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d)
        ∗ (iprop(tbPt c arg1 t1 ∗ tbPt c arg2 t2 ∗ tbPt c arg3 t3 ∗ tbPt c arg4 t4 ∗ tbPt c arg5 t5 ∗ tbPt c arg6 t6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_moe_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_moe_bwd_eq_skeleton]; unfold cc0_moe_bwd_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨HT1, HT2, HT3, HT4, HT5, HT6, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf7 hf8 hf9 hf10 hf11 hf12 hf13 hf14 hf15
  sl_exec
  split
  · sl_exec
    split
    · sl_exec
      sl_step
      iapply Hk
      isplitl [HT1]; · iexact HT1
      isplitl [HT2]; · iexact HT2
      isplitl [HT3]; · iexact HT3
      isplitl [HT4]; · iexact HT4
      isplitl [HT5]; · iexact HT5
      isplitl [HT6]; · iexact HT6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists _; iexists _; isplitr
        swap; · iexact H13
        ipureintro; rfl
      isplitl [H14]
      · iexists _; iexists _; isplitr
        swap; · iexact H14
        ipureintro; rfl
      isplitl [H15]
      · iexists _; iexists _; isplitr
        swap; · iexact H15
        ipureintro; rfl
      isplitl [H16]
      · iexists _; iexists _; isplitr
        swap; · iexact H16
        ipureintro; rfl
      iexists _; iexists _; isplitr
      swap; · iexact H17
      ipureintro; rfl
    · sl_exec
      sl_step
      iapply Hk
      isplitl [HT1]; · iexact HT1
      isplitl [HT2]; · iexact HT2
      isplitl [HT3]; · iexact HT3
      isplitl [HT4]; · iexact HT4
      isplitl [HT5]; · iexact HT5
      isplitl [HT6]; · iexact HT6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists _; iexists _; isplitr
        swap; · iexact H13
        ipureintro; rfl
      isplitl [H14]
      · iexists _; iexists _; isplitr
        swap; · iexact H14
        ipureintro; rfl
      isplitl [H15]
      · iexists _; iexists _; isplitr
        swap; · iexact H15
        ipureintro; rfl
      isplitl [H16]
      · iexists _; iexists _; isplitr
        swap; · iexact H16
        ipureintro; rfl
      iexists _; iexists _; isplitr
      swap; · iexact H17
      ipureintro; rfl
  · sl_exec
    sl_step
    iapply Hk
    isplitl [HT1]; · iexact HT1
    isplitl [HT2]; · iexact HT2
    isplitl [HT3]; · iexact HT3
    isplitl [HT4]; · iexact HT4
    isplitl [HT5]; · iexact HT5
    isplitl [HT6]; · iexact HT6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    isplitl [H16]
    · iexists _; iexists _; isplitr
      swap; · iexact H16
      ipureintro; rfl
    iexists _; iexists _; isplitr
    swap; · iexact H17
    ipureintro; rfl

end Cert.KernelIdeal.Hand

end
-- ==== Proof.KernelIdealRun.lean ====
/- The frame of the program: from any memory whose tables admit the pipeline, it runs, its arguments end unchanged and
   every counter ends at zero. -/
module

public import proofs.«01_k».proof.Proof.KernelIdealBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is said of the pipeline: an input's buffer is left as it was found, nothing of an output's. -/
def rdats (hO : Ok m) (c : Dev nD) : RDat τ (Elt F) Unit ℕ (UR sig nD τ) ℕ (cfgM m hO) c where
  A w := V m c (Pipeline.arrRef spec0 w)
  after w _ Y X := (spec0 w).isOut = false → X = Y
  Φ _ := iprop(Pipeline.ΦA spec0 c ∗ Pipeline.ΦT pre0 (tbl m) c)
  q _ := fullShare
  owed _ := 0

theorem A_eq (hO : Ok m) (c : Dev nD) (w : Fin 9) : (rdats m hO c).A w = V m c (Pipeline.arrRef spec0 w) := by
  dsimp only [rdats]

theorem body_obligation (hO : Ok m) (c : Dev nD) : (rdats (F := F) m hO c).BodyObligation (defs₀ (F := F)) Variants.none () Set.univ := fun t Y _ => by
  rw [bigSep_W0, bigSep_W0, defs₀_row]
  rw [show (rdats m hO c).Φ t.castSucc = iprop(Pipeline.ΦA spec0 c ∗ Pipeline.ΦT pre0 (tbl m) c) from rfl,
    show (rdats m hO c).Φ t.succ = iprop(Pipeline.ΦA spec0 c ∗ Pipeline.ΦT pre0 (tbl m) c) from rfl,
    show (rdats m hO c).owesAt () t.succ = (rdats m hO c).owesAt () t.castSucc from rfl, PhiT_eq]
  unfold Pipeline.ΦA
  rw [scopedRest0_eq]
  iintro ⟨⟨⟨⟨⟨%s0, S0⟩, ⟨%s1, S1⟩⟩, HP⟩, HT⟩, Ho, H0, H1, H2, H3, H4, H5, H6, H7, H8⟩
  icases HT with ⟨HT1, HT2, HT3, HT4, HT5, HT6⟩
  iapply (run_body c Set.univ (grid0.coords t) _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) _)

  isplitl [HT1]; · iexact HT1
  isplitl [HT2]; · iexact HT2
  isplitl [HT3]; · iexact HT3
  isplitl [HT4]; · iexact HT4
  isplitl [HT5]; · iexact HT5
  isplitl [HT6]; · iexact HT6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexists s0; rw [owns_whole]; iexact S0
  isplitl [S1]; · iexists s1; rw [owns_whole]; iexact S1
  iintro ⟨HT1, HT2, HT3, HT4, HT5, HT6, H0, H1, H2, H3, H4, H5, ⟨%d6, H6⟩, ⟨%d7, H7⟩, ⟨%d8, H8⟩, ⟨%e0, S0⟩, ⟨%e1, S1⟩⟩
  isplitl [S0 S1 HP HT1 HT2 HT3 HT4 HT5 HT6]
  · isplitl [S0 S1 HP]
    · isplitl [S0 S1]
      · isplitl [S0]
        · iexists e0; rw [← owns_whole (Val := Elt F) (c : Thread nD τ) cc0_scratch0]; iexact S0
        · iexists e1; rw [← owns_whole (Val := Elt F) (c : Thread nD τ) cc0_scratch1]; iexact S1
      · iexact HP
    isplitl [HT1]; · iexact HT1
    isplitl [HT2]; · iexact HT2
    isplitl [HT3]; · iexact HT3
    isplitl [HT4]; · iexact HT4
    isplitl [HT5]; · iexact HT5
    iexact HT6
  isplitl [Ho]; · iexact Ho
  isplitl [H0]
  · iexists (Y 0); isplitr
    · ipureintro; exact fun _ => rfl
    iexact H0
  isplitl [H1]
  · iexists (Y 1); isplitr
    · ipureintro; exact fun _ => rfl
    iexact H1
  isplitl [H2]
  · iexists (Y 2); isplitr
    · ipureintro; exact fun _ => rfl
    iexact H2
  isplitl [H3]
  · iexists (Y 3); isplitr
    · ipureintro; exact fun _ => rfl
    iexact H3
  isplitl [H4]
  · iexists (Y 4); isplitr
    · ipureintro; exact fun _ => rfl
    iexact H4
  isplitl [H5]
  · iexists (Y 5); isplitr
    · ipureintro; exact fun _ => rfl
    iexact H5
  isplitl [H6]
  · iexists d6; isplitr
    · ipureintro; exact fun h => absurd h (by decide)
    iexact H6
  isplitl [H7]
  · iexists d7; isplitr
    · ipureintro; exact fun h => absurd h (by decide)
    iexact H7
  iexists d8; isplitr
  · ipureintro; exact fun h => absurd h (by decide)
  iexact H8

set_option backward.isDefEq.respectTransparency.types false in
set_option maxHeartbeats 800000 in
/-- THE LAUNCH. -/
theorem run_main (hO : Ok m) : θ_run defs (onTc (τ := τ) (main (F := F))) (s₀ m ρ)
    (fun r => RDat.FramePost (cfgM m hO) (rdats m hO) (V m) r ∧ r.2.sem = fun _ => 0) :=
  RDat.θ_run_frameP (Q' := _) pcfgs (fun _ => adm m hO) (0 : Fin 1) launch0 defs₀ Variants.none (rdats m hO) m ρ main
    (hbody := fun c => body_obligation m hO c) (hshare := fun c => (rdats m hO c).share_full fun _ => rfl)
    (howed := fun _ _ => rfl) (V := V m) (hmain := hmain m Variants.none) (hA := fun c w => A_eq m hO c w)
    (hpf := fun c k => V_pre m c k) (hΦ := fun _ _ => rfl) (hQ' := fun _ h => h)

/-- THE FRAME. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
    (h.1.arr_in c 0 rfl).trans ((A_eq m hO c 0).trans (V_main_arg0 m c)),
    (h.1.arr_in c 1 rfl).trans ((A_eq m hO c 1).trans (V_main_arg1 m c)),
    (h.1.arr_in c 2 rfl).trans ((A_eq m hO c 2).trans (V_main_arg2 m c)),
    (h.1.arr_in c 3 rfl).trans ((A_eq m hO c 3).trans (V_main_arg3 m c)),
    (h.1.arr_in c 4 rfl).trans ((A_eq m hO c 4).trans (V_main_arg4 m c)),
    (h.1.arr_in c 5 rfl).trans ((A_eq m hO c 5).trans (V_main_arg5 m c)),
    ((h.1 c).2 main_arg6 (show main_arg6 ∈ Pipeline.restRefs sig spec0 from Pipeline.mem_restRefs_of main_arg6 (by decide) (by decide))).trans (V_main_arg6 m c)⟩, h.2⟩) (run_main m ρ hO)

end Cert.KernelIdeal.Hand

end
-- ==== Proof.KernelIdealTables.lean ====
/- What the host leaves in the six tables of KernelIdeal: the schedule of Sched, in words; so every grid point's blocks lie in
   their arrays. -/
module

public import proofs.«01_k».proof.Proof.KernelIdealHost
public import proofs.«01_k».proof.Proof.SchedWords
public import Idealize.ShloMosaic.Lib.StableHlo.RunRead
public import Idealize.ShloMosaic.Lib.Affine

@[expose] public section

set_option maxRecDepth 16384

noncomputable section

namespace Cert.KernelIdeal.Hand

open Idealize.ShloMosaic Idealize.ShloMosaic.TcCoe Idealize.ShloMosaic.ValueIdx Idealize.ShloMosaic.Routing
open Cert.KernelIdeal.Gen
open Cert.SchedWords Cert.Sched

variable {F : FTy → Type} [FloatOps F] (m : (ℓ : Loc nD τ sig) → Buf (Elt F) ℓ)

theorem hf : HostFacts where
  bs := bcast_S_S_
  b32 := bcast_S_S32
  b63 := bcast_S_S63
  b1 := bcast_S_S1
  rw := reduceWindows_S32_S32_w32s1p31_0
  hu := h_S_
  last := slices_S32_S1_31
  sc := shapeCasts_S1_S_
  row63 := bcast_S63_S1x63_1
  rows63 := bcast_S1x63_S32x63_0_1
  col32 := bcast_S32_S32x1_0
  cols32 := bcast_S32x1_S32x63_0_1
  lt := natLt_1_32
  red := reducesTo_S32x63_S63_d0
  col63 := bcast_S63_S63x1_0
  tail := slices_S63_S62_1
  head := slices_S63_S62_0
  cat := concatenates_S1_S62_S63_d0

/-- The group sizes. -/
abbrev gsz : IVec (shape1 32) 32 := m (((0 : Dev nD) : Thread nD τ).loc main_arg6)

set_option maxHeartbeats 1600000 in
theorem V_ex (c : Dev nD) : V m c main_v19 = exW hf (gsz m) := by
  obtain rfl : c = 0 := Subsingleton.elim _ _
  unfold V
  after_reads_simp
  simp -implicitDefEqProofs only [StableHlo.TRef.toBuf, StableHlo.TRef.ofBuf, cast_cast, cast_eq, id_eq]
  unfold exW vidW totalW vendW tvW div256 startW endW runSum pyDiv
  rfl
set_option maxHeartbeats 1600000 in
theorem V_tile (c : Dev nD) : V m c main_v37 = tileW hf gather_S32_S63x1_S63_n_0_n_n_0_1_1 (gsz m) := by
  obtain rfl : c = 0 := Subsingleton.elim _ _
  unfold V
  after_reads_simp
  simp -implicitDefEqProofs only [StableHlo.TRef.toBuf, StableHlo.TRef.ofBuf, cast_cast, cast_eq, id_eq]
  unfold tileW atEx exW vidW totalW vendW tvW div256 startW endW runSum pyDiv
  rfl
set_option maxHeartbeats 1600000 in
theorem V_lo (c : Dev nD) : V m c main_v52 = loW hf gather_S32_S63x1_S63_n_0_n_n_0_1_1 (gsz m) := by
  obtain rfl : c = 0 := Subsingleton.elim _ _
  unfold V
  after_reads_simp
  simp -implicitDefEqProofs only [StableHlo.TRef.toBuf, StableHlo.TRef.ofBuf, cast_cast, cast_eq, id_eq]
  unfold loW tileW atEx exW vidW totalW vendW tvW div256 startW endW runSum pyDiv
  rfl
set_option maxHeartbeats 1600000 in
theorem V_hi (c : Dev nD) : V m c main_v65 = hiW hf gather_S32_S63x1_S63_n_0_n_n_0_1_1 (gsz m) := by
  obtain rfl : c = 0 := Subsingleton.elim _ _
  unfold V
  after_reads_simp
  simp -implicitDefEqProofs only [StableHlo.TRef.toBuf, StableHlo.TRef.ofBuf, cast_cast, cast_eq, id_eq]
  unfold hiW loW tileW atEx exW vidW totalW vendW tvW div256 startW endW runSum pyDiv
  rfl
set_option maxHeartbeats 1600000 in
theorem V_newe (c : Dev nD) : V m c main_v71 = newW hf (exW hf (gsz m)) := by
  rw [← V_ex m c]
  obtain rfl : c = 0 := Subsingleton.elim _ _
  unfold newW V
  after_reads_simp
  refine congrArg₂ (fun (a : IVec S1 32) (b : IVec S62 32) => concatenate S63 0 [⟨S1, a⟩, ⟨S62, b⟩] concatenates_S1_S62_S63_d0) ?_ ?_
  · after_reads_simp
  · after_reads_simp

/-! ## The tables' entries as numbers -/

variable {m} {g : ℕ → ℕ} (hs : Sizes (gsz m) g)
include hs

theorem tbl_ex (v : Fin 63) : tbl m 0 (ix1 v) = BitVec.ofNat 32 (ex g v.val) := (congrFun (V_ex m 0) _).trans (exW_at hf hs v)
theorem tbl_tile (v : Fin 63) : tbl m 1 (ix1 v) = BitVec.ofNat 32 (tile g v.val) :=
  (congrFun (V_tile m 0) _).trans (tileW_at hf _ hs rfl rfl rfl rfl v)
theorem tbl_lo (v : Fin 63) : tbl m 2 (ix1 v) = BitVec.ofNat 32 (lo g v.val) :=
  (congrFun (V_lo m 0) _).trans (loW_at hf _ hs rfl rfl rfl rfl v)
theorem tbl_hi (v : Fin 63) : tbl m 3 (ix1 v) = BitVec.ofNat 32 (hi g v.val) :=
  (congrFun (V_hi m 0) _).trans (hiW_at hf _ hs rfl rfl rfl rfl v)
theorem tbl_newe (v : Fin 63) : tbl m 4 (ix1 v) = BitVec.ofNat 32 (newe g v.val) :=
  (congrFun (V_newe m 0) _).trans (newexW_at hf hs v)

omit hs in
/-- The entry that a load at offset `v` reads. -/
theorem unit_at (off : Fin 1 → ℕ) (inb : ∀ a, off a + S1.size a ≤ S63.size a) (v : Fin 63) (hv : off 0 = v.val)
    (j : (Rect.unit (s := S63) off S1.size inb).shape.Idx) : (Rect.unit (s := S63) off S1.size inb).emb j = ix1 v := by
  refine funext fun a => Fin.ext ?_
  match a with
  | ⟨0, _⟩ =>
    have hj : (j 0).val < 1 := (j 0).isLt
    show off 0 + 1 * (j 0).val = v.val
    omega

omit hs in
theorem off1_val (i : grid0.Coords) : k0_off1 i 0 = (i 0).val := by
  have hi : (i 0).val < 63 := (i 0).isLt
  show (BitVec.ofNat 32 (i 0).val).toNat = (i 0).val
  rw [BitVec.toNat_ofNat, Nat.mod_eq_of_lt (by omega)]

/-- At every grid point the blocks lie in their arrays and are made of whole words. -/
theorem ok : Ok m := by
  have ht : ∀ i : grid0.Coords, cc0_transform_0 (F := F) k0_off1_inb numel1_S1 (tbl m) i = ![tile g (i 0).val, 0] := by
    intro i
    have h := tile_lt g hs.sum (i 0).val
    refine (congrArg (fun x : BitVec 32 => ![x.toNat, 0]) ((congrArg (tbl m 1) (unit_at (k0_off1 i) (k0_off1_inb i) (i 0) (off1_val i) _)).trans (tbl_tile hs (i 0)))).trans ?_
    show ![(BitVec.ofNat 32 (tile g (i 0).val)).toNat, 0] = _
    rw [BitVec.toNat_ofNat, Nat.mod_eq_of_lt (by omega)]
  have he : ∀ i : grid0.Coords, cc0_transform_2 (F := F) k0_off1_inb numel1_S1 (tbl m) i = ![ex g (i 0).val, 0, 0] := by
    intro i
    have h := ex_lt g hs.sum (i 0).val
    refine (congrArg (fun x : BitVec 32 => ![x.toNat, 0, 0]) ((congrArg (tbl m 0) (unit_at (k0_off1 i) (k0_off1_inb i) (i 0) (off1_val i) _)).trans (tbl_ex hs (i 0)))).trans ?_
    show ![(BitVec.ofNat 32 (ex g (i 0).val)).toNat, 0, 0] = _
    rw [BitVec.toNat_ofNat, Nat.mod_eq_of_lt (by omega)]
  have key2 : ∀ {w : ℕ} (i : grid0.Coords) (f : Fin 2 → ℕ), f = ![tile g (i 0).val, 0] →
      ∀ a, (f a + 1) * (⟨2, ![256, w]⟩ : Shape).size a ≤ (⟨2, ![8192, w]⟩ : Shape).size a := by
    intro w i f hf' a
    have h := tile_lt g hs.sum (i 0).val
    subst hf'
    match a with
    | ⟨0, _⟩ => show (tile g (i 0).val + 1) * 256 ≤ 8192; omega
    | ⟨1, _⟩ => show (0 + 1) * w ≤ w; omega
  have key3 : ∀ {u w : ℕ} (i : grid0.Coords) (f : Fin 3 → ℕ), f = ![ex g (i 0).val, 0, 0] →
      ∀ a, (f a + 1) * (⟨3, ![1, u, w]⟩ : Shape).size a ≤ (⟨3, ![32, u, w]⟩ : Shape).size a := by
    intro u w i f hf' a
    have h := ex_lt g hs.sum (i 0).val
    subst hf'
    match a with
    | ⟨0, _⟩ => show (ex g (i 0).val + 1) * 1 ≤ 32; omega
    | ⟨1, _⟩ => show (0 + 1) * u ≤ u; omega
    | ⟨2, _⟩ => show (0 + 1) * w ≤ w; omega
  exact ⟨fun i => ⟨key2 i _ (ht i), .inr (Affine.block_words_dvd (by decide) (by decide))⟩, fun i => ⟨key2 i _ (ht i), .inl rfl⟩,
    fun i => ⟨key3 i _ (he i), .inr (Affine.block_words_rows (by decide) rfl)⟩, fun i => ⟨key3 i _ (he i), .inl rfl⟩,
    fun i => ⟨key2 i _ (ht i), .inr (Affine.block_words_dvd (by decide) (by decide))⟩, fun i => ⟨key2 i _ (ht i), .inl rfl⟩,
    fun i => ⟨key2 i _ (ht i), .inr (Affine.block_words_dvd (by decide) (by decide))⟩, fun i => ⟨key2 i _ (ht i), .inr (Affine.block_words_dvd (by decide) (by decide))⟩,
    fun i => ⟨key2 i _ (ht i), .inl rfl⟩⟩

end Cert.KernelIdeal.Hand

end
-- ==== Proof.SchedPre.lean ====
/- What the precondition says of the group sizes: each is the word of a natural number, and they add up to 8192. -/
module

public import proofs.«01_k».proof.Pre_groups_fill_rows
public import proofs.«01_k».proof.Proof.SchedWords
public import Idealize.ShloMosaic.Lib.ReduceAll

@[expose] public section

set_option maxRecDepth 16384

noncomputable section

namespace Cert.SchedWords

open Idealize.ShloMosaic Idealize.ShloMosaic.ValueIdx Idealize.ShloMosaic.Routing Idealize.ShloMosaic.WordCmp
open Cert.Sched

theorem of_bit {P : Prop} [Decidable P] (h : BitVec.ofBool (decide P) = 1#1) : P := by
  by_contra hc
  rw [decide_eq_false hc] at h
  exact absurd h (by decide)

theorem sizes_of_pre [Cert.Pre_groups_fill_rows.Facts] {F : FTy → Type} [FloatOps F] (a0 a1 a2 a3 a4 a5) (gs : IVec (shape1 32) 32)
    (h : Cert.Pre_groups_fill_rows.fn (F := F) a0 a1 a2 a3 a4 a5 gs = fun _ => 1#1) : Sizes gs fun e => (gs (ix1 (Fin.ofNat 32 e))).toNat := by
  have andi_one (a b : BitVec 1) : IntOp.andi a b = 1#1 ↔ a = 1#1 ∧ b = 1#1 := by revert a b; decide
  have h0 := congrFun h ix0
  obtain ⟨h12, h3⟩ := (andi_one _ _).1 h0
  obtain ⟨h1, h2⟩ := (andi_one _ _).1 h12
  haveI : Subsingleton (shape0).Idx := ⟨fun a b => funext fun i => i.elim0⟩
  have hw : ∀ e : Fin 32, gs (ix1 e) = BitVec.ofNat 32 (gs (ix1 (Fin.ofNat 32 e.val))).toNat := by
    intro e
    rw [show Fin.ofNat 32 e.val = e from Fin.ext (Nat.mod_eq_of_lt e.isLt), BitVec.ofNat_toNat, BitVec.setWidth_eq]
  have hle : ∀ e : Fin 32, (gs (ix1 e)).toNat ≤ 8192 := by
    intro e
    have k1 := Host.reduce_andi_all (t := shape0) _ _ _ _ ix0 h1 (ix1 e)
    have k2 := Host.reduce_andi_all (t := shape0) _ _ _ _ ix0 h2 (ix1 e)
    rw [cmpi_at, bc0] at k1 k2
    have k1' : IntOp.cmpi .sge (gs (ix1 e)) 0#32 = 1#1 := k1
    have k2' : IntOp.cmpi .sle (gs (ix1 e)) 8192#32 = 1#1 := k2
    rw [cmpi_sge_eq] at k1'
    rw [cmpi_sle_eq] at k2'
    have k1'' : (0#32 : BitVec 32).toInt ≤ (gs (ix1 e)).toInt := of_bit k1'
    have k2'' : (gs (ix1 e)).toInt ≤ (8192#32 : BitVec 32).toInt := of_bit k2'
    rw [show (0#32 : BitVec 32).toInt = 0 from rfl] at k1''
    rw [show (8192#32 : BitVec 32).toInt = 8192 from rfl] at k2''
    rw [BitVec.toInt_eq_toNat_cond] at k1'' k2''
    split at k1'' <;> omega
  refine ⟨hw, ?_⟩
  have hsum := reduce_sum gs (fun e => (gs (ix1 (Fin.ofNat 32 e))).toNat) hw Cert.Pre_groups_fill_rows.Facts.reducesTo_S32_S_d0 Cert.Pre_groups_fill_rows.Facts.h_S_
  have h3' : IntOp.cmpi .eq (Host.reduce IntOp.addi gs (constantI shape0 32 0#32) Cert.Pre_groups_fill_rows.Facts.reducesTo_S32_S_d0
    Cert.Pre_groups_fill_rows.Facts.h_S_ ix0) 8192#32 = 1#1 := h3
  rw [hsum] at h3'
  have hb : ∀ n ≤ 32, S (fun e => (gs (ix1 (Fin.ofNat 32 e))).toNat) n ≤ n * 8192 := by
    intro n hn
    induction n with
    | zero => simp [S_zero]
    | succ k ih =>
      rw [S_succ]
      have := ih (by omega)
      have := hle (Fin.ofNat 32 k)
      show _ + (gs (ix1 (Fin.ofNat 32 k))).toNat ≤ _
      omega
  have hb32 := hb 32 le_rfl
  rw [show (8192#32 : BitVec 32) = BitVec.ofNat 32 8192 from rfl, cmpi_eq_ofNat (w := 32) (by change S _ 32 < _; omega) (by decide)] at h3'
  exact of_bit h3'

end Cert.SchedWords
-- ==== Proof.Spec.lean ====
/- What one grid point of the kernel stores, in the kernel's operations over whole blocks: the dequantised row block, one
   column block's gate and up products, the two gradients, the quantiser of one 128-column block, and the three results
   as the old contents outside the visit's rows. -/
module

public import proofs.«01_k».proof.Proof.Gen.KernelIdeal
public import Idealize.ShloMosaic.Lib.Pipeline.FrameBody
public import Idealize.ShloMosaic.Lib.Claim

@[expose] public section

set_option maxRecDepth 16384

noncomputable section

namespace Cert.KernelIdeal.Spec

open Idealize.ShloMosaic
open Cert.KernelIdeal.Gen

variable {F : FTy → Type} [FloatOps F]

theorem inbX (b : Fin 16) : ∀ a, (![0, 128 * b.val] : Fin 2 → Nat) a + S256x128.size a ≤ S256x2048.size a := by
  intro a; fin_cases a <;> simp <;> omega
theorem inbW (b : Fin 22) : ∀ a, (![0, 128 * b.val] : Fin 2 → Nat) a + S2048x128.size a ≤ S2048x2816.size a := by
  intro a; fin_cases a <;> simp <;> omega
theorem inbH (b : Fin 11) : ∀ a, (![0, 128 * b.val] : Fin 2 → Nat) a + S256x128.size a ≤ S256x1408.size a := by
  intro a; fin_cases a <;> simp <;> omega
theorem inbHs (b : Fin 11) : ∀ a, (![0, b.val] : Fin 2 → Nat) a + S256x1.size a ≤ S256x11.size a := by
  intro a; fin_cases a <;> simp <;> omega
theorem inbC (b : Fin 22) : ∀ a, (![0, 128 * b.val] : Fin 2 → Nat) a + S256x128.size a ≤ S256x2816.size a := by
  intro a; fin_cases a <;> simp <;> omega
theorem slcX (b : Fin 16) : S256x16.Slices ![0, b.val] S256x1 := by revert b; decide

/-- One 128-column block of the dequantised rows. -/
def xBlk (x7 : Vec F S256x2048 .fp8e4m3) (x8 : Vec F S256x16 .f32) (b : Fin 16) : FVec F S256x128 .bf16 :=
  mulf (extf (s := S256x128) .bf16 (View.ld x7 (Rect.unit (s := S256x2048) ![0, 128 * b.val] S256x128.size (inbX b)) : FVec F S256x128 .fp8e4m3) bitsLt_fp8e4m3_bf16)
    (broadcastTo S256x128 (extractStridedSlice (s := S256x16) S256x1 ![0, b.val]
      (truncf (s := S256x16) .bf16 (View.ld x8 (Rect.unit (s := S256x16) ![0, 0] S256x16.size inb_S256x16_S256x16_0_0) : FVec F S256x16 .f32) bitsLt_bf16_f32) (slcX b))
      broadcasts_S256x1_S256x128)

/-- The dequantised rows. -/
def xd (x7 : Vec F S256x2048 .fp8e4m3) (x8 : Vec F S256x16 .f32) : FVec F S256x2048 .bf16 :=
  concatenate S256x2048 1 (List.ofFn fun b : Fin 16 => ⟨S256x128, xBlk x7 x8 b⟩) (by simp only [List.ofFn, Fin.foldr, Fin.foldr.loop, List.map]; decide)

/-- The gate and up products of one column block, side by side. -/
def gu (X : FVec F S256x2048 .bf16) (D : Vec F S2048x2816 .bf16) (j : Fin 11) : FVec F S256x256 .f32 :=
  matmul dot_S256x2048_S2048x256_S256x256_1_0_0_1_n_n none X
    (concatenate S2048x256 1 [⟨S2048x128, View.ld D (Rect.unit (s := S2048x2816) ![0, 128 * j.val] S2048x128.size (inbW ⟨j.val, by omega⟩))⟩,
      ⟨S2048x128, View.ld D (Rect.unit (s := S2048x2816) ![0, 128 * (11 + j.val)] S2048x128.size (inbW ⟨11 + j.val, by omega⟩))⟩]
      concatenates_S2048x128_S2048x128_S2048x256_d1)
    (constant S256x256 .f32 0x00000000#32)

def gate (G : FVec F S256x256 .f32) : FVec F S256x128 .f32 := extractStridedSlice S256x128 ![0, 0] G slices_S256x256_o0_0_S256x128
def up (G : FVec F S256x256 .f32) : FVec F S256x128 .f32 := extractStridedSlice S256x128 ![0, 128] G slices_S256x256_o0_128_S256x128

/-- The dequantised gradient of one column block. -/
def dh (x11 : Vec F S256x1408 .fp8e5m2) (x12 : Vec F S256x11 .f32) (j : Fin 11) : FVec F S256x128 .f32 :=
  mulf (extf (s := S256x128) .f32 (View.ld x11 (Rect.unit (s := S256x1408) ![0, 128 * j.val] S256x128.size (inbH j)) : FVec F S256x128 .fp8e5m2) bitsLt_fp8e5m2_f32)
    (broadcastTo (s := S256x1) S256x128 (View.ld x12 (Rect.unit (s := S256x11) ![0, j.val] S256x1.size (inbHs j)) : FVec F S256x1 .f32) broadcasts_S256x1_S256x128)

def one (s : Shape) : FVec F s .f32 := broadcast s (Scalar.ofBits .f32 0x3F800000#32 : F .f32)

def logi (g : FVec F S256x128 .f32) : FVec F S256x128 .f32 :=
  divf (one _) (addf (one _) (exp (subf (broadcast S256x128 (Scalar.ofBits .f32 0x00000000#32 : F .f32)) g)))

def dg (g u h : FVec F S256x128 .f32) : FVec F S256x128 .f32 :=
  mulf (mulf (mulf h u) (logi g)) (addf (one _) (mulf g (subf (one _) (logi g))))

def du (g h : FVec F S256x128 .f32) : FVec F S256x128 .f32 := mulf (mulf h g) (logi g)

/-- The gradient of column block `b` of the 22: the gate's for the first eleven, the up's for the others. -/
def val (X : FVec F S256x2048 .bf16) (D : Vec F S2048x2816 .bf16) (x11 : Vec F S256x1408 .fp8e5m2) (x12 : Vec F S256x11 .f32) (b : Fin 22) :
    FVec F S256x128 .f32 :=
  if h : b.val < 11 then
    dg (gate (gu X D ⟨b.val, h⟩)) (up (gu X D ⟨b.val, h⟩)) (dh x11 x12 ⟨b.val, h⟩)
  else
    du (gate (gu X D ⟨b.val - 11, by omega⟩)) (dh x11 x12 ⟨b.val - 11, by omega⟩)

/-- The greatest magnitude of each row. -/
def amax (v : FVec F S256x128 .f32) : FVec F S256x1 .f32 :=
  shapeCast S256x1 (multiReduction .maximumf [1] S256 (absf v) 0xFF800000#32 reduces_S256x128_S256 (.inl rfl) rfl) shapeCasts_S256_S256x1

/-- One step of the search: the bits so far, plus the step where the quotient reaches that power of two. -/
def step (q : FVec F S256x1 .f32) (w : BitVec 32) (z : IVec S256x1 32) : IVec S256x1 32 :=
  select (cmpf .oge q (bitcastToFloat .f32 (addi z (broadcast S256x1 w)))) (addi z (broadcast S256x1 w)) z

def bits (a : FVec F S256x1 .f32) : IVec S256x1 32 :=
  let q : FVec F S256x1 .f32 := mulf a (broadcast S256x1 (Scalar.ofBits .f32 0x37924925#32 : F .f32))
  step q 8388608#32 (step q 16777216#32 (step q 33554432#32 (step q 67108864#32 (step q 134217728#32 (step q 268435456#32
    (step q 528482304#32 (step q 1056964608#32 (broadcast S256x1 0#32))))))))

def field (z : IVec S256x1 32) : IVec S256x1 32 := andi z (broadcast S256x1 2139095040#32)
def isZero (z : IVec S256x1 32) : IVec S256x1 1 := cmpi .eq (field z) (broadcast S256x1 0#32)

/-- The scale and its inverse from the exponent's bits. -/
def scaleOf (z : IVec S256x1 32) : FVec F S256x1 .f32 :=
  select (isZero z) (one _) (bitcastToFloat .f32 (addi (field z) (broadcast S256x1 8388608#32)))
def invOf (z : IVec S256x1 32) : FVec F S256x1 .f32 :=
  select (isZero z) (one _) (bitcastToFloat .f32 (subi (broadcast S256x1 2122317824#32) (field z)))

def scale (v : FVec F S256x128 .f32) : FVec F S256x1 .f32 := scaleOf (bits (amax v))

def code (v : FVec F S256x128 .f32) : FVec F S256x128 .fp8e5m2 :=
  truncf .fp8e5m2 (minimumf (broadcast S256x128 (Scalar.ofBits .f32 0x47600000#32 : F .f32))
    (maximumf (broadcast S256x128 (Scalar.ofBits .f32 0xC7600000#32 : F .f32))
      (mulf v (broadcastTo S256x128 (invOf (bits (amax v))) broadcasts_S256x1_S256x128)))) bitsLt_fp8e5m2_f32

/-- The gradient as it is used: code times scale. -/
def deq (v : FVec F S256x128 .f32) : FVec F S256x128 .bf16 :=
  shapeCast S256x128 (mulf (extf .bf16 (code v) bitsLt_fp8e5m2_bf16)
    (broadcastTo S256x128 (truncf .bf16 (scale v) bitsLt_bf16_f32) broadcasts_S256x1_S256x128)) shapeCasts_S256x128_S256x128

/-- Which of the block's rows the visit owns. -/
def keep (lo hi : BitVec 32) : IVec S256x1 1 :=
  andi (cmpi .sge (iota .tc S256x1 32 [0] iota_S256x1_d0_w32) (broadcast S256x1 lo))
    (cmpi .slt (iota .tc S256x1 32 [0] iota_S256x1_d0_w32) (broadcast S256x1 hi))

def codesPiece (k : IVec S256x1 1) (v : FVec F S256x128 .f32) (old : FVec F S256x128 .fp8e5m2) : FVec F S256x128 .fp8e5m2 :=
  truncf .fp8e5m2 (select (broadcastTo S256x128 (shapeCast S256x1 k shapeCasts_S256x1_S256x1) broadcasts_S256x1_S256x128)
    (extf .f32 (code v) bitsLt_fp8e5m2_f32)
    (extf .f32 (shapeCast S256x128 old shapeCasts_S256x128_S256x128 : FVec F S256x128 .fp8e5m2) bitsLt_fp8e5m2_f32)) bitsLt_fp8e5m2_f32

/-- The scales' row, one column after another. -/
def srow (V : Fin 22 → FVec F S256x128 .f32) : FVec F S256x22 .f32 :=
  ([0, 11, 1, 12, 2, 13, 3, 14, 4, 15, 5, 16, 6, 17, 7, 18, 8, 19, 9, 20, 10, 21] : List (Fin 22)).foldl
    (fun acc b => select (cmpi .eq (iota .tc S256x22 32 [1] iota_S256x22_d1_w32) (broadcast S256x22 (BitVec.ofNat 32 b.val)))
      (broadcastTo S256x22 (shapeCast S256x1 (scale (V b)) shapeCasts_S256x1_S256x1) broadcasts_S256x1_S256x22) acc)
    (broadcast S256x22 (Scalar.ofBits .f32 0x00000000#32 : F .f32))

def scalesOut (k : IVec S256x1 1) (V : Fin 22 → FVec F S256x128 .f32) (old : FVec F S256x22 .f32) : FVec F S256x22 .f32 :=
  select (broadcastTo S256x22 (shapeCast S256x1 k shapeCasts_S256x1_S256x1) broadcasts_S256x1_S256x22) (srow V)
    (shapeCast S256x22 old shapeCasts_S256x22_S256x22)

def dxOut (k : IVec S256x1 1) (Q : FVec F S256x2816 .bf16) (D : FVec F S2048x2816 .bf16) (old : FVec F S256x2048 .bf16) : FVec F S256x2048 .bf16 :=
  truncf .bf16 (select (broadcastTo S256x2048 (shapeCast S256x1 k shapeCasts_S256x1_S256x1) broadcasts_S256x1_S256x2048)
    (matmul dot_S256x2816_S2048x2816_S256x2048_1_1_0_0_n_n none Q D (constant S256x2048 .f32 0x00000000#32))
    (extf .f32 (shapeCast S256x2048 old shapeCasts_S256x2048_S256x2048 : FVec F S256x2048 .bf16) bitsLt_bf16_f32)) bitsLt_bf16_f32

/-- Twenty-two blocks side by side. -/
def glue {α : Type} (P : Fin 22 → S256x128.Idx → α) : S256x2816.Idx → α := fun y =>
  P ⟨(y 1).val / 128, Nat.div_lt_of_lt_mul (y 1).isLt⟩ (fun a => match a with
    | 0 => ⟨(y 0).val, (y 0).isLt⟩ | 1 => ⟨(y 1).val % 128, Nat.mod_lt _ (by decide)⟩)

end Cert.KernelIdeal.Spec

end
-- ==== Proof.Pieces.lean ====
/- A buffer filled by column blocks, read back: twenty-two blocks side by side, and a square block per trip of the fill. -/
module

public import proofs.«01_k».proof.Proof.Spec
public import proofs.«01_k».proof.Proof.Gen.KernelIdeal.Skeleton
public import Idealize.ShloMosaic.Lib.Pipeline.FrameBody
public import Idealize.ShloMosaic.Lib.Claim

@[expose] public section

set_option maxRecDepth 16384

noncomputable section

namespace Cert.KernelIdeal.Spec

open Idealize.ShloMosaic
open Cert.KernelIdeal.Gen

variable {F : FTy → Type} [FloatOps F]

/-- The order the blocks are stored in, last first. -/
abbrev order : List (Fin 22) := [21, 10, 20, 9, 19, 8, 18, 7, 17, 6, 16, 5, 15, 4, 14, 3, 13, 2, 12, 1, 11, 0]

theorem mem_order (b : Fin 22) : b ∈ order := by revert b; decide

abbrev rectC (b : Fin 22) : Rect S256x2816 := Rect.unit (s := S256x2816) ![0, 128 * b.val] S256x128.size (inbC b)

theorem glue_emb {α : Type} (P : Fin 22 → S256x128.Idx → α) (b : Fin 22) (x : S256x128.Idx) : P b x = glue P ((rectC b).emb x) := by
  have h1 : ((rectC b).emb x 1).val = 128 * b.val + (x 1).val := by
    show 128 * b.val + 1 * (x 1).val = _
    omega
  have h0 : ((rectC b).emb x 0).val = (x 0).val := by
    show 0 + 1 * (x 0).val = _
    omega
  have hx : (x 1).val < 128 := (x 1).isLt
  unfold glue
  have hb : (⟨((rectC b).emb x 1).val / 128, Nat.div_lt_of_lt_mul ((rectC b).emb x 1).isLt⟩ : Fin 22) = b := Fin.ext (by
    show ((rectC b).emb x 1).val / 128 = b.val
    rw [h1]; omega)
  rw [hb]
  refine congrArg (P b) (funext fun a => Fin.ext ?_)
  match a with
  | 0 => exact h0.symm
  | 1 =>
    show (x 1).val = ((rectC b).emb x 1).val % 128
    rw [h1]; omega

theorem glue_read {κ : Kind} {sp : Space} {e : EltTy} (v : View sig κ sp S256x2816 e) (f : v.ty.Contents (Elt F)) (P : Fin 22 → S256x128.Idx → Elt F e) :
    v.read (Elt F) (v.writes (Elt F) f (order.map fun b => ⟨rectC b, P b⟩)) = glue P := by
  funext y
  refine View.read_writes_apply_of_pieces v f (glue P) _ ?_ y ?_
  · intro p hp
    obtain ⟨b, -, rfl⟩ := List.mem_map.1 hp
    intro x
    exact glue_emb P b x
  · have hy : (y 1).val < 2816 := (y 1).isLt
    refine ⟨_, List.mem_map.2 ⟨⟨(y 1).val / 128, by omega⟩, mem_order _, rfl⟩, ?_⟩
    rw [Rect.mem_set_unit]
    intro a
    match a with
    | 0 => exact ⟨Nat.zero_le _, by show (y 0).val < 0 + 256; have := (y 0).isLt; simpa using this⟩
    | 1 => exact ⟨by show 128 * ((y 1).val / 128) ≤ (y 1).val; omega, by show (y 1).val < 128 * ((y 1).val / 128) + 128; omega⟩

/-- The dequantised weight block, by its 128×128 squares. -/
theorem inbQ (k : Fin 16) (n : Fin 22) : ∀ a, (![0, 128 * k.val, 128 * n.val] : Fin 3 → Nat) a + S1x128x128.size a ≤ S1x2048x2816.size a := by
  intro a; fin_cases a <;> simp <;> omega

/-- One square: the codes times their scale. -/
def wSq (x9 : Vec F S1x2048x2816 .fp8e4m3) (x10 : Vec F S1x16x22 .f32) (k : Fin 16) (n : Fin 22) : FVec F S128x128 .bf16 :=
  k0_pay1 (x10 (fun a => match a with | 0 => ⟨0, by decide⟩ | 1 => k | 2 => n))
    (View.ld x9 (Rect.unit (s := S1x2048x2816) ![0, 128 * k.val, 128 * n.val] S1x128x128.size (inbQ k n)))

/-- The whole block, square by square. -/
def wdFill (x9 : Vec F S1x2048x2816 .fp8e4m3) (x10 : Vec F S1x16x22 .f32) : FVec F S2048x2816 .bf16 := fun y =>
  wSq x9 x10 ⟨(y 0).val / 128, Nat.div_lt_of_lt_mul (y 0).isLt⟩ ⟨(y 1).val / 128, Nat.div_lt_of_lt_mul (y 1).isLt⟩
    (fun a => match a with
      | 0 => ⟨(y 0).val % 128, Nat.mod_lt _ (by decide)⟩
      | 1 => ⟨(y 1).val % 128, Nat.mod_lt _ (by decide)⟩)

end Cert.KernelIdeal.Spec

end
-- ==== Proof.Math.lean ====
/- The quantiser's scale, searched for by powers of two, is the one the logarithm gives. -/
module

public import Idealize.ShloMosaic.Lib.Claim
public import Idealize.ShloMosaic.PureOps.Ideal.Laws
public import Idealize.ShloMosaic.Lib.IdealHost

@[expose] public section

noncomputable section

namespace Cert.Moe

open Idealize.ShloMosaic

/-- The word of exponent field `e`, its other bits clear. -/
def wd (e : ℕ) : BitVec 32 := BitVec.ofNat 32 (e * 8388608)

theorem ofBits_wd (e : ℕ) (h1 : 1 ≤ e) (h2 : e ≤ 254) :
    Ideal.ofBits .f32 (wd e) = (((2 : ℝ) ^ ((e : ℤ) - 127) : ℝ) : EReal) := by
  have hlt : e * 8388608 < 4294967296 := by omega
  have hn : (wd e).toNat = e * 8388608 := by
    unfold wd
    rw [BitVec.toNat_ofNat]
    exact Nat.mod_eq_of_lt hlt
  have hneg : ((wd e).extractLsb' (8 + 23) 1 == 1#1) = false := by
    rw [beq_eq_false_iff_ne]
    intro h
    have h' := congrArg BitVec.toNat h
    rw [BitVec.extractLsb'_toNat, hn, Nat.shiftRight_eq_div_pow] at h'
    have h'' : e * 8388608 / 2147483648 % 2 = 1 := h'
    omega
  have hex : ((wd e).extractLsb' 23 8).toNat = e := by
    rw [BitVec.extractLsb'_toNat, hn, Nat.shiftRight_eq_div_pow]
    show e * 8388608 / 8388608 % 256 = e
    omega
  have hfr : ((wd e).extractLsb' 0 23).toNat = 0 := by
    rw [BitVec.extractLsb'_toNat, hn, Nat.shiftRight_eq_div_pow]
    show e * 8388608 / 1 % 8388608 = 0
    omega
  show Ideal.ieee 8 23 (wd e) = _
  unfold Ideal.ieee
  rw [hneg, hex, hfr]
  rw [if_neg (show ¬ e = 2 ^ 8 - 1 by omega), if_neg (show ¬ e = 0 by omega)]
  refine congrArg (fun r : ℝ => (r : EReal)) ?_
  rw [if_neg (by decide), one_mul, Nat.add_zero]
  have h23 : ((2 ^ 23 : ℕ) : ℝ) = (2 : ℝ) ^ (23 : ℤ) := by norm_num
  rw [h23, ← zpow_add₀ (by norm_num : (2 : ℝ) ≠ 0)]
  exact congrArg (fun n : ℤ => (2 : ℝ) ^ n) (by norm_num)

theorem wd_add (a b : ℕ) : wd a + wd b = wd (a + b) := by
  unfold wd
  rw [← BitVec.ofNat_add]
  exact congrArg (BitVec.ofNat 32) (by omega)

/-- One step of the search. -/
def step (q : EReal) (w z : BitVec 32) : BitVec 32 :=
  Scalar.select (Ideal.cmp .oge q (Ideal.ofBits .f32 (z + w))) (z + w) z

/-- The exponent bits found for a quotient. -/
def bits (q : EReal) : BitVec 32 :=
  step q 8388608#32 (step q 16777216#32 (step q 33554432#32 (step q 67108864#32 (step q 134217728#32 (step q 268435456#32
    (step q 528482304#32 (step q 1056964608#32 0#32)))))))

/-- What the search keeps: `e` reached, and not more than `R` above it. -/
def Inv (q : EReal) (e R : ℕ) : Prop :=
  e + R ≤ 252 ∧ (e = 0 ∨ Ideal.ofBits .f32 (wd e) ≤ q) ∧ (e + R = 252 ∨ q < Ideal.ofBits .f32 (wd (e + R + 1)))

theorem p_mono {a b : ℕ} (h1 : 1 ≤ a) (h2 : a ≤ b) (h3 : b ≤ 254) : Ideal.ofBits .f32 (wd a) ≤ Ideal.ofBits .f32 (wd b) := by
  rw [ofBits_wd a h1 (by omega), ofBits_wd b (by omega) h3]
  exact EReal.coe_le_coe_iff.2 (zpow_le_zpow_right₀ (by norm_num) (by omega))

theorem step_inv (q : EReal) (e R s : ℕ) (hs : 1 ≤ s) (hR : s ≤ R) (hR2 : 2 * s ≤ R + 1) (h : Inv q e R) :
    ∃ e', step q (wd s) (wd e) = wd e' ∧ Inv q e' (R - s) := by
  obtain ⟨h1, h2, h3⟩ := h
  unfold step
  rw [wd_add]
  by_cases hc : Ideal.ofBits .f32 (wd (e + s)) ≤ q
  · refine ⟨e + s, ?_, by omega, Or.inr hc, ?_⟩
    · have : Ideal.cmp .oge q (Ideal.ofBits .f32 (wd (e + s))) = 1#1 := by
        show BitVec.ofBool (decide _) = _
        rw [decide_eq_true hc]; rfl
      rw [this]; rfl
    · rw [show e + s + (R - s) = e + R by omega]; exact h3
  · refine ⟨e, ?_, by omega, h2, ?_⟩
    · have : Ideal.cmp .oge q (Ideal.ofBits .f32 (wd (e + s))) = 0#1 := by
        show BitVec.ofBool (decide _) = _
        rw [decide_eq_false hc]; rfl
      rw [this]; rfl
    · rcases Nat.lt_or_ge (e + (R - s)) 252 with h | h
      · refine Or.inr (lt_of_lt_of_le (not_le.1 hc) ?_)
        rcases Nat.lt_or_ge (R - s + 1) s with h' | h'
        · omega
        · exact p_mono (by omega) (by omega) (by omega)
      · left; omega

theorem bits_spec (q : EReal) : ∃ e : ℕ, bits q = wd e ∧ e ≤ 252 ∧ (e = 0 ∨ Ideal.ofBits .f32 (wd e) ≤ q) ∧
    (e = 252 ∨ q < Ideal.ofBits .f32 (wd (e + 1))) := by
  have h0 : Inv q 0 252 := ⟨by omega, Or.inl rfl, Or.inl rfl⟩
  obtain ⟨e1, E1, I1⟩ := step_inv q 0 252 126 (by omega) (by omega) (by omega) h0
  obtain ⟨e2, E2, I2⟩ := step_inv q e1 126 63 (by omega) (by omega) (by omega) I1
  obtain ⟨e3, E3, I3⟩ := step_inv q e2 63 32 (by omega) (by omega) (by omega) I2
  obtain ⟨e4, E4, I4⟩ := step_inv q e3 31 16 (by omega) (by omega) (by omega) I3
  obtain ⟨e5, E5, I5⟩ := step_inv q e4 15 8 (by omega) (by omega) (by omega) I4
  obtain ⟨e6, E6, I6⟩ := step_inv q e5 7 4 (by omega) (by omega) (by omega) I5
  obtain ⟨e7, E7, I7⟩ := step_inv q e6 3 2 (by omega) (by omega) (by omega) I6
  obtain ⟨e8, E8, I8⟩ := step_inv q e7 1 1 (by omega) (by omega) (by omega) I7
  refine ⟨e8, ?_, by have := I8.1; omega, I8.2.1, ?_⟩
  · unfold bits
    rw [show (1056964608#32) = wd 126 from rfl, show (0#32) = wd 0 from rfl, E1,
      show (528482304#32) = wd 63 from rfl, E2, show (268435456#32) = wd 32 from rfl, E3,
      show (134217728#32) = wd 16 from rfl, E4, show (67108864#32) = wd 8 from rfl, E5,
      show (33554432#32) = wd 4 from rfl, E6, show (16777216#32) = wd 2 from rfl, E7,
      show (8388608#32) = wd 1 from rfl, E8]
  · rcases I8.2.2 with h | h
    · left; omega
    · right; exact h

/-- The exponent field of the bits found. -/
def field (z : BitVec 32) : BitVec 32 := z &&& 2139095040#32

theorem field_wd (e : ℕ) (h : e ≤ 252) : field (wd e) = wd e := by
  exact (show ∀ e : Fin 253, field (wd e.val) = wd e.val by decide +kernel) ⟨e, by omega⟩

/-- The scale and its inverse from the exponent's bits. -/
def scaleOf (z : BitVec 32) : EReal :=
  Scalar.select (IntOp.cmpi .eq (field z) 0#32) (Ideal.ofBits .f32 0x3F800000#32) (Ideal.ofBits .f32 (field z + 8388608#32))
def invOf (z : BitVec 32) : EReal :=
  Scalar.select (IntOp.cmpi .eq (field z) 0#32) (Ideal.ofBits .f32 0x3F800000#32) (Ideal.ofBits .f32 (2122317824#32 - field z))

/-- The exponent as the logarithm gives it. -/
def ex (q : EReal) : EReal :=
  Scalar.select (Ideal.cmp .olt q (Ideal.ofBits .f32 0x00800000#32)) (Ideal.ofBits .f32 0x00000000#32)
    (min (Ideal.liftRound Int.floor (Ideal.div (Ideal.log q) (Ideal.log (Ideal.ofBits .f32 0x40000000#32))) + Ideal.ofBits .f32 0x3F800000#32)
      (Ideal.ofBits .f32 0x42FC0000#32))

theorem ofBits_126 : Ideal.ofBits .f32 0x42FC0000#32 = ((126 : ℝ) : EReal) := by
  simp [Ideal.ofBits, Ideal.ieee, -EReal.coe_mul]; norm_num

theorem ofBits_two : Ideal.ofBits .f32 0x40000000#32 = ((2 : ℝ) : EReal) := by
  rw [show (0x40000000#32) = wd 128 from rfl, ofBits_wd 128 (by omega) (by omega)]
  norm_num

theorem log_real {r : ℝ} (h : 0 < r) : Ideal.log (r : EReal) = ((Real.log r : ℝ) : EReal) := if_neg (not_le.2 h)

theorem floor_log {r : ℝ} {n : ℤ} (h1 : (2 : ℝ) ^ n ≤ r) : n ≤ ⌊Real.log r / Real.log 2⌋ ∧ (r < (2 : ℝ) ^ (n + 1) → ⌊Real.log r / Real.log 2⌋ = n) := by
  have hl : 0 < Real.log 2 := Real.log_pos (by norm_num)
  have hp : (0 : ℝ) < 2 ^ n := zpow_pos (by norm_num) n
  have hr : 0 < r := lt_of_lt_of_le hp h1
  have a : (n : ℝ) ≤ Real.log r / Real.log 2 := by
    rw [le_div_iff₀ hl, ← Real.log_zpow]
    exact Real.log_le_log hp h1
  refine ⟨Int.le_floor.2 a, fun h2 => Int.floor_eq_iff.2 ⟨a, ?_⟩⟩
  rw [div_lt_iff₀ hl]
  have : Real.log r < Real.log ((2 : ℝ) ^ (n + 1)) := Real.log_lt_log hr h2
  rw [Real.log_zpow] at this
  push_cast at this
  exact this

theorem exp2_int (n : ℤ) : Ideal.exp2 ((n : ℝ) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

theorem ex_spec (q : EReal) (e : ℕ) (h252 : e ≤ 252) (hlo : e = 0 ∨ Ideal.ofBits .f32 (wd e) ≤ q)
    (hhi : e = 252 ∨ q < Ideal.ofBits .f32 (wd (e + 1))) :
    ex q = (((if e = 0 then 0 else (e : ℤ) - 126 : ℤ) : ℝ) : EReal) := by
  unfold ex
  rw [show (0x00800000#32) = wd 1 from rfl]
  rcases Nat.eq_zero_or_pos e with rfl | he
  · have hq : q < Ideal.ofBits .f32 (wd 1) := by
      rcases hhi with h | h
      · omega
      · exact h
    have : Ideal.cmp .olt q (Ideal.ofBits .f32 (wd 1)) = 1#1 := by
      show BitVec.ofBool (decide _) = _
      rw [decide_eq_true hq]; rfl
    rw [this]
    show Ideal.ofBits .f32 0x00000000#32 = _
    rw [Ideal.ofBits_zero_f32]; simp
  · have hle : Ideal.ofBits .f32 (wd e) ≤ q := by
      rcases hlo with h | h
      · omega
      · exact h
    have hq : ¬ q < Ideal.ofBits .f32 (wd 1) := not_lt.2 (le_trans (p_mono (le_refl _) he (by omega)) hle)
    have : Ideal.cmp .olt q (Ideal.ofBits .f32 (wd 1)) = 0#1 := by
      show BitVec.ofBool (decide _) = _
      rw [decide_eq_false hq]; rfl
    rw [this, if_neg (by omega)]
    show min _ _ = _
    rw [ofBits_126, ofBits_two, log_real (by norm_num : (0 : ℝ) < 2), Ideal.ofBits_one_f32]
    have hl : 0 < Real.log 2 := Real.log_pos (by norm_num)
    have hne : ((Real.log 2 : ℝ) : EReal) ≠ 0 := by exact_mod_cast hl.ne'
    unfold Ideal.div
    rw [if_neg hne]
    induction q with
    | bot =>
      rw [ofBits_wd e he (by omega)] at hle
      exact absurd hle (not_le.2 (EReal.bot_lt_coe _))
    | top =>
      have h252' : e = 252 := by
        rcases hhi with h | h
        · exact h
        · exact absurd h (not_lt.2 le_top)
      subst h252'
      show min (Ideal.liftRound Int.floor ((⊤ : EReal) * _) + 1) _ = _
      rw [← EReal.coe_inv, EReal.top_mul_coe_of_pos (inv_pos.2 hl)]
      show min ((⊤ : EReal) + 1) _ = _
      rw [show (⊤ : EReal) + 1 = ⊤ from rfl, min_eq_right le_top]
      norm_num
    | coe r =>
      rw [ofBits_wd e he (by omega)] at hle
      have hr1 : (2 : ℝ) ^ ((e : ℤ) - 127) ≤ r := EReal.coe_le_coe_iff.1 hle
      have hr0 : 0 < r := lt_of_lt_of_le (zpow_pos (by norm_num) _) hr1
      obtain ⟨f1, f2⟩ := floor_log hr1
      rw [log_real hr0, ← EReal.coe_inv, ← EReal.coe_mul, ← div_eq_mul_inv]
      show min ((((⌊Real.log r / Real.log 2⌋ : ℤ) : ℝ) : EReal) + 1) _ = _
      rw [← EReal.coe_one, ← EReal.coe_add]
      rcases hhi with h | h
      · subst h
        rw [min_eq_right]
        · norm_num
        · refine EReal.coe_le_coe_iff.2 ?_
          have : ((125 : ℤ) : ℝ) ≤ ((⌊Real.log r / Real.log 2⌋ : ℤ) : ℝ) := by exact_mod_cast (by simpa using f1)
          push_cast at this
          linarith
      · rw [ofBits_wd (e + 1) (by omega) (by omega)] at h
        have hr2 : r < (2 : ℝ) ^ (((e : ℤ) - 127) + 1) := by
          have := EReal.coe_lt_coe_iff.1 h
          rwa [show (((e + 1 : ℕ) : ℤ) - 127) = ((e : ℤ) - 127) + 1 by push_cast; ring] at this
        rw [f2 hr2, min_eq_left]
        · congr 1; push_cast; ring
        · refine EReal.coe_le_coe_iff.2 ?_
          have : (e : ℝ) ≤ 252 := by exact_mod_cast h252
          push_cast; linarith

theorem eq_iff_wd (e : ℕ) (h : e ≤ 252) : IntOp.cmpi .eq (wd e) 0#32 = if e = 0 then 1#1 else 0#1 := by
  exact (show ∀ e : Fin 253, IntOp.cmpi .eq (wd e.val) 0#32 = if e.val = 0 then 1#1 else 0#1 by decide +kernel) ⟨e, by omega⟩

theorem sel0 (a b : EReal) : Scalar.select 0#1 a b = b := rfl
theorem sel1 (a b : EReal) : Scalar.select 1#1 a b = a := rfl
theorem wd1 : (8388608#32) = wd 1 := rfl
theorem wd253 : (2122317824#32) = wd 253 := rfl

theorem wd_sub (e : ℕ) (h : e ≤ 252) : wd 253 - wd e = wd (253 - e) := by
  have h' := wd_add (253 - e) e
  rw [Nat.sub_add_cancel (by omega)] at h'
  rw [← h']
  exact BitVec.add_sub_cancel _ _

theorem scale_eq (q : EReal) : scaleOf (bits q) = Ideal.exp2 (ex q) := by
  obtain ⟨e, hb, h252, hlo, hhi⟩ := bits_spec q
  rw [ex_spec q e h252 hlo hhi, hb, exp2_int]
  unfold scaleOf
  rw [field_wd e h252, eq_iff_wd e h252, wd1, wd_add]
  by_cases he : e = 0
  · rw [if_pos he, if_pos he, sel1, Ideal.ofBits_one_f32, zpow_zero, EReal.coe_one]
  · rw [if_neg he, if_neg he, sel0, ofBits_wd (e + 1) (by omega) (by omega)]
    exact congrArg (fun n : ℤ => (((2 : ℝ) ^ n : ℝ) : EReal)) (by push_cast; omega)

theorem inv_eq (q : EReal) : invOf (bits q) = Ideal.exp2 (Ideal.ofBits .f32 0x00000000#32 - ex q) := by
  obtain ⟨e, hb, h252, hlo, hhi⟩ := bits_spec q
  rw [ex_spec q e h252 hlo hhi, hb, Ideal.ofBits_zero_f32, zero_sub, ← EReal.coe_neg, ← Int.cast_neg, exp2_int]
  unfold invOf
  rw [field_wd e h252, eq_iff_wd e h252, wd253, wd_sub e h252]
  by_cases he : e = 0
  · rw [if_pos he, if_pos he, sel1, Ideal.ofBits_one_f32, neg_zero, zpow_zero, EReal.coe_one]
  · rw [if_neg he, if_neg he, sel0, ofBits_wd (253 - e) (by omega) (by omega)]
    exact congrArg (fun n : ℤ => (((2 : ℝ) ^ n : ℝ) : EReal)) (by omega)

end Cert.Moe

end
-- ==== Proof.Row.lean ====
/- One row of the three results, as sums and products of extended reals. -/
module

public import proofs.«01_k».proof.Proof.Math

@[expose] public section

noncomputable section

namespace Cert.Moe

open Idealize.ShloMosaic

abbrev one : EReal := Ideal.ofBits .f32 0x3F800000#32

/-- A row times a column. -/
def gu (x : Fin 2048 → EReal) (D : Fin 2048 → Fin 2816 → EReal) (c : Fin 2816) : EReal := ∑ k : Fin 2048, x k * D k c

def dg (g u h : EReal) : EReal := h * u * Ideal.logistic g * (one + g * (one - Ideal.logistic g))
def du (g h : EReal) : EReal := h * g * Ideal.logistic g

/-- The gradient at each of the 2816 columns: the gate's, then the up's. -/
def val (G : Fin 2816 → EReal) (H : Fin 1408 → EReal) (c : Fin 2816) : EReal :=
  if h : c.val < 1408 then dg (G c) (G ⟨c.val + 1408, by omega⟩) (H ⟨c.val, h⟩)
  else du (G ⟨c.val - 1408, by omega⟩) (H ⟨c.val - 1408, by omega⟩)

/-- Column block `b` of the 22. -/
def blk (V : Fin 2816 → EReal) (b : Fin 22) (l : Fin 128) : EReal := V ⟨128 * b.val + l.val, by omega⟩

/-- The quotient the exponent is taken of. -/
def quo (v : Fin 128 → EReal) : EReal :=
  (Finset.univ : Finset (Fin 128)).fold max (Ideal.ofBits .f32 0xFF800000#32) (fun l => max (v l) (-(v l))) * Ideal.ofBits .f32 0x37924925#32

def scale (v : Fin 128 → EReal) : EReal := Ideal.exp2 (ex (quo v))

def code (v : Fin 128 → EReal) (l : Fin 128) : EReal :=
  min (Ideal.ofBits .f32 0x47600000#32) (max (Ideal.ofBits .f32 0xC7600000#32) (v l * Ideal.exp2 (Ideal.ofBits .f32 0x00000000#32 - ex (quo v))))

def bk (c : Fin 2816) : Fin 22 := ⟨c.val / 128, by omega⟩
def ln (c : Fin 2816) : Fin 128 := ⟨c.val % 128, by omega⟩

/-- The three results of one row, from its gradient. -/
def rowS (V : Fin 2816 → EReal) (b : Fin 22) : EReal := scale (blk V b)
def rowC (V : Fin 2816 → EReal) (c : Fin 2816) : EReal := code (blk V (bk c)) (ln c)
def rowX (V : Fin 2816 → EReal) (D : Fin 2048 → Fin 2816 → EReal) (k : Fin 2048) : EReal := ∑ c : Fin 2816, (rowC V c * rowS V (bk c)) * D k c

/-- The six arrays of numbers that the results depend on. -/
structure Arr where
  x : Fin 8192 → Fin 2048 → EReal
  xs : Fin 8192 → Fin 16 → EReal
  w : Fin 32 → Fin 2048 → Fin 2816 → EReal
  ws : Fin 32 → Fin 16 → Fin 22 → EReal
  h : Fin 8192 → Fin 1408 → EReal
  hs : Fin 8192 → Fin 11 → EReal

namespace Arr
variable (A : Arr)

/-- Row `r` of the tokens, expert `e`'s weights, row `r` of the incoming gradient, each times its blocks' scales. -/
def row (r : Fin 8192) (k : Fin 2048) : EReal := A.x r k * A.xs r ⟨k.val / 128, by omega⟩
def D (e : Fin 32) (k : Fin 2048) (c : Fin 2816) : EReal := A.w e k c * A.ws e ⟨k.val / 128, by omega⟩ ⟨c.val / 128, by omega⟩
def H (r : Fin 8192) (c : Fin 1408) : EReal := A.h r c * A.hs r ⟨c.val / 128, by omega⟩
/-- The gradient of row `r` under expert `e`. -/
def V (r : Fin 8192) (e : Fin 32) : Fin 2816 → EReal := val (gu (A.row r) (A.D e)) (A.H r)
/-- The three results of row `r` under expert `e`. -/
def X (r : Fin 8192) (e : Fin 32) : Fin 2048 → EReal := rowX (A.V r e) (A.D e)
def C (r : Fin 8192) (e : Fin 32) : Fin 2816 → EReal := rowC (A.V r e)
def S (r : Fin 8192) (e : Fin 32) : Fin 22 → EReal := rowS (A.V r e)

end Arr

end Cert.Moe

end
-- ==== Proof.KernelIdealRead.lean ====
/- What a grid point stores, read at one row: the row's results as sums and products. -/
module

public import proofs.«01_k».proof.Proof.Pieces
public import proofs.«01_k».proof.Proof.Row
public import Idealize.ShloMosaic.Lib.Pointwise.TacticCore
public import Idealize.ShloMosaic.Lib.MatmulPlain
public import Idealize.ShloMosaic.Lib.Pipeline.Value
public import Idealize.ShloMosaic.Lib.Pointwise.SelectCore

@[expose] public section

set_option maxRecDepth 16384

noncomputable section

namespace Cert.KernelIdeal.Spec

open Idealize.ShloMosaic
open Cert.KernelIdeal.Gen

theorem idx2_ext {a b : ℕ} {i j : (⟨2, ![a, b]⟩ : Shape).Idx} (h0 : (i 0).val = (j 0).val) (h1 : (i 1).val = (j 1).val) : i = j :=
  funext fun k => Fin.ext (match k with | 0 => h0 | 1 => h1)

theorem xBlk_apply (x7 : Vec Ideal S256x2048 .fp8e4m3) (x8 : Vec Ideal S256x16 .f32) (b : Fin 16) (r : Fin 256) (l : Fin 128) :
    xBlk (F := Ideal) x7 x8 b (ix2 r l) = ((x7 (ix2 r ⟨128 * b.val + l.val, by omega⟩) : EReal) * (x8 (ix2 r b) : EReal) : EReal) := by
  refine congrArg₂ (fun a b : EReal => a * b) ?_ ?_
  · refine congrArg x7 (idx2_ext ?_ ?_)
    · show 0 + 1 * r.val = r.val; omega
    · show 128 * b.val + 1 * l.val = 128 * b.val + l.val; omega
  · refine (broadcastTo_apply _ _ _ (ix2 r (0 : Fin 1)) ?_).trans ((extractStridedSlice_apply _ _ _ _ (ix2 r b) ?_).trans ?_)
    · intro a
      match a with
      | 0 => rfl
      | 1 => rfl
    · intro a
      match a with
      | 0 => show r.val = 0 + r.val; omega
      | 1 => show b.val = b.val + 0; omega
    · refine congrArg x8 (idx2_ext ?_ ?_)
      · show 0 + 1 * r.val = r.val; omega
      · show 0 + 1 * b.val = b.val; omega

/-- The dequantised row. -/
theorem xd_apply (x7 : Vec Ideal S256x2048 .fp8e4m3) (x8 : Vec Ideal S256x16 .f32) (r : Fin 256) (k : Fin 2048) :
    xd (F := Ideal) x7 x8 (ix2 r k) = ((x7 (ix2 r k) : EReal) * (x8 (ix2 r ⟨k.val / 128, by omega⟩) : EReal) : EReal) := by
  unfold xd
  refine (concatenate_ofFn_apply (t := S256x2048) (s₁ := S256x128) 1 _ _ rfl 128 rfl (ix2 r k) (⟨k.val / 128, by omega⟩ : Fin 16) rfl
    (ix2 r (⟨k.val % 128, Nat.mod_lt _ (by decide)⟩ : Fin 128)) rfl ?_).trans ?_
  · intro b hb
    match b with
    | 0 => rfl
    | 1 => exact absurd rfl hb
  · rw [xBlk_apply]
    refine congrArg (fun z : EReal => z * _) (congrArg x7 (idx2_ext rfl ?_))
    show 128 * (k.val / 128) + k.val % 128 = k.val
    omega

theorem gu_apply (X : FVec Ideal S256x2048 .bf16) (D : Vec Ideal S2048x2816 .bf16) (j : Fin 11) (r : Fin 256) (p : Fin 256) :
    gu (F := Ideal) X D j (ix2 r p)
      = Moe.gu (fun k => X (ix2 r k)) (fun k c => D (ix2 k c))
          (if p.val < 128 then ⟨128 * j.val + p.val % 128, by omega⟩ else ⟨128 * (11 + j.val) + p.val % 128, by omega⟩) := by
  unfold gu Moe.gu
  refine (Ideal.matmul_plain_apply (M := 256) (K := 2048) (N := 256) none _ _ _ r p).trans ?_
  show Ideal.ofBits .f32 0x00000000#32 + _ = _
  rw [Ideal.ofBits_zero_f32, zero_add]
  refine Finset.sum_congr rfl fun k _ => congrArg (fun z : EReal => X (ix2 r k) * z) ?_
  refine (concatenate_pair_apply (t := S2048x256) (s₁ := S2048x128) (s₂ := S2048x128) 1 _ _ _ (ix2 k p)).trans ?_
  by_cases hp : p.val < 128
  · rw [if_pos hp]
    refine (dif_pos (show p.val < 128 from hp)).trans (congrArg D (idx2_ext ?_ ?_))
    · show 0 + 1 * k.val = k.val; omega
    · show 128 * j.val + 1 * p.val = 128 * j.val + p.val % 128; omega
  · rw [if_neg hp]
    refine (dif_neg (show ¬ p.val < 128 from hp)).trans (congrArg D (idx2_ext ?_ ?_))
    · show 0 + 1 * k.val = k.val; omega
    · show 128 * (11 + j.val) + 1 * (p.val - 128) = 128 * (11 + j.val) + p.val % 128; omega

theorem gate_apply (X : FVec Ideal S256x2048 .bf16) (D : Vec Ideal S2048x2816 .bf16) (j : Fin 11) (r : Fin 256) (l : Fin 128) :
    gate (F := Ideal) (gu X D j) (ix2 r l)
      = Moe.gu (fun k => X (ix2 r k)) (fun k c => D (ix2 k c)) ⟨128 * j.val + l.val, by omega⟩ := by
  unfold gate
  refine (extractStridedSlice_apply (s := S256x256) _ _ _ _ (ix2 r (⟨l.val, by omega⟩ : Fin 256)) ?_).trans ((gu_apply X D j r _).trans ?_)
  · intro a
    match a with
    | 0 => show r.val = 0 + r.val; omega
    | 1 => show l.val = 0 + l.val; omega
  · rw [if_pos (show l.val < 128 from l.isLt)]
    exact congrArg _ (Fin.ext (show 128 * j.val + l.val % 128 = 128 * j.val + l.val by omega))

theorem up_apply (X : FVec Ideal S256x2048 .bf16) (D : Vec Ideal S2048x2816 .bf16) (j : Fin 11) (r : Fin 256) (l : Fin 128) :
    up (F := Ideal) (gu X D j) (ix2 r l)
      = Moe.gu (fun k => X (ix2 r k)) (fun k c => D (ix2 k c)) ⟨128 * (11 + j.val) + l.val, by omega⟩ := by
  unfold up
  refine (extractStridedSlice_apply (s := S256x256) _ _ _ _ (ix2 r (⟨128 + l.val, by omega⟩ : Fin 256)) ?_).trans ((gu_apply X D j r _).trans ?_)
  · intro a
    match a with
    | 0 => show r.val = 0 + r.val; omega
    | 1 => rfl
  · rw [if_neg (show ¬ 128 + l.val < 128 by omega)]
    exact congrArg _ (Fin.ext (show 128 * (11 + j.val) + (128 + l.val) % 128 = 128 * (11 + j.val) + l.val by omega))

theorem dh_apply (x11 : Vec Ideal S256x1408 .fp8e5m2) (x12 : Vec Ideal S256x11 .f32) (j : Fin 11) (r : Fin 256) (l : Fin 128) :
    dh (F := Ideal) x11 x12 j (ix2 r l) = ((x11 (ix2 r ⟨128 * j.val + l.val, by omega⟩) : EReal) * (x12 (ix2 r j) : EReal) : EReal) := by
  refine congrArg₂ (fun a b : EReal => a * b) ?_ ?_
  · refine congrArg x11 (idx2_ext ?_ ?_)
    · show 0 + 1 * r.val = r.val; omega
    · show 128 * j.val + 1 * l.val = 128 * j.val + l.val; omega
  · refine (broadcastTo_apply (s := S256x1) _ _ _ (ix2 r (0 : Fin 1)) ?_).trans ?_
    · intro a
      match a with
      | 0 => rfl
      | 1 => rfl
    · refine congrArg x12 (idx2_ext ?_ ?_)
      · show 0 + 1 * r.val = r.val; omega
      · show j.val + 1 * 0 = j.val; omega

theorem logi_apply (g : FVec Ideal S256x128 .f32) (i : S256x128.Idx) : logi (F := Ideal) g i = Ideal.logistic (g i) := by
  show Ideal.div Moe.one (Moe.one + Ideal.exp (Ideal.ofBits .f32 0x00000000#32 - g i)) = _
  rw [Ideal.ofBits_zero_f32, zero_sub]
  unfold Moe.one
  rw [Ideal.ofBits_one_f32]
  rfl

/-- The row's dequantised upstream gradient. -/
def hrow (x11 : Vec Ideal S256x1408 .fp8e5m2) (x12 : Vec Ideal S256x11 .f32) (r : Fin 256) (c : Fin 1408) : EReal :=
  (x11 (ix2 r c) : EReal) * (x12 (ix2 r (⟨c.val / 128, by omega⟩ : Fin 11)) : EReal)

/-- The row's gradient. -/
def vrow (X : FVec Ideal S256x2048 .bf16) (D : Vec Ideal S2048x2816 .bf16) (x11 : Vec Ideal S256x1408 .fp8e5m2) (x12 : Vec Ideal S256x11 .f32) (r : Fin 256) :
    Fin 2816 → EReal :=
  Moe.val (Moe.gu (fun k => X (ix2 r k)) (fun k c => D (ix2 k c))) (hrow x11 x12 r)

theorem dh_hrow (x11 : Vec Ideal S256x1408 .fp8e5m2) (x12 : Vec Ideal S256x11 .f32) (j : Fin 11) (r : Fin 256) (l : Fin 128) (c : Fin 1408)
    (hc : c.val = 128 * j.val + l.val) : dh (F := Ideal) x11 x12 j (ix2 r l) = hrow x11 x12 r c := by
  rw [dh_apply]
  unfold hrow
  refine congrArg₂ (fun a b : EReal => a * b) (congrArg x11 (idx2_ext rfl hc.symm)) (congrArg x12 (idx2_ext rfl ?_))
  show j.val = c.val / 128
  omega

theorem val_apply (X : FVec Ideal S256x2048 .bf16) (D : Vec Ideal S2048x2816 .bf16) (x11 : Vec Ideal S256x1408 .fp8e5m2) (x12 : Vec Ideal S256x11 .f32)
    (b : Fin 22) (r : Fin 256) (l : Fin 128) :
    val (F := Ideal) X D x11 x12 b (ix2 r l) = Moe.blk (vrow X D x11 x12 r) b l := by
  unfold val Moe.blk vrow Moe.val
  by_cases hb : b.val < 11
  · rw [dif_pos hb, dif_pos (show 128 * b.val + l.val < 1408 by omega)]
    show (dh x11 x12 ⟨b.val, hb⟩ (ix2 r l) : EReal) * (up (gu X D ⟨b.val, hb⟩) (ix2 r l)) * (logi (gate (gu X D ⟨b.val, hb⟩)) (ix2 r l))
      * (Moe.one + gate (gu X D ⟨b.val, hb⟩) (ix2 r l) * (Moe.one - logi (gate (gu X D ⟨b.val, hb⟩)) (ix2 r l))) = _
    rw [logi_apply, gate_apply, up_apply, dh_hrow x11 x12 ⟨b.val, hb⟩ r l ⟨128 * b.val + l.val, by omega⟩ rfl]
    unfold Moe.dg
    rw [show (⟨128 * (11 + b.val) + l.val, by omega⟩ : Fin 2816) = ⟨128 * b.val + l.val + 1408, by omega⟩ from Fin.ext (by show 128 * (11 + b.val) + l.val = 128 * b.val + l.val + 1408; omega)]
  · rw [dif_neg hb, dif_neg (show ¬ 128 * b.val + l.val < 1408 by omega)]
    show (dh x11 x12 ⟨b.val - 11, by omega⟩ (ix2 r l) : EReal) * (gate (gu X D ⟨b.val - 11, by omega⟩) (ix2 r l)) * (logi (gate (gu X D ⟨b.val - 11, by omega⟩)) (ix2 r l)) = _
    rw [logi_apply, gate_apply, dh_hrow x11 x12 ⟨b.val - 11, by omega⟩ r l ⟨128 * b.val + l.val - 1408, by omega⟩ (by show 128 * b.val + l.val - 1408 = 128 * (b.val - 11) + l.val; omega)]
    unfold Moe.du
    rw [show (⟨128 * (b.val - 11) + l.val, by omega⟩ : Fin 2816) = ⟨128 * b.val + l.val - 1408, by omega⟩ from Fin.ext (by show 128 * (b.val - 11) + l.val = 128 * b.val + l.val - 1408; omega)]

end Cert.KernelIdeal.Spec

end
-- ==== Proof.KernelIdealRead2.lean ====
/- The quantiser and the three stored blocks, read at one row. -/
module

public import proofs.«01_k».proof.Proof.KernelIdealRead

@[expose] public section

set_option maxRecDepth 16384

noncomputable section

namespace Cert.KernelIdeal.Spec

open Idealize.ShloMosaic
open Cert.KernelIdeal.Gen

variable (v : FVec Ideal S256x128 .f32) (r : Fin 256)

theorem amax_apply : amax (F := Ideal) v (ix2 r (0 : Fin 1))
    = (Finset.univ : Finset (Fin 128)).fold max (Ideal.ofBits .f32 0xFF800000#32) (fun l => max (v (ix2 r l)) (-(v (ix2 r l)))) := by
  unfold amax
  refine (shapeCast_apply (s := S256) _ _ _ (ix1 r) ?_).trans ?_
  · rw [Shape.rowMajor_val_one, Shape.rowMajor_val_two]
    show r.val = r.val * 1 + 0
    omega
  · refine (Ideal.multiReduction_maximumf_single (s := S256x128) (a := 1) _ _ _ _ _ (ix1 r)).trans ?_
    refine congrArg (fun f => (Finset.univ : Finset (Fin 128)).fold max (Ideal.ofBits .f32 0xFF800000#32) f) (funext fun l => ?_)
    show max (v _) (-(v _)) = _
    rw [show reduces_S256x128_S256.lift (ix1 r) l = ix2 r l from idx2_ext rfl rfl]
    rfl

theorem step_apply (q : FVec Ideal S256x1 .f32) (w : BitVec 32) (z : IVec S256x1 32) (i : S256x1.Idx) :
    step (F := Ideal) q w z i = Moe.step (q i) w (z i) := rfl

theorem bits_at (a : FVec Ideal S256x1 .f32) (i : S256x1.Idx) :
    bits (F := Ideal) a i = Moe.bits ((a i : EReal) * Ideal.ofBits .f32 0x37924925#32) := by
  have key : ∀ (q : FVec Ideal S256x1 .f32) (p : EReal), q i = p → ∀ (w : BitVec 32) (z : IVec S256x1 32) (y : BitVec 32), z i = y →
      step (F := Ideal) q w z i = Moe.step p w y := by
    intro q p hq w z y hz
    subst hq hz
    exact step_apply q w z i
  have hq : (mulf a (broadcast S256x1 (Scalar.ofBits .f32 0x37924925#32 : Ideal .f32))) i = (a i : EReal) * Ideal.ofBits .f32 0x37924925#32 := rfl
  have hb : (broadcast S256x1 0#32 : IVec S256x1 32) i = 0#32 := rfl
  exact key _ _ hq _ _ _ (key _ _ hq _ _ _ (key _ _ hq _ _ _ (key _ _ hq _ _ _ (key _ _ hq _ _ _ (key _ _ hq _ _ _ (key _ _ hq _ _ _ (key _ _ hq _ _ _ hb)))))))

theorem bits_apply : bits (F := Ideal) (amax v) (ix2 r (0 : Fin 1)) = Moe.bits (Moe.quo fun l => v (ix2 r l)) :=
  (bits_at _ _).trans (congrArg (fun z : EReal => Moe.bits (z * Ideal.ofBits .f32 0x37924925#32)) (amax_apply v r))

theorem scale_apply : scale (F := Ideal) v (ix2 r (0 : Fin 1)) = Moe.scale fun l => v (ix2 r l) := by
  unfold Moe.scale
  rw [← Moe.scale_eq, ← bits_apply]
  rfl

theorem code_apply (l : Fin 128) : code (F := Ideal) v (ix2 r l) = Moe.code (fun l => v (ix2 r l)) l := by
  unfold Moe.code
  rw [← Moe.inv_eq, ← bits_apply]
  refine congrArg (fun z : EReal => min (Ideal.ofBits .f32 0x47600000#32) (max (Ideal.ofBits .f32 0xC7600000#32) (v (ix2 r l) * z))) ?_
  refine (broadcastTo_apply (s := S256x1) _ _ _ (ix2 r (0 : Fin 1)) ?_).trans rfl
  intro a
  match a with
  | 0 => rfl
  | 1 => rfl

theorem deq_apply (l : Fin 128) : deq (F := Ideal) v (ix2 r l)
    = ((Moe.code (fun l => v (ix2 r l)) l : EReal) * Moe.scale (fun l => v (ix2 r l)) : EReal) := by
  unfold deq
  refine (shapeCast_apply (s := S256x128) _ _ _ (ix2 r l) rfl).trans ?_
  refine congrArg₂ (fun a b : EReal => a * b) (code_apply v r l) ?_
  refine (broadcastTo_apply (s := S256x1) _ _ _ (ix2 r (0 : Fin 1)) ?_).trans (scale_apply v r)
  intro a
  match a with
  | 0 => rfl
  | 1 => rfl

variable (k : IVec S256x1 1)

theorem mask_apply {n : ℕ} (h : S256x1.Broadcasts ⟨2, ![256, n]⟩) (c : Fin n) :
    broadcastTo ⟨2, ![256, n]⟩ (shapeCast S256x1 k shapeCasts_S256x1_S256x1) h (ix2 r c) = k (ix2 r (0 : Fin 1)) := by
  refine (broadcastTo_apply (s := S256x1) _ _ _ (ix2 r (0 : Fin 1)) ?_).trans (shapeCast_apply _ _ _ _ rfl)
  intro a
  match a with
  | 0 => rfl
  | 1 => rfl

/-- A block's stored codes. -/
theorem codesPiece_apply (old : FVec Ideal S256x128 .fp8e5m2) (l : Fin 128) :
    codesPiece (F := Ideal) k v old (ix2 r l)
      = Scalar.select (k (ix2 r (0 : Fin 1))) (Moe.code (fun l => v (ix2 r l)) l : EReal) (old (ix2 r l) : EReal) := by
  unfold codesPiece
  show Scalar.select _ _ _ = _
  rw [mask_apply]
  refine congrArg₂ (fun a b : EReal => Scalar.select _ a b) (code_apply v r l) ?_
  exact shapeCast_apply (s := S256x128) _ _ _ (ix2 r l) rfl

/-- The scales' row. -/
theorem srow_apply (V : Fin 22 → FVec Ideal S256x128 .f32) (b : Fin 22) :
    srow (F := Ideal) V (ix2 r b) = Moe.scale fun l => V b (ix2 r l) := by
  have hb : ∀ b' : Fin 22, (broadcastTo S256x22 (shapeCast S256x1 (scale (F := Ideal) (V b')) shapeCasts_S256x1_S256x1) broadcasts_S256x1_S256x22) (ix2 r b)
      = Moe.scale fun l => V b' (ix2 r l) := by
    intro b'
    refine (broadcastTo_apply (s := S256x1) _ _ _ (ix2 r (0 : Fin 1)) ?_).trans ((shapeCast_apply (s := S256x1) _ _ _ (ix2 r (0 : Fin 1)) rfl).trans (scale_apply (V b') r))
    intro a
    match a with
    | 0 => rfl
    | 1 => rfl
  have key : ∀ (L : List (Fin 22)) (acc : FVec Ideal S256x22 .f32),
      (L.foldl (fun acc b' => select (cmpi .eq (iota .tc S256x22 32 [1] iota_S256x22_d1_w32) (broadcast S256x22 (BitVec.ofNat 32 b'.val)))
        (broadcastTo S256x22 (shapeCast S256x1 (scale (V b')) shapeCasts_S256x1_S256x1) broadcasts_S256x1_S256x22) acc) acc) (ix2 r b)
      = if b ∈ L then (Moe.scale fun l => V b (ix2 r l)) else acc (ix2 r b) := by
    intro L
    induction L with
    | nil => intro acc; rfl
    | cons a L ih =>
      intro acc
      rw [List.foldl_cons, ih]
      by_cases hL : b ∈ L
      · rw [if_pos hL, if_pos (List.mem_cons_of_mem _ hL)]
      · rw [if_neg hL]
        show Scalar.select (IntOp.cmpi .eq (BitVec.ofNat 32 (0 * 22 + b.val)) (BitVec.ofNat 32 a.val)) _ _ = _
        rw [hb a]
        by_cases hab : b = a
        · subst hab
          rw [if_pos List.mem_cons_self, Nat.zero_mul, Nat.zero_add]
          rw [show IntOp.cmpi .eq (BitVec.ofNat 32 b.val) (BitVec.ofNat 32 b.val) = 1#1 from by
            show BitVec.ofBool (decide _) = _
            simp]
          rfl
        · rw [if_neg (by simp [hab, hL])]
          have : IntOp.cmpi .eq (BitVec.ofNat 32 (0 * 22 + b.val)) (BitVec.ofNat 32 a.val) = 0#1 := by
            revert hab
            exact (show ∀ x y : Fin 22, ¬ x = y → IntOp.cmpi .eq (BitVec.ofNat 32 (0 * 22 + x.val)) (BitVec.ofNat 32 y.val) = 0#1 by decide +kernel) b a
          rw [this]
          rfl
  unfold srow
  rw [key]
  exact if_pos ((show ∀ b : Fin 22, b ∈ ([0, 11, 1, 12, 2, 13, 3, 14, 4, 15, 5, 16, 6, 17, 7, 18, 8, 19, 9, 20, 10, 21] : List (Fin 22)) by decide) b)

theorem scalesOut_apply (V : Fin 22 → FVec Ideal S256x128 .f32) (old : FVec Ideal S256x22 .f32) (b : Fin 22) :
    scalesOut (F := Ideal) k V old (ix2 r b)
      = Scalar.select (k (ix2 r (0 : Fin 1))) (Moe.scale fun l => V b (ix2 r l)) (old (ix2 r b) : EReal) := by
  unfold scalesOut
  show Scalar.select _ _ _ = _
  rw [mask_apply, srow_apply]
  refine congrArg (fun a : EReal => Scalar.select _ _ a) ?_
  exact shapeCast_apply (s := S256x22) _ _ _ (ix2 r b) rfl

theorem dxOut_apply (Q : FVec Ideal S256x2816 .bf16) (D : FVec Ideal S2048x2816 .bf16) (old : FVec Ideal S256x2048 .bf16) (c : Fin 2048) :
    dxOut (F := Ideal) k Q D old (ix2 r c)
      = Scalar.select (k (ix2 r (0 : Fin 1))) (∑ j : Fin 2816, (Q (ix2 r j) : EReal) * D (ix2 c j) : EReal) (old (ix2 r c) : EReal) := by
  unfold dxOut
  show Scalar.select _ _ _ = _
  rw [mask_apply]
  refine congrArg₂ (fun a b : EReal => Scalar.select _ a b) ?_ (shapeCast_apply (s := S256x2048) _ _ _ (ix2 r c) rfl)
  refine (Ideal.matmul_transposedRhs_apply (M := 256) (K := 2816) (N := 2048) none _ _ _ r c).trans ?_
  show Ideal.ofBits .f32 0x00000000#32 + _ = _
  rw [Ideal.ofBits_zero_f32, zero_add]
  rfl

theorem glue_ix2 {α : Type} (P : Fin 22 → S256x128.Idx → α) (c : Fin 2816) : glue P (ix2 r c) = P (Moe.bk c) (ix2 r (Moe.ln c)) := by
  unfold glue
  exact congrArg (P _) (idx2_ext rfl rfl)

/-- The dequantised weight at a position. -/
def wrow (x9 : Vec Ideal S1x2048x2816 .fp8e4m3) (x10 : Vec Ideal S1x16x22 .f32) (k : Fin 2048) (c : Fin 2816) : EReal :=
  (x9 (ix3 (0 : Fin 1) k c) : EReal) * (x10 (ix3 (0 : Fin 1) (⟨k.val / 128, by omega⟩ : Fin 16) (⟨c.val / 128, by omega⟩ : Fin 22)) : EReal)

theorem ext_cast (X : Vec Ideal S1x128x128 .fp8e4m3) (a b : Fin 128) :
    (extf (F := Ideal) (s := S128x128) .bf16 (shapeCast S128x128 X shapeCasts_S1x128x128_S128x128) bitsLt_fp8e4m3_bf16 (ix2 a b) : EReal)
      = (X (ix3 (0 : Fin 1) a b) : EReal) := by
  refine shapeCast_apply (s := S1x128x128) X shapeCasts_S1x128x128_S128x128 (ix2 a b) (ix3 (0 : Fin 1) a b) ?_
  rw [Shape.rowMajor_val_three, Shape.rowMajor_val_two]
  show (0 * 128 + a.val) * 128 + b.val = a.val * 128 + b.val
  omega

theorem wdFill_apply (x9 : Vec Ideal S1x2048x2816 .fp8e4m3) (x10 : Vec Ideal S1x16x22 .f32) (i : Fin 2048) (c : Fin 2816) :
    wdFill (F := Ideal) x9 x10 (ix2 i c) = wrow x9 x10 i c := by
  unfold wdFill wSq wrow k0_pay1
  refine (shapeCast_apply (s := S128x128) _ _ _ (ix2 (⟨i.val % 128, Nat.mod_lt _ (by decide)⟩ : Fin 128) (⟨c.val % 128, Nat.mod_lt _ (by decide)⟩ : Fin 128)) ?_).trans ?_
  · exact congrArg (fun z => (Shape.rowMajor S128x128 z).val) (idx2_ext rfl rfl)
  refine congrArg₂ (fun a b : EReal => a * b) ?_ ?_
  · refine (ext_cast _ _ _).trans ?_
    refine congrArg x9 (funext fun a => Fin.ext ?_)
    match a with
    | 0 => rfl
    | 1 => show 128 * (i.val / 128) + 1 * (i.val % 128) = i.val; omega
    | 2 => show 128 * (c.val / 128) + 1 * (c.val % 128) = c.val; omega
  · refine congrArg x10 (funext fun a => Fin.ext ?_)
    match a with
    | 0 => rfl
    | 1 => rfl
    | 2 => rfl

end Cert.KernelIdeal.Spec

end
-- ==== Proof.Fill.lean ====
/- The fill of the dequantised weight block: its trips' stores, read back. -/
module

public import proofs.«01_k».proof.Proof.Pieces
public import proofs.«01_k».proof.Proof.Gen.KernelIdeal.Loops

@[expose] public section

set_option maxRecDepth 16384

noncomputable section

namespace Cert.KernelIdeal.Spec

open Idealize.ShloMosaic
open Cert.KernelIdeal.Gen

variable {F : FTy → Type} [FloatOps F]

theorem trips_eq : k0_t1_loop.trips = 16 := Nat.le_antisymm k0_t1_abs.2.1 (by decide +kernel)

abbrev kk (k : Fin k0_t1_loop.trips) : Fin 16 := ⟨k.val, Nat.lt_of_lt_of_eq k.isLt trips_eq⟩

theorem inbD (k : Fin 16) (n : Fin 22) : ∀ a, (![128 * k.val, 128 * n.val] : Fin 2 → Nat) a + S128x128.size a ≤ S2048x2816.size a := by
  intro a; fin_cases a <;> simp <;> omega

abbrev rectD (k : Fin 16) (n : Fin 22) : Rect S2048x2816 := Rect.unit (s := S2048x2816) ![128 * k.val, 128 * n.val] S128x128.size (inbD k n)

/-- One store of one trip. -/
theorem piece_eq (arg9 : Memref sig .tc .vmem S1x2048x2816 .fp8e4m3) (arg10 : Memref sig .tc .smem S1x16x22 .f32)
    (f9 : arg9.view.ty.Contents (Elt F)) (f10 : arg10.view.ty.Contents (Elt F)) (k : Fin k0_t1_loop.trips) (n : Fin 22)
    (o3 o4 : Fin 3 → Nat) (o5 : Fin 2 → Nat) (i3 : ∀ a, o3 a + S1x1x1.size a ≤ S1x16x22.size a)
    (i4 : ∀ a, o4 a + S1x128x128.size a ≤ S1x2048x2816.size a) (i5 : ∀ a, o5 a + S128x128.size a ≤ S2048x2816.size a)
    (j : S1x1x1.Idx) (h3 : o3 = ![0, k.val, n.val]) (h4 : o4 = ![0, 128 * k.val, 128 * n.val]) (h5 : o5 = ![128 * k.val, 128 * n.val]) :
    ((⟨Rect.unit (s := S2048x2816) o5 S128x128.size i5,
        k0_pay1 (View.readAt (Elt F) arg10.view (Rect.unit (s := S1x16x22) o3 S1x1x1.size i3).toLoadRect f10 j)
          (View.readAt (Elt F) arg9.view (Rect.unit (s := S1x2048x2816) o4 S1x128x128.size i4).toLoadRect f9)⟩ : View.Piece (Elt F) S2048x2816 .bf16))
      = ⟨rectD (kk k) n, wSq (arg9.view.read (Elt F) f9) (arg10.view.read (Elt F) f10) (kk k) n⟩ := by
  subst h3 h4 h5
  refine congrArg (Sigma.mk _) ?_
  unfold wSq
  refine congrArg₂ k0_pay1 ?_ rfl
  show arg10.view.read (Elt F) f10 _ = arg10.view.read (Elt F) f10 _
  refine congrArg _ (funext fun a => Fin.ext ?_)
  have hj : (j a).val < 1 := by
    have := (j a).isLt
    revert this
    match a with
    | 0 => exact id
    | 1 => exact id
    | 2 => exact id
  match a with
  | 0 => show 0 + 1 * (j 0).val = 0; omega
  | 1 => show k.val + 1 * (j 1).val = k.val; omega
  | 2 => show n.val + 1 * (j 2).val = n.val; omega

/-- The order one trip stores its squares in, last first. -/
abbrev down : List (Fin 22) := [21, 20, 19, 18, 17, 16, 15, 14, 13, 12, 11, 10, 9, 8, 7, 6, 5, 4, 3, 2, 1, 0]

theorem mem_down (b : Fin 22) : b ∈ down := by revert b; decide

set_option maxHeartbeats 0 in
theorem tripL_eq (𝒱 : Variants) (c : Dev nD) (bd : Option 𝒱.V) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2048 .fp8e4m3) (harg7 : arg7.IsWhole) (arg8 : Memref sig .tc .vmem S256x16 .f32) (harg8 : arg8.IsWhole) (arg9 : Memref sig .tc .vmem S1x2048x2816 .fp8e4m3) (harg9 : arg9.IsWhole) (arg10 : Memref sig .tc .smem S1x16x22 .f32) (harg10 : arg10.IsWhole) (arg11 : Memref sig .tc .vmem S256x1408 .fp8e5m2) (harg11 : arg11.IsWhole) (arg12 : Memref sig .tc .vmem S256x11 .f32) (harg12 : arg12.IsWhole) (arg13 : Memref sig .tc .vmem S256x2048 .bf16) (harg13 : arg13.IsWhole) (arg14 : Memref sig .tc .vmem S256x2816 .fp8e5m2) (harg14 : arg14.IsWhole) (arg15 : Memref sig .tc .vmem S256x22 .f32) (harg15 : arg15.IsWhole) (arg16 : Memref sig .tc .vmem S2048x2816 .bf16) (harg16 : arg16.IsWhole) (arg17 : Memref sig .tc .vmem S256x2816 .bf16) (harg17 : arg17.IsWhole) (arg0 : BitVec 32) (X_arg9 : BufTy.Contents (Elt F) arg9.view.ty) (X_arg10 : BufTy.Contents (Elt F) arg10.view.ty)  (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 X_arg9 X_arg10 k
      = down.map fun n => ⟨rectD (kk k) n, wSq (arg9.view.read (Elt F) X_arg9) (arg10.view.read (Elt F) X_arg10) (kk k) n⟩ := by
  unfold tripL_k0_t1 trip_k0_t1
  simp only [List.map]
  refine congrArg₂ List.cons (piece_eq arg9 arg10 X_arg9 X_arg10 k 21 (k0_off66 k) (k0_off67 k) _ _ _ _ _ (k0_off66_eq k) (k0_off67_eq k) (by first | rfl | exact k0_off68_eq k)) ?_
  refine congrArg₂ List.cons (piece_eq arg9 arg10 X_arg9 X_arg10 k 20 (k0_off63 k) (k0_off64 k) _ _ _ _ _ (k0_off63_eq k) (k0_off64_eq k) (by first | rfl | exact k0_off65_eq k)) ?_
  refine congrArg₂ List.cons (piece_eq arg9 arg10 X_arg9 X_arg10 k 19 (k0_off60 k) (k0_off61 k) _ _ _ _ _ (k0_off60_eq k) (k0_off61_eq k) (by first | rfl | exact k0_off62_eq k)) ?_
  refine congrArg₂ List.cons (piece_eq arg9 arg10 X_arg9 X_arg10 k 18 (k0_off57 k) (k0_off58 k) _ _ _ _ _ (k0_off57_eq k) (k0_off58_eq k) (by first | rfl | exact k0_off59_eq k)) ?_
  refine congrArg₂ List.cons (piece_eq arg9 arg10 X_arg9 X_arg10 k 17 (k0_off54 k) (k0_off55 k) _ _ _ _ _ (k0_off54_eq k) (k0_off55_eq k) (by first | rfl | exact k0_off56_eq k)) ?_
  refine congrArg₂ List.cons (piece_eq arg9 arg10 X_arg9 X_arg10 k 16 (k0_off51 k) (k0_off52 k) _ _ _ _ _ (k0_off51_eq k) (k0_off52_eq k) (by first | rfl | exact k0_off53_eq k)) ?_
  refine congrArg₂ List.cons (piece_eq arg9 arg10 X_arg9 X_arg10 k 15 (k0_off48 k) (k0_off49 k) _ _ _ _ _ (k0_off48_eq k) (k0_off49_eq k) (by first | rfl | exact k0_off50_eq k)) ?_
  refine congrArg₂ List.cons (piece_eq arg9 arg10 X_arg9 X_arg10 k 14 (k0_off45 k) (k0_off46 k) _ _ _ _ _ (k0_off45_eq k) (k0_off46_eq k) (by first | rfl | exact k0_off47_eq k)) ?_
  refine congrArg₂ List.cons (piece_eq arg9 arg10 X_arg9 X_arg10 k 13 (k0_off42 k) (k0_off43 k) _ _ _ _ _ (k0_off42_eq k) (k0_off43_eq k) (by first | rfl | exact k0_off44_eq k)) ?_
  refine congrArg₂ List.cons (piece_eq arg9 arg10 X_arg9 X_arg10 k 12 (k0_off39 k) (k0_off40 k) _ _ _ _ _ (k0_off39_eq k) (k0_off40_eq k) (by first | rfl | exact k0_off41_eq k)) ?_
  refine congrArg₂ List.cons (piece_eq arg9 arg10 X_arg9 X_arg10 k 11 (k0_off36 k) (k0_off37 k) _ _ _ _ _ (k0_off36_eq k) (k0_off37_eq k) (by first | rfl | exact k0_off38_eq k)) ?_
  refine congrArg₂ List.cons (piece_eq arg9 arg10 X_arg9 X_arg10 k 10 (k0_off33 k) (k0_off34 k) _ _ _ _ _ (k0_off33_eq k) (k0_off34_eq k) (by first | rfl | exact k0_off35_eq k)) ?_
  refine congrArg₂ List.cons (piece_eq arg9 arg10 X_arg9 X_arg10 k 9 (k0_off30 k) (k0_off31 k) _ _ _ _ _ (k0_off30_eq k) (k0_off31_eq k) (by first | rfl | exact k0_off32_eq k)) ?_
  refine congrArg₂ List.cons (piece_eq arg9 arg10 X_arg9 X_arg10 k 8 (k0_off27 k) (k0_off28 k) _ _ _ _ _ (k0_off27_eq k) (k0_off28_eq k) (by first | rfl | exact k0_off29_eq k)) ?_
  refine congrArg₂ List.cons (piece_eq arg9 arg10 X_arg9 X_arg10 k 7 (k0_off24 k) (k0_off25 k) _ _ _ _ _ (k0_off24_eq k) (k0_off25_eq k) (by first | rfl | exact k0_off26_eq k)) ?_
  refine congrArg₂ List.cons (piece_eq arg9 arg10 X_arg9 X_arg10 k 6 (k0_off21 k) (k0_off22 k) _ _ _ _ _ (k0_off21_eq k) (k0_off22_eq k) (by first | rfl | exact k0_off23_eq k)) ?_
  refine congrArg₂ List.cons (piece_eq arg9 arg10 X_arg9 X_arg10 k 5 (k0_off18 k) (k0_off19 k) _ _ _ _ _ (k0_off18_eq k) (k0_off19_eq k) (by first | rfl | exact k0_off20_eq k)) ?_
  refine congrArg₂ List.cons (piece_eq arg9 arg10 X_arg9 X_arg10 k 4 (k0_off15 k) (k0_off16 k) _ _ _ _ _ (k0_off15_eq k) (k0_off16_eq k) (by first | rfl | exact k0_off17_eq k)) ?_
  refine congrArg₂ List.cons (piece_eq arg9 arg10 X_arg9 X_arg10 k 3 (k0_off12 k) (k0_off13 k) _ _ _ _ _ (k0_off12_eq k) (k0_off13_eq k) (by first | rfl | exact k0_off14_eq k)) ?_
  refine congrArg₂ List.cons (piece_eq arg9 arg10 X_arg9 X_arg10 k 2 (k0_off9 k) (k0_off10 k) _ _ _ _ _ (k0_off9_eq k) (k0_off10_eq k) (by first | rfl | exact k0_off11_eq k)) ?_
  refine congrArg₂ List.cons (piece_eq arg9 arg10 X_arg9 X_arg10 k 1 (k0_off6 k) (k0_off7 k) _ _ _ _ _ (k0_off6_eq k) (k0_off7_eq k) (by first | rfl | exact k0_off8_eq k)) ?_
  refine congrArg₂ List.cons (piece_eq arg9 arg10 X_arg9 X_arg10 k 0 (k0_off3 k) (k0_off4 k) _ _ _ _ _ (k0_off3_eq k) (k0_off4_eq k) (by first | rfl | exact k0_off5_eq k)) ?_
  rfl

theorem sq_emb (x9 : Vec F S1x2048x2816 .fp8e4m3) (x10 : Vec F S1x16x22 .f32) (k : Fin 16) (n : Fin 22) (x : S128x128.Idx) :
    wSq x9 x10 k n x = wdFill x9 x10 ((rectD k n).emb x) := by
  have h0 : ((rectD k n).emb x 0).val = 128 * k.val + (x 0).val := by
    show 128 * k.val + 1 * (x 0).val = _
    omega
  have h1 : ((rectD k n).emb x 1).val = 128 * n.val + (x 1).val := by
    show 128 * n.val + 1 * (x 1).val = _
    omega
  have hx0 : (x 0).val < 128 := (x 0).isLt
  have hx1 : (x 1).val < 128 := (x 1).isLt
  unfold wdFill
  have hk : (⟨((rectD k n).emb x 0).val / 128, Nat.div_lt_of_lt_mul ((rectD k n).emb x 0).isLt⟩ : Fin 16) = k := Fin.ext (by
    show ((rectD k n).emb x 0).val / 128 = k.val
    rw [h0]; omega)
  have hn : (⟨((rectD k n).emb x 1).val / 128, Nat.div_lt_of_lt_mul ((rectD k n).emb x 1).isLt⟩ : Fin 22) = n := Fin.ext (by
    show ((rectD k n).emb x 1).val / 128 = n.val
    rw [h1]; omega)
  rw [hk, hn]
  refine congrArg (wSq x9 x10 k n) (funext fun a => Fin.ext ?_)
  match a with
  | 0 => show (x 0).val = ((rectD k n).emb x 0).val % 128; rw [h0]; omega
  | 1 => show (x 1).val = ((rectD k n).emb x 1).val % 128; rw [h1]; omega

theorem mem_pb (𝒱 : Variants) (c : Dev nD) (bd : Option 𝒱.V) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2048 .fp8e4m3) (harg7 : arg7.IsWhole) (arg8 : Memref sig .tc .vmem S256x16 .f32) (harg8 : arg8.IsWhole) (arg9 : Memref sig .tc .vmem S1x2048x2816 .fp8e4m3) (harg9 : arg9.IsWhole) (arg10 : Memref sig .tc .smem S1x16x22 .f32) (harg10 : arg10.IsWhole) (arg11 : Memref sig .tc .vmem S256x1408 .fp8e5m2) (harg11 : arg11.IsWhole) (arg12 : Memref sig .tc .vmem S256x11 .f32) (harg12 : arg12.IsWhole) (arg13 : Memref sig .tc .vmem S256x2048 .bf16) (harg13 : arg13.IsWhole) (arg14 : Memref sig .tc .vmem S256x2816 .fp8e5m2) (harg14 : arg14.IsWhole) (arg15 : Memref sig .tc .vmem S256x22 .f32) (harg15 : arg15.IsWhole) (arg16 : Memref sig .tc .vmem S2048x2816 .bf16) (harg16 : arg16.IsWhole) (arg17 : Memref sig .tc .vmem S256x2816 .bf16) (harg17 : arg17.IsWhole) (arg0 : BitVec 32) (X_arg9 : BufTy.Contents (Elt F) arg9.view.ty) (X_arg10 : BufTy.Contents (Elt F) arg10.view.ty)  : ∀ K : Nat, K ≤ k0_t1_loop.trips →
    (∀ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 X_arg9 X_arg10 K, ∃ (k : Fin 16) (n : Fin 22),
      p = ⟨rectD k n, wSq (arg9.view.read (Elt F) X_arg9) (arg10.view.read (Elt F) X_arg10) k n⟩) ∧
    ∀ (k : Fin 16) (n : Fin 22), k.val < K →
      (⟨rectD k n, wSq (arg9.view.read (Elt F) X_arg9) (arg10.view.read (Elt F) X_arg10) k n⟩ : View.Piece (Elt F) S2048x2816 .bf16)
        ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 X_arg9 X_arg10 K := by
  intro K
  induction K with
  | zero =>
    intro _
    exact ⟨fun p hp => absurd hp (by rw [pb_k0_t1.eq_1]; exact List.not_mem_nil), fun k n hk => absurd hk (Nat.not_lt_zero _)⟩
  | succ K ih =>
    intro hK
    obtain ⟨h1, h2⟩ := ih (by omega)
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 X_arg9 X_arg10 ⟨K, hK⟩
    rw [tripL_eq] at hs
    replace hs : pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 X_arg9 X_arg10 (K + 1) = _ := hs
    rw [hs]
    refine ⟨fun p hp => ?_, fun k n hk => ?_⟩
    · rcases List.mem_append.1 hp with hp | hp
      · obtain ⟨n, -, rfl⟩ := List.mem_map.1 hp
        exact ⟨_, n, rfl⟩
      · exact h1 p hp
    · rcases Nat.lt_succ_iff_lt_or_eq.1 hk with hk | hk
      · exact List.mem_append_right _ (h2 k n hk)
      · refine List.mem_append_left _ (List.mem_map.2 ⟨n, mem_down n, ?_⟩)
        have : kk ⟨K, hK⟩ = k := Fin.ext hk.symm
        rw [this]

/-- The buffer after the fill, whatever it held. -/
theorem fill_read (𝒱 : Variants) (c : Dev nD) (bd : Option 𝒱.V) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2048 .fp8e4m3) (harg7 : arg7.IsWhole) (arg8 : Memref sig .tc .vmem S256x16 .f32) (harg8 : arg8.IsWhole) (arg9 : Memref sig .tc .vmem S1x2048x2816 .fp8e4m3) (harg9 : arg9.IsWhole) (arg10 : Memref sig .tc .smem S1x16x22 .f32) (harg10 : arg10.IsWhole) (arg11 : Memref sig .tc .vmem S256x1408 .fp8e5m2) (harg11 : arg11.IsWhole) (arg12 : Memref sig .tc .vmem S256x11 .f32) (harg12 : arg12.IsWhole) (arg13 : Memref sig .tc .vmem S256x2048 .bf16) (harg13 : arg13.IsWhole) (arg14 : Memref sig .tc .vmem S256x2816 .fp8e5m2) (harg14 : arg14.IsWhole) (arg15 : Memref sig .tc .vmem S256x22 .f32) (harg15 : arg15.IsWhole) (arg16 : Memref sig .tc .vmem S2048x2816 .bf16) (harg16 : arg16.IsWhole) (arg17 : Memref sig .tc .vmem S256x2816 .bf16) (harg17 : arg17.IsWhole) (arg0 : BitVec 32) (X_arg9 : BufTy.Contents (Elt F) arg9.view.ty) (X_arg10 : BufTy.Contents (Elt F) arg10.view.ty)  (f : arg16.view.ty.Contents (Elt F)) :
    arg16.view.read (Elt F) (arg16.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 X_arg9 X_arg10 (Scf.trips k0_t1_loop.lb k0_t1_loop.ub k0_t1_loop.st)))
      = wdFill (arg9.view.read (Elt F) X_arg9) (arg10.view.read (Elt F) X_arg10) := by
  obtain ⟨h1, h2⟩ := mem_pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 X_arg9 X_arg10 (Scf.trips k0_t1_loop.lb k0_t1_loop.ub k0_t1_loop.st) (Nat.le_refl _)
  funext y
  refine View.read_writes_apply_of_pieces arg16.view f (wdFill _ _) _ ?_ y ?_
  · intro p hp
    obtain ⟨k, n, rfl⟩ := h1 p hp
    intro x
    exact sq_emb _ _ k n x
  · have hy0 : (y 0).val < 2048 := (y 0).isLt
    have hy1 : (y 1).val < 2816 := (y 1).isLt
    refine ⟨_, h2 ⟨(y 0).val / 128, by omega⟩ ⟨(y 1).val / 128, by omega⟩ (Nat.lt_of_lt_of_eq (show (y 0).val / 128 < 16 by omega) trips_eq.symm), ?_⟩
    rw [Rect.mem_set_unit]
    intro a
    match a with
    | 0 => exact ⟨by show 128 * ((y 0).val / 128) ≤ (y 0).val; omega, by show (y 0).val < 128 * ((y 0).val / 128) + 128; omega⟩
    | 1 => exact ⟨by show 128 * ((y 1).val / 128) ≤ (y 1).val; omega, by show (y 1).val < 128 * ((y 1).val / 128) + 128; omega⟩

end Cert.KernelIdeal.Spec

end
-- ==== Proof.KernelIdealStep.lean ====
/- What one grid point of the kernel leaves: its three results in the visit's rows, and the dequantised weights. -/
module

public import proofs.«01_k».proof.Proof.KernelIdealHost
public import proofs.«01_k».proof.Proof.Fill
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Spec

variable {F : FTy → Type} [FloatOps F]

local notation "𝕄" => MT nD τ sig Unit (Elt F) ℕ (UR sig nD τ) ℕ

/-- The word a grid point reads of a table. -/
def word1 (c : Dev nD) (i : grid0.Coords) (M : Memref sig .tc .smem S63 .i32) (t : TbBuf (F := F) c M) : BitVec 32 :=
  View.readAt (Elt F) M.view (Rect.unit (s := S63) (k0_off1 i) S1.size (k0_off1_inb i)).toLoadRect t (Shape.Idx.first (numel1_S1.symm ▸ Nat.one_pos : 0 < S1.numel))
def word2 (c : Dev nD) (i : grid0.Coords) (M : Memref sig .tc .smem S63 .i32) (t : TbBuf (F := F) c M) : BitVec 32 :=
  View.readAt (Elt F) M.view (Rect.unit (s := S63) (k0_off2 i) S1.size (k0_off2_inb i)).toLoadRect t (Shape.Idx.first (numel1_S1.symm ▸ Nat.one_pos : 0 < S1.numel))

/-- Whether the visit is the first of its expert. -/
def fresh (w : BitVec 32) : Prop := Scalar.cmpi .ne (Scalar.extui (Scalar.cmpi .eq w 1#32)) 0#32 = 1#1

instance (w : BitVec 32) : Decidable (fresh w) := inferInstanceAs (Decidable (_ = _))

/-- The weights the visit works with. -/
def newD (w : BitVec 32) (x9 : Vec F S1x2048x2816 .fp8e4m3) (x10 : Vec F S1x16x22 .f32) (d : Vec F S2048x2816 .bf16) : Vec F S2048x2816 .bf16 :=
  if fresh w then wdFill x9 x10 else d

variable (lo hi ne : BitVec 32) (x7 : Vec F S256x2048 .fp8e4m3) (x8 : Vec F S256x16 .f32) (x9 : Vec F S1x2048x2816 .fp8e4m3) (x10 : Vec F S1x16x22 .f32)
  (x11 : Vec F S256x1408 .fp8e5m2) (x12 : Vec F S256x11 .f32) (d : Vec F S2048x2816 .bf16)

def outX (x13 : Vec F S256x2048 .bf16) : Vec F S256x2048 .bf16 :=
  if k0_cond1 lo hi = 1#1 then dxOut (keep lo hi) (glue fun b => deq (val (xd x7 x8) (newD ne x9 x10 d) x11 x12 b)) (newD ne x9 x10 d) x13 else x13

def outC (x14 : Vec F S256x2816 .fp8e5m2) : Vec F S256x2816 .fp8e5m2 :=
  if k0_cond1 lo hi = 1#1 then
    glue fun b => codesPiece (keep lo hi) (val (xd x7 x8) (newD ne x9 x10 d) x11 x12 b) (View.ld x14 (rectC b))
  else x14

def outS (x15 : Vec F S256x22 .f32) : Vec F S256x22 .f32 :=
  if k0_cond1 lo hi = 1#1 then scalesOut (keep lo hi) (val (xd x7 x8) (newD ne x9 x10 d) x11 x12) x15 else x15

def outD : Vec F S2048x2816 .bf16 := if k0_cond1 lo hi = 1#1 then newD ne x9 x10 d else d

theorem ld_whole2 {a b : ℕ} {e : EltTy} {inb} (X : Vec F ⟨2, ![a, b]⟩ e) :
    (View.ld X (Rect.unit (s := ⟨2, ![a, b]⟩) ![0, 0] (Shape.size ⟨2, ![a, b]⟩) inb) : Vec F ⟨2, ![a, b]⟩ e) = X := by
  funext y
  refine congrArg X (funext fun k => Fin.ext ?_)
  match k with
  | 0 => show 0 + 1 * (y 0).val = (y 0).val; omega
  | 1 => show 0 + 1 * (y 1).val = (y 1).val; omega

theorem dx_eq (k : IVec S256x1 1) (v17 : View sig .tc .vmem S256x2816 .bf16) (v16 : View sig .tc .vmem S2048x2816 .bf16) (v13 : View sig .tc .vmem S256x2048 .bf16)
    (f17 : v17.ty.Contents (Elt F)) (L17) (f16 : v16.ty.Contents (Elt F)) (f13 : v13.ty.Contents (Elt F)) (Q : FVec F S256x2816 .bf16)
    (hQ : v17.read (Elt F) (v17.writes (Elt F) f17 L17) = Q) :
    dxOut k (View.ld (v17.read (Elt F) (v17.writes (Elt F) f17 L17)) (Rect.unit (s := S256x2816) ![0, 0] S256x2816.size inb_S256x2816_S256x2816_0_0))
      (View.ld (v16.read (Elt F) f16) (Rect.unit (s := S2048x2816) ![0, 0] S2048x2816.size inb_S2048x2816_S2048x2816_0_0))
      (View.ld (v13.read (Elt F) f13) (Rect.unit (s := S256x2048) ![0, 0] S256x2048.size inb_S256x2048_S256x2048_0_0))
    = dxOut k Q (v16.read (Elt F) f16) (v13.read (Elt F) f13) := by
  have e1 := (ld_whole2 (inb := inb_S256x2816_S256x2816_0_0) (v17.read (Elt F) (v17.writes (Elt F) f17 L17))).trans hQ
  have e2 := ld_whole2 (inb := inb_S2048x2816_S2048x2816_0_0) (v16.read (Elt F) f16)
  have e3 := ld_whole2 (inb := inb_S256x2048_S256x2048_0_0) (v13.read (Elt F) f13)
  exact congr (congr (congrArg (dxOut k) e1) e2) e3

set_option maxHeartbeats 0 in
theorem run_value (c : Dev nD) (E : Set ℕ) (i : grid0.Coords) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2048 .fp8e4m3) (harg7 : arg7.IsWhole) (arg8 : Memref sig .tc .vmem S256x16 .f32) (harg8 : arg8.IsWhole) (arg9 : Memref sig .tc .vmem S1x2048x2816 .fp8e4m3) (harg9 : arg9.IsWhole) (arg10 : Memref sig .tc .smem S1x16x22 .f32) (harg10 : arg10.IsWhole) (arg11 : Memref sig .tc .vmem S256x1408 .fp8e5m2) (harg11 : arg11.IsWhole) (arg12 : Memref sig .tc .vmem S256x11 .f32) (harg12 : arg12.IsWhole) (arg13 : Memref sig .tc .vmem S256x2048 .bf16) (harg13 : arg13.IsWhole) (arg14 : Memref sig .tc .vmem S256x2816 .fp8e5m2) (harg14 : arg14.IsWhole) (arg15 : Memref sig .tc .vmem S256x22 .f32) (harg15 : arg15.IsWhole) (arg16 : Memref sig .tc .vmem S2048x2816 .bf16) (harg16 : arg16.IsWhole) (arg17 : Memref sig .tc .vmem S256x2816 .bf16) (harg17 : arg17.IsWhole)
    (t1 : TbBuf (F := F) c arg1) (t2 : TbBuf (F := F) c arg2) (t3 : TbBuf (F := F) c arg3) (t4 : TbBuf (F := F) c arg4) (t5 : TbBuf (F := F) c arg5) (t6 : TbBuf (F := F) c arg6)
    (x7 : Vec F S256x2048 .fp8e4m3) (x8 : Vec F S256x16 .f32) (x9 : Vec F S1x2048x2816 .fp8e4m3) (x10 : Vec F S1x16x22 .f32) (x11 : Vec F S256x1408 .fp8e5m2) (x12 : Vec F S256x11 .f32) (x13 : Vec F S256x2048 .bf16) (x14 : Vec F S256x2816 .fp8e5m2) (x15 : Vec F S256x22 .f32) (x16 : Vec F S2048x2816 .bf16) (K : PUnit → sProp 𝕄) :
    iprop(tbPt c arg1 t1 ∗ tbPt c arg2 t2 ∗ tbPt c arg3 t3 ∗ tbPt c arg4 t4 ∗ tbPt c arg5 t5 ∗ tbPt c arg6 t6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d)
        ∗ (iprop(tbPt c arg1 t1 ∗ tbPt c arg2 t2 ∗ tbPt c arg3 t3 ∗ tbPt c arg4 t4 ∗ tbPt c arg5 t5 ∗ tbPt c arg6 t6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outX (word1 c i arg3 t3) (word1 c i arg4 t4) (word2 c i arg5 t5) x7 x8 x9 x10 x11 x12 x16 x13) ∗ owns (c : Thread nD τ) arg14 fullShare (outC (word1 c i arg3 t3) (word1 c i arg4 t4) (word2 c i arg5 t5) x7 x8 x9 x10 x11 x12 x16 x14)
          ∗ owns (c : Thread nD τ) arg15 fullShare (outS (word1 c i arg3 t3) (word1 c i arg4 t4) (word2 c i arg5 t5) x7 x8 x9 x10 x11 x12 x16 x15) ∗ owns (c : Thread nD τ) arg16 fullShare (outD (word1 c i arg3 t3) (word1 c i arg4 t4) (word2 c i arg5 t5) x9 x10 x16)
          ∗ (∃ d, owns (c : Thread nD τ) arg17 fullShare d)) -∗ K ⟨⟩))
      ⊢ wp frame (wpE (defs₀ (F := F)) Variants.none c none) E (cc0_moe_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_moe_bwd_eq_skeleton]; unfold cc0_moe_bwd_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
  unfold owns
  iintro ⟨HT1, HT2, HT3, HT4, HT5, HT6, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf7 hf8 hf9 hf10 hf11 hf12 hf13 hf14 hf15 hf16
  sl_exec
  split
  · rename_i hlive
    sl_exec
    split
    · rename_i hfresh
      sl_exec
      have hl : k0_cond1 (word1 c i arg3 t3) (word1 c i arg4 t4) = 1#1 := hlive
      have hD : arg16.view.read (Elt F) (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) f9 f10 (Scf.trips k0_t1_loop.lb k0_t1_loop.ub k0_t1_loop.st))) = newD (word2 c i arg5 t5) (arg9.view.read (Elt F) f9) (arg10.view.read (Elt F) f10) (arg16.view.read (Elt F) f16) :=
        (fill_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) f9 f10 f16).trans (if_pos (show fresh (word2 c i arg5 t5) from hfresh)).symm
      sl_step
      iapply Hk
      isplitl [HT1]; · iexact HT1
      isplitl [HT2]; · iexact HT2
      isplitl [HT3]; · iexact HT3
      isplitl [HT4]; · iexact HT4
      isplitl [HT5]; · iexact HT5
      isplitl [HT6]; · iexact HT6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists _; isplitr
        swap; · iexact H13
        ipureintro
        unfold outX; rw [if_pos hl, ← hD]
        refine (View.read_writes_full arg13.view f13 _ _ []).trans ?_
        exact dx_eq (keep (word1 c i arg3 t3) (word1 c i arg4 t4)) arg17.view arg16.view arg13.view arg17.view.junk (order.map fun b => ⟨rectC b, deq ((val (xd (arg7.view.read (Elt F) f7) (arg8.view.read (Elt F) f8)) (arg16.view.read (Elt F) (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) f9 f10 (Scf.trips k0_t1_loop.lb k0_t1_loop.ub k0_t1_loop.st)))) (arg11.view.read (Elt F) f11) (arg12.view.read (Elt F) f12)) b)⟩) (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) f9 f10 (Scf.trips k0_t1_loop.lb k0_t1_loop.ub k0_t1_loop.st))) f13 _ (glue_read arg17.view arg17.view.junk (fun b => deq ((val (xd (arg7.view.read (Elt F) f7) (arg8.view.read (Elt F) f8)) (arg16.view.read (Elt F) (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) f9 f10 (Scf.trips k0_t1_loop.lb k0_t1_loop.ub k0_t1_loop.st)))) (arg11.view.read (Elt F) f11) (arg12.view.read (Elt F) f12)) b)))
      isplitl [H14]
      · iexists _; isplitr
        swap; · iexact H14
        ipureintro
        unfold outC; rw [if_pos hl, ← hD]
        exact glue_read arg14.view f14 (fun b => codesPiece (keep (word1 c i arg3 t3) (word1 c i arg4 t4)) ((val (xd (arg7.view.read (Elt F) f7) (arg8.view.read (Elt F) f8)) (arg16.view.read (Elt F) (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) f9 f10 (Scf.trips k0_t1_loop.lb k0_t1_loop.ub k0_t1_loop.st)))) (arg11.view.read (Elt F) f11) (arg12.view.read (Elt F) f12)) b) (View.ld (arg14.view.read (Elt F) f14) (rectC b)))
      isplitl [H15]
      · iexists _; isplitr
        swap; · iexact H15
        ipureintro
        unfold outS; rw [if_pos hl, ← hD]
        refine (View.read_writes_full arg15.view f15 _ _ []).trans ?_
        exact congrArg (scalesOut (keep (word1 c i arg3 t3) (word1 c i arg4 t4)) (val (xd (arg7.view.read (Elt F) f7) (arg8.view.read (Elt F) f8)) (arg16.view.read (Elt F) (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) f9 f10 (Scf.trips k0_t1_loop.lb k0_t1_loop.ub k0_t1_loop.st)))) (arg11.view.read (Elt F) f11) (arg12.view.read (Elt F) f12))) (ld_whole2 (arg15.view.read (Elt F) f15))
      isplitl [H16]
      · iexists _; isplitr
        swap; · iexact H16
        ipureintro
        unfold outD; rw [if_pos hl, ← hD]
      iexists _; iexists _; isplitr
      swap; · iexact H17
      ipureintro; rfl
    · rename_i hfresh
      sl_exec
      have hl : k0_cond1 (word1 c i arg3 t3) (word1 c i arg4 t4) = 1#1 := hlive
      have hD : arg16.view.read (Elt F) f16 = newD (word2 c i arg5 t5) (arg9.view.read (Elt F) f9) (arg10.view.read (Elt F) f10) (arg16.view.read (Elt F) f16) :=
        (if_neg (show ¬ fresh (word2 c i arg5 t5) from hfresh)).symm
      sl_step
      iapply Hk
      isplitl [HT1]; · iexact HT1
      isplitl [HT2]; · iexact HT2
      isplitl [HT3]; · iexact HT3
      isplitl [HT4]; · iexact HT4
      isplitl [HT5]; · iexact HT5
      isplitl [HT6]; · iexact HT6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists _; isplitr
        swap; · iexact H13
        ipureintro
        unfold outX; rw [if_pos hl, ← hD]
        refine (View.read_writes_full arg13.view f13 _ _ []).trans ?_
        exact dx_eq (keep (word1 c i arg3 t3) (word1 c i arg4 t4)) arg17.view arg16.view arg13.view arg17.view.junk (order.map fun b => ⟨rectC b, deq ((val (xd (arg7.view.read (Elt F) f7) (arg8.view.read (Elt F) f8)) (arg16.view.read (Elt F) f16) (arg11.view.read (Elt F) f11) (arg12.view.read (Elt F) f12)) b)⟩) f16 f13 _ (glue_read arg17.view arg17.view.junk (fun b => deq ((val (xd (arg7.view.read (Elt F) f7) (arg8.view.read (Elt F) f8)) (arg16.view.read (Elt F) f16) (arg11.view.read (Elt F) f11) (arg12.view.read (Elt F) f12)) b)))
      isplitl [H14]
      · iexists _; isplitr
        swap; · iexact H14
        ipureintro
        unfold outC; rw [if_pos hl, ← hD]
        exact glue_read arg14.view f14 (fun b => codesPiece (keep (word1 c i arg3 t3) (word1 c i arg4 t4)) ((val (xd (arg7.view.read (Elt F) f7) (arg8.view.read (Elt F) f8)) (arg16.view.read (Elt F) f16) (arg11.view.read (Elt F) f11) (arg12.view.read (Elt F) f12)) b) (View.ld (arg14.view.read (Elt F) f14) (rectC b)))
      isplitl [H15]
      · iexists _; isplitr
        swap; · iexact H15
        ipureintro
        unfold outS; rw [if_pos hl, ← hD]
        refine (View.read_writes_full arg15.view f15 _ _ []).trans ?_
        exact congrArg (scalesOut (keep (word1 c i arg3 t3) (word1 c i arg4 t4)) (val (xd (arg7.view.read (Elt F) f7) (arg8.view.read (Elt F) f8)) (arg16.view.read (Elt F) f16) (arg11.view.read (Elt F) f11) (arg12.view.read (Elt F) f12))) (ld_whole2 (arg15.view.read (Elt F) f15))
      isplitl [H16]
      · iexists _; isplitr
        swap; · iexact H16
        ipureintro
        unfold outD; rw [if_pos hl, ← hD]
      iexists _; iexists _; isplitr
      swap; · iexact H17
      ipureintro; rfl
  · rename_i hlive
    sl_exec
    sl_step
    iapply Hk
    isplitl [HT1]; · iexact HT1
    isplitl [HT2]; · iexact HT2
    isplitl [HT3]; · iexact HT3
    isplitl [HT4]; · iexact HT4
    isplitl [HT5]; · iexact HT5
    isplitl [HT6]; · iexact HT6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; isplitr
      swap; · iexact H13
      ipureintro
      exact (if_neg hlive).symm
    isplitl [H14]
    · iexists _; isplitr
      swap; · iexact H14
      ipureintro
      exact (if_neg hlive).symm
    isplitl [H15]
    · iexists _; isplitr
      swap; · iexact H15
      ipureintro
      exact (if_neg hlive).symm
    isplitl [H16]
    · iexists _; isplitr
      swap; · iexact H16
      ipureintro
      exact (if_neg hlive).symm
    iexists _; iexists _; isplitr
    swap; · iexact H17
    ipureintro; rfl

end Cert.KernelIdeal.Hand

end
-- ==== Proof.KernelIdealRows.lean ====
/- What one visit leaves in its three blocks, row by row: the visit's own rows hold the row's results, the others stay. -/
module

public import proofs.«01_k».proof.Proof.KernelIdealRead2
public import proofs.«01_k».proof.Proof.KernelIdealStep

@[expose] public section

set_option maxRecDepth 16384

noncomputable section

namespace Cert.KernelIdeal.Hand

open Idealize.ShloMosaic
open Cert.KernelIdeal.Gen Cert.KernelIdeal.Spec

/-- Row `r` of tile `t`. -/
def rowAt (t : Fin 32) (r : Fin 256) : Fin 8192 := ⟨t.val * 256 + r.val, by omega⟩

theorem toInt_small (a : ℕ) (h : a ≤ 256) : (BitVec.ofNat 32 a).toInt = (a : ℤ) := by
  rw [BitVec.toInt_eq_toNat_of_lt (by rw [BitVec.toNat_ofNat]; omega), BitVec.toNat_ofNat, Nat.mod_eq_of_lt (by omega)]

theorem slt_small (a b : ℕ) (ha : a ≤ 256) (hb : b ≤ 256) : (BitVec.ofNat 32 a).slt (BitVec.ofNat 32 b) = decide (a < b) := by
  rw [BitVec.slt, toInt_small a ha, toInt_small b hb]
  simp only [Nat.cast_lt]

theorem sle_small (a b : ℕ) (ha : a ≤ 256) (hb : b ≤ 256) : (BitVec.ofNat 32 a).sle (BitVec.ofNat 32 b) = decide (a ≤ b) := by
  rw [BitVec.sle, toInt_small a ha, toInt_small b hb]
  simp only [Nat.cast_le]

/-- Whether a row is the visit's own. -/
theorem keep_apply (l h : ℕ) (hl : l ≤ 256) (hh : h ≤ 256) (r : Fin 256) :
    keep (BitVec.ofNat 32 l) (BitVec.ofNat 32 h) (ix2 r (0 : Fin 1)) = BitVec.ofBool (decide (l ≤ r.val ∧ r.val < h)) := by
  show IntOp.andi (BitVec.ofBool ((BitVec.ofNat 32 l).sle (BitVec.ofNat 32 (0 * 256 + r.val))))
    (BitVec.ofBool ((BitVec.ofNat 32 (0 * 256 + r.val)).slt (BitVec.ofNat 32 h))) = _
  rw [Nat.zero_mul, Nat.zero_add, sle_small l r.val hl (by omega), slt_small r.val h (by omega) hh]
  by_cases h1 : l ≤ r.val <;> by_cases h2 : r.val < h <;> simp [h1, h2, IntOp.andi]

theorem select_ofBool {p : Prop} [Decidable p] (a b : EReal) : Scalar.select (BitVec.ofBool (decide p)) a b = if p then a else b := by
  by_cases h : p
  · rw [if_pos h, decide_eq_true h]; rfl
  · rw [if_neg h, decide_eq_false h]; rfl

theorem cond_iff (l h : ℕ) (hl : l ≤ 256) (hh : h ≤ 256) : k0_cond1 (BitVec.ofNat 32 l) (BitVec.ofNat 32 h) = 1#1 ↔ l < h := by
  have e : k0_cond1 (BitVec.ofNat 32 l) (BitVec.ofNat 32 h) = BitVec.ofBool (decide (l < h)) := by
    rw [← slt_small l h hl hh]
    show IntOp.cmpi .ne ((BitVec.ofBool ((BitVec.ofNat 32 l).slt (BitVec.ofNat 32 h))).zeroExtend 32) 0#32 = _
    cases (BitVec.ofNat 32 l).slt (BitVec.ofNat 32 h) <;> rfl
  rw [e]
  by_cases h' : l < h <;> simp [h']

variable (ne : BitVec 32)
  (x7 : Vec Ideal S256x2048 .fp8e4m3) (x8 : Vec Ideal S256x16 .f32) (x9 : Vec Ideal S1x2048x2816 .fp8e4m3) (x10 : Vec Ideal S1x16x22 .f32)
  (x11 : Vec Ideal S256x1408 .fp8e5m2) (x12 : Vec Ideal S256x11 .f32) (d : Vec Ideal S2048x2816 .bf16)
  (A : Moe.Arr) (t e : Fin 32)
  (h7 : ∀ (r : Fin 256) k, x7 (ix2 r k) = A.x (rowAt t r) k)
  (h8 : ∀ (r : Fin 256) k, x8 (ix2 r k) = A.xs (rowAt t r) k)
  (h11 : ∀ (r : Fin 256) k, x11 (ix2 r k) = A.h (rowAt t r) k)
  (h12 : ∀ (r : Fin 256) k, x12 (ix2 r k) = A.hs (rowAt t r) k)
  (hD : ∀ k c, newD ne x9 x10 d (ix2 k c) = A.D e k c)

include h7 h8 h11 h12 hD in
theorem vrow_eq (r : Fin 256) : vrow (xd (F := Ideal) x7 x8) (newD ne x9 x10 d) x11 x12 r = A.V (rowAt t r) e := by
  have e1 : (fun k => xd (F := Ideal) x7 x8 (ix2 r k)) = A.row (rowAt t r) := funext fun k => by
    rw [xd_apply, h7, h8]; rfl
  have e2 : (fun k c => newD ne x9 x10 d (ix2 k c)) = A.D e := funext fun k => funext fun c => hD k c
  have e3 : hrow x11 x12 r = A.H (rowAt t r) := funext fun c => by
    unfold hrow; rw [h11, h12]; rfl
  exact congr (congrArg Moe.val (congr (congrArg Moe.gu e1) e2)) e3

include h7 h8 h11 h12 hD in
theorem val_row (r : Fin 256) (b : Fin 22) : (fun l => val (F := Ideal) (xd x7 x8) (newD ne x9 x10 d) x11 x12 b (ix2 r l))
    = Moe.blk (A.V (rowAt t r) e) b := by
  refine funext fun q => ?_
  rw [val_apply, vrow_eq ne x7 x8 x9 x10 x11 x12 d A t e h7 h8 h11 h12 hD r]

variable (l h : ℕ) (hl : l ≤ 256) (hh : h ≤ 256)

include hl hh in
theorem dead {α : Type} (hc : ¬ k0_cond1 (BitVec.ofNat 32 l) (BitVec.ofNat 32 h) = 1#1) (r : Fin 256) (a b : α) :
    b = if l ≤ r.val ∧ r.val < h then a else b := by
  rw [cond_iff l h hl hh] at hc
  rw [if_neg (by omega)]

include hl hh h7 h8 h11 h12 hD in
theorem outX_row (x13 : Vec Ideal S256x2048 .bf16) (r : Fin 256) (c : Fin 2048) :
    outX (F := Ideal) (BitVec.ofNat 32 l) (BitVec.ofNat 32 h) ne x7 x8 x9 x10 x11 x12 d x13 (ix2 r c)
      = if l ≤ r.val ∧ r.val < h then A.X (rowAt t r) e c else (x13 (ix2 r c) : EReal) := by
  unfold outX
  by_cases hc : k0_cond1 (BitVec.ofNat 32 l) (BitVec.ofNat 32 h) = 1#1
  · rw [if_pos hc, dxOut_apply, keep_apply l h hl hh, select_ofBool]
    refine if_congr Iff.rfl (show _ = ∑ j : Fin 2816, (Moe.rowC (A.V (rowAt t r) e) j * Moe.rowS (A.V (rowAt t r) e) (Moe.bk j)) * A.D e c j from
      Finset.sum_congr rfl fun j _ => ?_) rfl
    refine congrArg₂ (fun a b : EReal => a * b) ?_ (hD c j)
    rw [glue_ix2, deq_apply, val_row ne x7 x8 x9 x10 x11 x12 d A t e h7 h8 h11 h12 hD r]
    rfl
  · rw [if_neg hc]; exact dead l h hl hh hc r _ _

include hl hh h7 h8 h11 h12 hD in
theorem outC_row (x14 : Vec Ideal S256x2816 .fp8e5m2) (r : Fin 256) (c : Fin 2816) :
    outC (F := Ideal) (BitVec.ofNat 32 l) (BitVec.ofNat 32 h) ne x7 x8 x9 x10 x11 x12 d x14 (ix2 r c)
      = if l ≤ r.val ∧ r.val < h then A.C (rowAt t r) e c else (x14 (ix2 r c) : EReal) := by
  unfold outC
  by_cases hc : k0_cond1 (BitVec.ofNat 32 l) (BitVec.ofNat 32 h) = 1#1
  · rw [if_pos hc, glue_ix2, codesPiece_apply, keep_apply l h hl hh, select_ofBool, val_row ne x7 x8 x9 x10 x11 x12 d A t e h7 h8 h11 h12 hD r]
    refine if_congr Iff.rfl rfl (congrArg x14 (idx2_ext ?_ ?_))
    · show 0 + 1 * r.val = r.val; omega
    · show 128 * (c.val / 128) + 1 * (c.val % 128) = c.val; omega
  · rw [if_neg hc]; exact dead l h hl hh hc r _ _

include hl hh h7 h8 h11 h12 hD in
theorem outS_row (x15 : Vec Ideal S256x22 .f32) (r : Fin 256) (b : Fin 22) :
    outS (F := Ideal) (BitVec.ofNat 32 l) (BitVec.ofNat 32 h) ne x7 x8 x9 x10 x11 x12 d x15 (ix2 r b)
      = if l ≤ r.val ∧ r.val < h then A.S (rowAt t r) e b else (x15 (ix2 r b) : EReal) := by
  unfold outS
  by_cases hc : k0_cond1 (BitVec.ofNat 32 l) (BitVec.ofNat 32 h) = 1#1
  · rw [if_pos hc, scalesOut_apply, keep_apply l h hl hh, select_ofBool, val_row ne x7 x8 x9 x10 x11 x12 d A t e h7 h8 h11 h12 hD r]
    rfl
  · rw [if_neg hc]; exact dead l h hl hh hc r _ _

end Cert.KernelIdeal.Hand

end
-- ==== Proof.Cover.lean ====
/- Which rows an output array holds at the end, for a pipeline whose visits each write their own rows of one tile: the
   tiles come in order, so a tile's block stays in its buffer from its first visit to its last, and the last writes it
   back. -/
module

public import proofs.«01_k».proof.Proof.Sched
public import Idealize.ShloMosaic.Lib.Pipeline.ArrRel
public import Idealize.ShloMosaic.Lib.Pipeline.FrameBody

@[expose] public section

namespace Cert.Cover

open Idealize.ShloMosaic Idealize.ShloMosaic.TcCoe
open Idealize.SL Idealize.SL.RA
open Idealize.ShloMosaic.Pipeline (RDat Cfg Window)
open Cert.Sched

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)
variable {g : ℕ → ℕ} (hs : S g 32 = 8192) (w : Fin cfg.W) (hw : (cfg.win w).isOut = true)
  (hidx : ∀ t t' : Fin cfg.N, (cfg.win w).index t = (cfg.win w).index t' ↔ tile g t.val = tile g t'.val)

include hw in
theorem flush_iff (t : Fin cfg.N) : (cfg.win w).flush t = true ↔
    t.val + 1 = cfg.N ∨ ∃ h : t.val + 1 < cfg.N, (cfg.win w).index ⟨t.val + 1, h⟩ ≠ (cfg.win w).index t := by
  rw [Window.flush_eq_flushOf]
  unfold Window.flushOf
  rw [hw, Bool.true_and, Bool.or_eq_true, decide_eq_true_iff, decide_eq_true_iff]
  exact Iff.rfl

include hw in
theorem fetch_false (t : Fin cfg.N) : (cfg.win w).fetch t = false := by
  rw [Window.fetch_eq_fetchOf]
  unfold Window.fetchOf
  rw [hw]; rfl

variable {α : Type} (get : ((cfg.win w).block.Idx → Val (cfg.win w).elt) → ℕ → α) (T : ℕ → ℕ → α)
  (hupd : ∀ t Y X, rd.after w t Y X → ∀ ρ < 256,
    get X ρ = if lo g t.val ≤ ρ ∧ ρ < hi g t.val then T (tile g t.val * 256 + ρ) (ex g t.val) else get Y ρ)

include hs hw hidx hupd in
/-- After visit `t` the block holds the rows of all of its tile's visits so far. -/
theorem leaves_row (n : ℕ) : ∀ t : Fin cfg.N, t.val = n → ∀ X, rd.Leaves w t X → ∀ ρ < 256, ∀ v ≤ t.val, tile g v = tile g t.val →
    lo g v ≤ ρ → ρ < hi g v → get X ρ = T (tile g t.val * 256 + ρ) (ex g v) := by
  induction n with
  | zero =>
    intro t ht X ⟨Y, hY, hX⟩ ρ hρ v hv htl h1 h2
    obtain rfl : v = t.val := by omega
    rw [hupd t Y X hX ρ hρ, if_pos ⟨h1, h2⟩]
  | succ n ih =>
    intro t ht X ⟨Y, hY, hX⟩ ρ hρ v hv htl h1 h2
    rw [hupd t Y X hX ρ hρ]
    by_cases hown : lo g t.val ≤ ρ ∧ ρ < hi g t.val
    · rw [if_pos hown]
      have a := row_mem g hs v ρ h1 h2
      have b := row_mem g hs t.val ρ hown.1 hown.2
      rw [htl] at a
      rw [group_unique g a.1 a.2 b.1 b.2]
    · rw [if_neg hown]
      have hne : v ≠ t.val := by rintro rfl; exact hown ⟨h1, h2⟩
      have hlt : t.val - 1 < cfg.N := Nat.lt_of_le_of_lt (Nat.sub_le _ _) t.isLt
      have m1 : tile g v ≤ tile g (t.val - 1) := tile_mono g hs (by omega)
      have m2 : tile g (t.val - 1) ≤ tile g t.val := tile_mono g hs (by omega)
      have htl' : tile g (t.val - 1) = tile g t.val := by omega
      rcases (rd.finds_of_pos (fetch_false w hw t) (by omega) Y).mp hY with hf | hL
      · exfalso
        rcases (flush_iff w hw _).mp hf with h | ⟨h, hne'⟩
        · have := t.isLt
          simp only at h
          omega
        · have e : (⟨t.val - 1 + 1, h⟩ : Fin cfg.N) = t := Fin.ext (by simp only; omega)
          have e2 : (cfg.win w).index t ≠ (cfg.win w).index ⟨t.val - 1, hlt⟩ := fun q => hne' ((congrArg (cfg.win w).index e).trans q)
          exact e2 ((hidx t ⟨t.val - 1, hlt⟩).mpr htl'.symm)
      · rw [← htl']
        exact ih ⟨t.val - 1, hlt⟩ (by simp only; omega) Y hL ρ hρ v (by simp only; omega) (by simp only; omega) h1 h2

include hw hidx in
/-- A visit's tile is written back at a visit no earlier. -/
theorem flush_after (k : ℕ) : ∀ v (hv : v < cfg.N), cfg.N - v = k + 1 → ∃ u : Fin cfg.N, v ≤ u.val ∧ tile g u.val = tile g v ∧ (cfg.win w).flush u = true := by
  induction k with
  | zero =>
    intro v hv hk
    exact ⟨⟨v, hv⟩, le_rfl, rfl, (flush_iff w hw _).mpr (.inl (by simp only; omega))⟩
  | succ k ih =>
    intro v hv hk
    by_cases h : tile g (v + 1) = tile g v
    · obtain ⟨u, h1, h2, h3⟩ := ih (v + 1) (by omega) (by omega)
      exact ⟨u, by omega, h2.trans h, h3⟩
    · have h' : v + 1 < cfg.N := by omega
      have e : (cfg.win w).index ⟨v + 1, h'⟩ ≠ (cfg.win w).index ⟨v, hv⟩ := fun e => h ((hidx ⟨v + 1, h'⟩ ⟨v, hv⟩).mp e)
      exact ⟨⟨v, hv⟩, le_rfl, rfl, (flush_iff w hw ⟨v, hv⟩).mpr (.inr ⟨h', e⟩)⟩

variable (arr : Buf Val ((cfg.win w).arr.view.loc (c.tc : Thread nD τ)) → ℕ → α)
  (hwr : ∀ (t : Fin cfg.N) (G : Buf Val ((cfg.win w).arr.view.loc (c.tc : Thread nD τ))) (X : (cfg.win w).block.Idx → Val (cfg.win w).elt), ∀ r < 8192,
    arr (((cfg.win w).blk t).view.write Val G ((cfg.win w).cut (cfg.grid.coords t) X) Finset.univ) r
      = if r / 256 = tile g t.val then get X (r % 256) else arr G r)

include hs hw hidx hupd hwr in
theorem arrAt_row (n : ℕ) : n ≤ cfg.N → ∀ G, rd.ArrAt w n G → ∀ r < 8192, ∀ u : Fin cfg.N, u.val < n → (cfg.win w).flush u = true →
    tile g u.val = r / 256 → ∀ v ≤ u.val, tile g v = r / 256 → lo g v ≤ r % 256 → r % 256 < hi g v → arr G r = T r (ex g v) := by
  induction n with
  | zero => intro _ G _ r _ u hu; omega
  | succ n ih =>
    intro hn G hG r hr u hu hf htu v hv htv h1 h2
    have hlt : n < cfg.N := by omega
    have hG' := hG
    rw [show n + 1 = (⟨n, hlt⟩ : Fin cfg.N).val + 1 from rfl, RDat.ArrAt_succ] at hG'
    by_cases hfl : (cfg.win w).flush ⟨n, hlt⟩ = true
    · rw [if_pos hfl] at hG'
      obtain ⟨G₀, X, hG₀, hX, rfl⟩ := hG'
      rw [hwr _ _ _ r hr]
      by_cases ht : r / 256 = tile g n
      · rw [if_pos ht]
        have := leaves_row rd hs w hw hidx get T hupd n ⟨n, hlt⟩ rfl X hX (r % 256) (by omega) v (by simp only; omega) (htv.trans ht) h1 h2
        rw [this, show tile g (⟨n, hlt⟩ : Fin cfg.N).val * 256 + r % 256 = r by simp only; omega]
      · rw [if_neg ht]
        refine ih (by omega) G₀ hG₀ r hr u ?_ hf htu v hv htv h1 h2
        have : u.val ≠ n := by rintro rfl; exact ht htu.symm
        omega
    · rw [if_neg hfl] at hG'
      refine ih (by omega) G hG' r hr u ?_ hf htu v hv htv h1 h2
      have : u.val ≠ n := by rintro rfl; exact hfl hf
      omega

include hs hw hidx hupd hwr in
/-- At the end every row of the array is its own visit's. -/
theorem arr_row (hN : cfg.N = 63) (G) (hG : rd.ArrAt w cfg.N G) (r : ℕ) (hr : r < 8192) (e : ℕ) (he1 : S g e ≤ r) (he2 : r < S g (e + 1)) :
    arr G r = T r e := by
  obtain ⟨v, hv, htl, h1, h2⟩ := row_visit g hs r hr
  have hv' : v < cfg.N := by have := total_le g hs; omega
  obtain ⟨u, hu, htu, hf⟩ := flush_after w hw hidx (cfg.N - v - 1) v hv' (by omega)
  have a := row_mem g hs v (r % 256) h1 h2
  rw [arrAt_row rd hs w hw hidx get T hupd arr hwr cfg.N le_rfl G hG r hr u u.isLt hf (htu.trans htl) v hu htl h1 h2,
    group_unique g (e := ex g v) (e' := e) (by omega) (by omega) he1 he2]

end Cert.Cover

end
-- ==== Proof.KernelIdealBlocks.lean ====
/- The pipeline's blocks: which part of its array each visit's buffer holds, and which rows a write-back changes. -/
module

public import proofs.«01_k».proof.Proof.KernelIdealRows
public import proofs.«01_k».proof.Proof.KernelIdealRun
public import proofs.«01_k».proof.Proof.KernelIdealTables
public import proofs.«01_k».proof.Proof.Cover

@[expose] public section

set_option maxRecDepth 16384

noncomputable section

namespace Cert.KernelIdeal.Hand

open Idealize.ShloMosaic Idealize.ShloMosaic.TcCoe
open Idealize.SL Idealize.SL.RA
open Idealize.ShloMosaic.Pipeline (RDat Cfg Window cellOf)
open Cert.KernelIdeal.Gen Cert.Sched Cert.SchedWords

variable (m : (ℓ : Loc nD τ sig) → Buf (Elt Ideal) ℓ)

/-- The argument arrays as functions of their coordinates. -/
def arrs (c : Dev nD) : Moe.Arr where
  x r k := m ((c.tc : Thread nD τ).loc main_arg0) (ix2 r k)
  xs r k := m ((c.tc : Thread nD τ).loc main_arg1) (ix2 r k)
  w e k j := m ((c.tc : Thread nD τ).loc main_arg2) (ix3 e k j)
  ws e k j := m ((c.tc : Thread nD τ).loc main_arg3) (ix3 e k j)
  h r k := m ((c.tc : Thread nD τ).loc main_arg4) (ix2 r k)
  hs r k := m ((c.tc : Thread nD τ).loc main_arg5) (ix2 r k)

theorem coord_val (t : Fin grid0.N) : ((grid0.coords t) 0).val = t.val := by
  have h : t.val < 63 := t.isLt
  refine (Pipeline.Grid.coords_val (G := grid0) t 0 (S := 1) (B := 63) rfl rfl).trans ?_
  rw [Nat.div_one, Nat.mod_eq_of_lt h]

variable {m} {g : ℕ → ℕ} (hs : Sizes (gsz m) g)
include hs

theorem tr_tile (t : Fin grid0.N) : cc0_transform_0 (F := Ideal) k0_off1_inb numel1_S1 (tbl m) (grid0.coords t) = ![tile g t.val, 0] := by
  have h := tile_lt g hs.sum t.val
  have e := (congrArg (tbl m 1) (unit_at (k0_off1 (grid0.coords t)) (k0_off1_inb (grid0.coords t)) ((grid0.coords t) 0) (off1_val (grid0.coords t)) (Shape.Idx.first (numel1_S1.symm ▸ Nat.one_pos : 0 < S1.numel)))).trans (tbl_tile hs ((grid0.coords t) 0))
  refine (congrArg (fun x : BitVec 32 => ![x.toNat, 0]) e).trans ?_
  show ![(BitVec.ofNat 32 (tile g ((grid0.coords t) 0).val)).toNat, 0] = _
  rw [coord_val, BitVec.toNat_ofNat, Nat.mod_eq_of_lt (by omega)]

theorem tr_ex (t : Fin grid0.N) : cc0_transform_2 (F := Ideal) k0_off1_inb numel1_S1 (tbl m) (grid0.coords t) = ![ex g t.val, 0, 0] := by
  have h := ex_lt g hs.sum t.val
  have e := (congrArg (tbl m 0) (unit_at (k0_off1 (grid0.coords t)) (k0_off1_inb (grid0.coords t)) ((grid0.coords t) 0) (off1_val (grid0.coords t)) (Shape.Idx.first (numel1_S1.symm ▸ Nat.one_pos : 0 < S1.numel)))).trans (tbl_ex hs ((grid0.coords t) 0))
  refine (congrArg (fun x : BitVec 32 => ![x.toNat, 0, 0]) e).trans ?_
  show ![(BitVec.ofNat 32 (ex g ((grid0.coords t) 0).val)).toNat, 0, 0] = _
  rw [coord_val, BitVec.toNat_ofNat, Nat.mod_eq_of_lt (by omega)]

/-- A tile's row, and a column, under a block of the tile. -/
theorem tile_row (t : Fin grid0.N) (r : ℕ) :
    cc0_transform_0 (F := Ideal) k0_off1_inb numel1_S1 (tbl m) (grid0.coords t) 0 * 256 + 1 * r = tile g t.val * 256 + r := by
  rw [tr_tile hs t, Nat.one_mul]; rfl
theorem tile_col (t : Fin grid0.N) (n k : ℕ) :
    cc0_transform_0 (F := Ideal) k0_off1_inb numel1_S1 (tbl m) (grid0.coords t) 1 * n + 1 * k = k := by
  rw [tr_tile hs t, Nat.one_mul]
  show 0 * n + k = k
  omega
theorem ex_0 (t : Fin grid0.N) (y : Fin 1) : cc0_transform_2 (F := Ideal) k0_off1_inb numel1_S1 (tbl m) (grid0.coords t) 0 * 1 + 1 * y.val = ex g t.val := by
  rw [tr_ex hs t, Nat.mul_one, Nat.one_mul, show y.val = 0 by omega]; rfl
theorem ex_1 (t : Fin grid0.N) (n k : ℕ) : cc0_transform_2 (F := Ideal) k0_off1_inb numel1_S1 (tbl m) (grid0.coords t) 1 * n + 1 * k = k := by
  rw [tr_ex hs t, Nat.one_mul]
  show 0 * n + k = k
  omega
theorem ex_2 (t : Fin grid0.N) (n k : ℕ) : cc0_transform_2 (F := Ideal) k0_off1_inb numel1_S1 (tbl m) (grid0.coords t) 2 * n + 1 * k = k := by
  rw [tr_ex hs t, Nat.one_mul]
  show 0 * n + k = k
  omega

omit hs in
theorem idx3_ext {n₀ n₁ n₂ : ℕ} {i j : (⟨3, ![n₀, n₁, n₂]⟩ : Shape).Idx} (h0 : (i 0).val = (j 0).val) (h1 : (i 1).val = (j 1).val)
    (h2 : (i 2).val = (j 2).val) : i = j := by
  funext a
  refine Fin.ext ?_
  match a with
  | 0 => exact h0
  | 1 => exact h1
  | 2 => exact h2

variable {hO : Ok m} {c : Dev nD} (rd : RDat τ (Elt Ideal) Unit ℕ (UR sig nD τ) ℕ (cfgM m hO) c) (t : Fin (cfgM m hO).N)

theorem fetched0 (hA : rd.A 0 = V m c main_arg0) (d) (r : Fin 256) (k : Fin 2048) :
    (rd.fetched 0 t d : (⟨2, ![256, 2048]⟩ : Shape).Idx → EReal) (ix2 r k) = (arrs m c).x (rowAt ⟨tile g t.val, tile_lt g hs.sum t.val⟩ r) k := by
  show rd.A 0 ((((cfgM m hO).win 0).rect t).emb (ix2 r k)) = _
  rw [hA, V_main_arg0]
  exact congrArg (m ((c.tc : Thread nD τ).loc main_arg0)) (Spec.idx2_ext (a := 8192) (b := 2048) (tile_row hs t r.val) (tile_col hs t 2048 k.val))

theorem fetched1 (hA : rd.A 1 = V m c main_arg1) (d) (r : Fin 256) (k : Fin 16) :
    (rd.fetched 1 t d : (⟨2, ![256, 16]⟩ : Shape).Idx → EReal) (ix2 r k) = (arrs m c).xs (rowAt ⟨tile g t.val, tile_lt g hs.sum t.val⟩ r) k := by
  show rd.A 1 ((((cfgM m hO).win 1).rect t).emb (ix2 r k)) = _
  rw [hA, V_main_arg1]
  exact congrArg (m ((c.tc : Thread nD τ).loc main_arg1)) (Spec.idx2_ext (a := 8192) (b := 16) (tile_row hs t r.val) (tile_col hs t 16 k.val))

theorem fetched4 (hA : rd.A 4 = V m c main_arg4) (d) (r : Fin 256) (k : Fin 1408) :
    (rd.fetched 4 t d : (⟨2, ![256, 1408]⟩ : Shape).Idx → EReal) (ix2 r k) = (arrs m c).h (rowAt ⟨tile g t.val, tile_lt g hs.sum t.val⟩ r) k := by
  show rd.A 4 ((((cfgM m hO).win 4).rect t).emb (ix2 r k)) = _
  rw [hA, V_main_arg4]
  exact congrArg (m ((c.tc : Thread nD τ).loc main_arg4)) (Spec.idx2_ext (a := 8192) (b := 1408) (tile_row hs t r.val) (tile_col hs t 1408 k.val))

theorem fetched5 (hA : rd.A 5 = V m c main_arg5) (d) (r : Fin 256) (k : Fin 11) :
    (rd.fetched 5 t d : (⟨2, ![256, 11]⟩ : Shape).Idx → EReal) (ix2 r k) = (arrs m c).hs (rowAt ⟨tile g t.val, tile_lt g hs.sum t.val⟩ r) k := by
  show rd.A 5 ((((cfgM m hO).win 5).rect t).emb (ix2 r k)) = _
  rw [hA, V_main_arg5]
  exact congrArg (m ((c.tc : Thread nD τ).loc main_arg5)) (Spec.idx2_ext (a := 8192) (b := 11) (tile_row hs t r.val) (tile_col hs t 11 k.val))

theorem fetched2 (hA : rd.A 2 = V m c main_arg2) (d) (k : Fin 2048) (j : Fin 2816) :
    (rd.fetched 2 t d : (⟨3, ![1, 2048, 2816]⟩ : Shape).Idx → EReal) (ix3 (0 : Fin 1) k j) = (arrs m c).w ⟨ex g t.val, ex_lt g hs.sum t.val⟩ k j := by
  generalize (0 : Fin 1) = y
  have e0 : (((((cfgM m hO).win 2).rect t).emb (ix3 y k j) (0 : Fin 3)).val : ℕ) = ex g t.val := by
    have hi : ((cfgM m hO).win 2).index t = ![ex g t.val, 0, 0] := tr_ex hs t
    refine (Pipeline.Window.rect_emb_val ((cfgM m hO).win 2) t (ix3 y k j) (0 : Fin 3) rfl).trans ?_
    rw [hi]
    show ex g t.val * 1 + y.val = ex g t.val
    omega
  have e1 : (((((cfgM m hO).win 2).rect t).emb (ix3 y k j) (1 : Fin 3)).val : ℕ) = k.val := ex_1 hs t 2048 k.val
  have e2 : (((((cfgM m hO).win 2).rect t).emb (ix3 y k j) (2 : Fin 3)).val : ℕ) = j.val := ex_2 hs t 2816 j.val
  have e : ((((cfgM m hO).win 2).rect t).emb (ix3 y k j) : (⟨3, ![32, 2048, 2816]⟩ : Shape).Idx) = ix3 (⟨ex g t.val, ex_lt g hs.sum t.val⟩ : Fin 32) k j :=
    idx3_ext (n₀ := 32) (n₁ := 2048) (n₂ := 2816) e0 e1 e2
  show rd.A 2 ((((cfgM m hO).win 2).rect t).emb (ix3 y k j)) = _
  rw [hA, V_main_arg2]
  exact congrArg (m ((c.tc : Thread nD τ).loc main_arg2)) e

theorem fetched3 (hA : rd.A 3 = V m c main_arg3) (d) (k : Fin 16) (j : Fin 22) :
    (rd.fetched 3 t d : (⟨3, ![1, 16, 22]⟩ : Shape).Idx → EReal) (ix3 (0 : Fin 1) k j) = (arrs m c).ws ⟨ex g t.val, ex_lt g hs.sum t.val⟩ k j := by
  generalize (0 : Fin 1) = y
  have e0 : (((((cfgM m hO).win 3).rect t).emb (ix3 y k j) (0 : Fin 3)).val : ℕ) = ex g t.val := by
    have hi : ((cfgM m hO).win 3).index t = ![ex g t.val, 0, 0] := tr_ex hs t
    refine (Pipeline.Window.rect_emb_val ((cfgM m hO).win 3) t (ix3 y k j) (0 : Fin 3) rfl).trans ?_
    rw [hi]
    show ex g t.val * 1 + y.val = ex g t.val
    omega
  have e1 : (((((cfgM m hO).win 3).rect t).emb (ix3 y k j) (1 : Fin 3)).val : ℕ) = k.val := ex_1 hs t 16 k.val
  have e2 : (((((cfgM m hO).win 3).rect t).emb (ix3 y k j) (2 : Fin 3)).val : ℕ) = j.val := ex_2 hs t 22 j.val
  have e : ((((cfgM m hO).win 3).rect t).emb (ix3 y k j) : (⟨3, ![32, 16, 22]⟩ : Shape).Idx) = ix3 (⟨ex g t.val, ex_lt g hs.sum t.val⟩ : Fin 32) k j :=
    idx3_ext (n₀ := 32) (n₁ := 16) (n₂ := 22) e0 e1 e2
  show rd.A 3 ((((cfgM m hO).win 3).rect t).emb (ix3 y k j)) = _
  rw [hA, V_main_arg3]
  exact congrArg (m ((c.tc : Thread nD τ).loc main_arg3)) e

omit hs in
/-- A row of a matrix, by its number. -/
def rowOf {N n : ℕ} (X : (⟨2, ![N, n]⟩ : Shape).Idx → EReal) (r : ℕ) : Fin n → EReal := fun k => if h : r < N then X (ix2 ⟨r, h⟩ k) else 0

omit hs in
theorem rowOf_at {N n : ℕ} (X : (⟨2, ![N, n]⟩ : Shape).Idx → EReal) (r : ℕ) (h : r < N) (k : Fin n) : rowOf X r k = X (ix2 ⟨r, h⟩ k) := dif_pos h

theorem index6 : ((cfgM m hO).win 6).index t = ![tile g t.val, 0] := tr_tile hs t

theorem write6 (G : (⟨2, ![8192, 2048]⟩ : Shape).Idx → EReal) (X : (⟨2, ![256, 2048]⟩ : Shape).Idx → EReal) (r : ℕ) (hr : r < 8192) :
    rowOf (N := 8192) (n := 2048) ((((cfgM m hO).win 6).blk t).view.write (Elt Ideal) G (((cfgM m hO).win 6).cut ((cfgM m hO).grid.coords t) X) Finset.univ) r
      = if r / 256 = tile g t.val then rowOf X (r % 256) else rowOf G r := by
  refine funext fun k => ?_
  have hb := tile_lt g hs.sum t.val
  have emb : ∀ (x : Fin 256) (j : Fin 2048), (((cfgM m hO).win 6).blk t).view.emb (ix2 x j) = ix2 (⟨tile g t.val * 256 + x.val, by omega⟩ : Fin 8192) j :=
    fun x j => Spec.idx2_ext (a := 8192) (b := 2048) (tile_row hs t x.val) (tile_col hs t 2048 j.val)
  by_cases h : r / 256 = tile g t.val
  · rw [if_pos h]
    refine (rowOf_at (N := 8192) _ r hr k).trans (Eq.trans ?_ (rowOf_at X (r % 256) (by omega) k).symm)
    have e : ix2 (⟨r, hr⟩ : Fin 8192) k = (((cfgM m hO).win 6).blk t).view.emb (ix2 (⟨r % 256, by omega⟩ : Fin 256) k) :=
      (show ix2 (⟨r, hr⟩ : Fin 8192) k = ix2 (⟨tile g t.val * 256 + r % 256, by omega⟩ : Fin 8192) k from
        Spec.idx2_ext (a := 8192) (b := 2048) (show r = tile g t.val * 256 + r % 256 by omega) rfl).trans (emb ⟨r % 256, by omega⟩ k).symm
    have hw := View.write_emb_of_mem (v := (((cfgM m hO).win 6).blk t).view) (Val := Elt Ideal) G (((cfgM m hO).win 6).cut ((cfgM m hO).grid.coords t) X)
      (M := Finset.univ) (x := ix2 (⟨r % 256, by omega⟩ : Fin 256) k) (Finset.mem_univ _)
    rw [← e] at hw
    exact hw
  · rw [if_neg h]
    refine (rowOf_at (N := 8192) _ r hr k).trans (Eq.trans ?_ (rowOf_at (N := 8192) G r hr k).symm)
    have hn : ix2 (⟨r, hr⟩ : Fin 8192) k ∉ (((cfgM m hO).win 6).blk t).view.setOn Finset.univ := by
      intro hm
      obtain ⟨(x : (⟨2, ![256, 2048]⟩ : Shape).Idx), -, hx⟩ := Finset.mem_map.mp hm
      have h1 : (⟨tile g t.val * 256 + (x 0).val, by have : (x 0).val < 256 := (x 0).isLt; omega⟩ : Fin 8192) = ⟨r, hr⟩ :=
        congrArg (fun q : (⟨2, ![8192, 2048]⟩ : Shape).Idx => q 0) ((emb (x 0) (x 1)).symm.trans ((congrArg _ (eq_ix2 (n0 := 256) (n1 := 2048) x)).symm.trans hx))
      have h2 : tile g t.val * 256 + (x 0).val = r := congrArg Fin.val h1
      have h3 : (x 0).val < 256 := (x 0).isLt
      omega
    exact View.write_of_not_mem (v := (((cfgM m hO).win 6).blk t).view) (Val := Elt Ideal) G (((cfgM m hO).win 6).cut ((cfgM m hO).grid.coords t) X) Finset.univ hn

theorem index7 : ((cfgM m hO).win 7).index t = ![tile g t.val, 0] := tr_tile hs t

theorem write7 (G : (⟨2, ![8192, 2816]⟩ : Shape).Idx → EReal) (X : (⟨2, ![256, 2816]⟩ : Shape).Idx → EReal) (r : ℕ) (hr : r < 8192) :
    rowOf (N := 8192) (n := 2816) ((((cfgM m hO).win 7).blk t).view.write (Elt Ideal) G (((cfgM m hO).win 7).cut ((cfgM m hO).grid.coords t) X) Finset.univ) r
      = if r / 256 = tile g t.val then rowOf X (r % 256) else rowOf G r := by
  refine funext fun k => ?_
  have hb := tile_lt g hs.sum t.val
  have emb : ∀ (x : Fin 256) (j : Fin 2816), (((cfgM m hO).win 7).blk t).view.emb (ix2 x j) = ix2 (⟨tile g t.val * 256 + x.val, by omega⟩ : Fin 8192) j :=
    fun x j => Spec.idx2_ext (a := 8192) (b := 2816) (tile_row hs t x.val) (tile_col hs t 2816 j.val)
  by_cases h : r / 256 = tile g t.val
  · rw [if_pos h]
    refine (rowOf_at (N := 8192) _ r hr k).trans (Eq.trans ?_ (rowOf_at X (r % 256) (by omega) k).symm)
    have e : ix2 (⟨r, hr⟩ : Fin 8192) k = (((cfgM m hO).win 7).blk t).view.emb (ix2 (⟨r % 256, by omega⟩ : Fin 256) k) :=
      (show ix2 (⟨r, hr⟩ : Fin 8192) k = ix2 (⟨tile g t.val * 256 + r % 256, by omega⟩ : Fin 8192) k from
        Spec.idx2_ext (a := 8192) (b := 2816) (show r = tile g t.val * 256 + r % 256 by omega) rfl).trans (emb ⟨r % 256, by omega⟩ k).symm
    have hw := View.write_emb_of_mem (v := (((cfgM m hO).win 7).blk t).view) (Val := Elt Ideal) G (((cfgM m hO).win 7).cut ((cfgM m hO).grid.coords t) X)
      (M := Finset.univ) (x := ix2 (⟨r % 256, by omega⟩ : Fin 256) k) (Finset.mem_univ _)
    rw [← e] at hw
    exact hw
  · rw [if_neg h]
    refine (rowOf_at (N := 8192) _ r hr k).trans (Eq.trans ?_ (rowOf_at (N := 8192) G r hr k).symm)
    have hn : ix2 (⟨r, hr⟩ : Fin 8192) k ∉ (((cfgM m hO).win 7).blk t).view.setOn Finset.univ := by
      intro hm
      obtain ⟨(x : (⟨2, ![256, 2816]⟩ : Shape).Idx), -, hx⟩ := Finset.mem_map.mp hm
      have h1 : (⟨tile g t.val * 256 + (x 0).val, by have : (x 0).val < 256 := (x 0).isLt; omega⟩ : Fin 8192) = ⟨r, hr⟩ :=
        congrArg (fun q : (⟨2, ![8192, 2816]⟩ : Shape).Idx => q 0) ((emb (x 0) (x 1)).symm.trans ((congrArg _ (eq_ix2 (n0 := 256) (n1 := 2816) x)).symm.trans hx))
      have h2 : tile g t.val * 256 + (x 0).val = r := congrArg Fin.val h1
      have h3 : (x 0).val < 256 := (x 0).isLt
      omega
    exact View.write_of_not_mem (v := (((cfgM m hO).win 7).blk t).view) (Val := Elt Ideal) G (((cfgM m hO).win 7).cut ((cfgM m hO).grid.coords t) X) Finset.univ hn

theorem index8 : ((cfgM m hO).win 8).index t = ![tile g t.val, 0] := tr_tile hs t

theorem write8 (G : (⟨2, ![8192, 22]⟩ : Shape).Idx → EReal) (X : (⟨2, ![256, 22]⟩ : Shape).Idx → EReal) (r : ℕ) (hr : r < 8192) :
    rowOf (N := 8192) (n := 22) ((((cfgM m hO).win 8).blk t).view.write (Elt Ideal) G (((cfgM m hO).win 8).cut ((cfgM m hO).grid.coords t) X) Finset.univ) r
      = if r / 256 = tile g t.val then rowOf X (r % 256) else rowOf G r := by
  refine funext fun k => ?_
  have hb := tile_lt g hs.sum t.val
  have emb : ∀ (x : Fin 256) (j : Fin 22), (((cfgM m hO).win 8).blk t).view.emb (ix2 x j) = ix2 (⟨tile g t.val * 256 + x.val, by omega⟩ : Fin 8192) j :=
    fun x j => Spec.idx2_ext (a := 8192) (b := 22) (tile_row hs t x.val) (tile_col hs t 22 j.val)
  by_cases h : r / 256 = tile g t.val
  · rw [if_pos h]
    refine (rowOf_at (N := 8192) _ r hr k).trans (Eq.trans ?_ (rowOf_at X (r % 256) (by omega) k).symm)
    have e : ix2 (⟨r, hr⟩ : Fin 8192) k = (((cfgM m hO).win 8).blk t).view.emb (ix2 (⟨r % 256, by omega⟩ : Fin 256) k) :=
      (show ix2 (⟨r, hr⟩ : Fin 8192) k = ix2 (⟨tile g t.val * 256 + r % 256, by omega⟩ : Fin 8192) k from
        Spec.idx2_ext (a := 8192) (b := 22) (show r = tile g t.val * 256 + r % 256 by omega) rfl).trans (emb ⟨r % 256, by omega⟩ k).symm
    have hw := View.write_emb_of_mem (v := (((cfgM m hO).win 8).blk t).view) (Val := Elt Ideal) G (((cfgM m hO).win 8).cut ((cfgM m hO).grid.coords t) X)
      (M := Finset.univ) (x := ix2 (⟨r % 256, by omega⟩ : Fin 256) k) (Finset.mem_univ _)
    rw [← e] at hw
    exact hw
  · rw [if_neg h]
    refine (rowOf_at (N := 8192) _ r hr k).trans (Eq.trans ?_ (rowOf_at (N := 8192) G r hr k).symm)
    have hn : ix2 (⟨r, hr⟩ : Fin 8192) k ∉ (((cfgM m hO).win 8).blk t).view.setOn Finset.univ := by
      intro hm
      obtain ⟨(x : (⟨2, ![256, 22]⟩ : Shape).Idx), -, hx⟩ := Finset.mem_map.mp hm
      have h1 : (⟨tile g t.val * 256 + (x 0).val, by have : (x 0).val < 256 := (x 0).isLt; omega⟩ : Fin 8192) = ⟨r, hr⟩ :=
        congrArg (fun q : (⟨2, ![8192, 22]⟩ : Shape).Idx => q 0) ((emb (x 0) (x 1)).symm.trans ((congrArg _ (eq_ix2 (n0 := 256) (n1 := 22) x)).symm.trans hx))
      have h2 : tile g t.val * 256 + (x 0).val = r := congrArg Fin.val h1
      have h3 : (x 0).val < 256 := (x 0).isLt
      omega
    exact View.write_of_not_mem (v := (((cfgM m hO).win 8).blk t).view) (Val := Elt Ideal) G (((cfgM m hO).win 8).cut ((cfgM m hO).grid.coords t) X) Finset.univ hn

end Cert.KernelIdeal.Hand

end
-- ==== Proof.KernelIdealValue.lean ====
/- The kernel's three results: each row holds what its own group's expert gives. -/
module

public import proofs.«01_k».proof.Proof.KernelIdealBlocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.KernelIdeal.Gen Cert.Sched Cert.SchedWords

local notation "𝕄" => MT nD τ sig Unit (Elt Ideal) ℕ (UR sig nD τ) ℕ

/-- The visit's rows hold `T`, the others what they held. -/
def Upd {n : ℕ} (g : ℕ → ℕ) (v : ℕ) (T : ℕ → ℕ → Fin n → EReal) (Y X : (⟨2, ![256, n]⟩ : Shape).Idx → EReal) : Prop :=
  ∀ ρ < 256, rowOf (N := 256) (n := n) X ρ = if lo g v ≤ ρ ∧ ρ < hi g v then T (tile g v * 256 + ρ) (ex g v) else rowOf (N := 256) (n := n) Y ρ

/-- A result's row by numbers. -/
def byNum {n : ℕ} (R : Fin 8192 → Fin 32 → Fin n → EReal) (r e : ℕ) : Fin n → EReal :=
  if h : r < 8192 ∧ e < 32 then R ⟨r, h.1⟩ ⟨e, h.2⟩ else fun _ => 0

theorem byNum_at {n : ℕ} (R : Fin 8192 → Fin 32 → Fin n → EReal) (r : Fin 8192) (e : Fin 32) : byNum R r.val e.val = R r e := by
  unfold byNum; rw [dif_pos ⟨r.isLt, e.isLt⟩]

/-- The carried weights before visit `v` are those of the visit before. -/
def Carried (g : ℕ → ℕ) (A : Moe.Arr) (v : ℕ) (d : (⟨2, ![2048, 2816]⟩ : Shape).Idx → EReal) : Prop :=
  0 < v → ∀ (h : ex g (v - 1) < 32) (k : Fin 2048) (j : Fin 2816), d (ix2 k j) = A.D ⟨ex g (v - 1), h⟩ k j

theorem fresh_one : fresh (BitVec.ofNat 32 1) := by decide
theorem not_fresh_zero : ¬ fresh (BitVec.ofNat 32 0) := by decide

section Step
variable {g : ℕ → ℕ} (hg : S g 32 = 8192) (A : Moe.Arr) (v : ℕ)
  (x9 : Vec Ideal S1x2048x2816 .fp8e4m3) (x10 : Vec Ideal S1x16x22 .f32) (d : Vec Ideal S2048x2816 .bf16)
  (h9 : ∀ (k : Fin 2048) (j : Fin 2816), x9 (ix3 (0 : Fin 1) k j) = A.w ⟨ex g v, ex_lt g hg v⟩ k j)
  (h10 : ∀ (k : Fin 16) (j : Fin 22), x10 (ix3 (0 : Fin 1) k j) = A.ws ⟨ex g v, ex_lt g hg v⟩ k j)
  (hd : Carried g A v d)

include h9 h10 hd in
/-- The weights a visit works with are its expert's. -/
theorem newD_eq (k : Fin 2048) (c : Fin 2816) :
    newD (BitVec.ofNat 32 (newe g v)) x9 x10 d (ix2 k c) = A.D ⟨ex g v, ex_lt g hg v⟩ k c := by
  have hfill : Spec.wdFill x9 x10 (ix2 k c) = A.D ⟨ex g v, ex_lt g hg v⟩ k c := by
    rw [Spec.wdFill_apply]
    exact congrArg₂ (fun a b : EReal => a * b) (h9 k c) (h10 _ _)
  unfold newD newe
  by_cases h0 : v = 0
  · rw [if_pos h0, if_pos fresh_one]; exact hfill
  · rw [if_neg h0]
    by_cases he : ex g v = ex g (v - 1)
    · rw [if_pos he, if_neg not_fresh_zero]
      refine (hd (by omega) (ex_lt g hg (v - 1)) k c).trans ?_
      simp only [he]
    · rw [if_neg he, if_pos fresh_one]; exact hfill

include h9 h10 hd in
theorem carried_succ : Carried g A (v + 1) (outD (BitVec.ofNat 32 (lo g v)) (BitVec.ofNat 32 (hi g v)) (BitVec.ofNat 32 (newe g v)) x9 x10 d) := by
  intro _ h k c
  show outD (BitVec.ofNat 32 (lo g v)) (BitVec.ofNat 32 (hi g v)) (BitVec.ofNat 32 (newe g v)) x9 x10 d (ix2 k c) = A.D ⟨ex g v, ex_lt g hg v⟩ k c
  unfold outD
  by_cases hc : k0_cond1 (BitVec.ofNat 32 (lo g v)) (BitVec.ofNat 32 (hi g v)) = 1#1
  · rw [if_pos hc]; exact newD_eq hg A v x9 x10 d h9 h10 hd k c
  · rw [if_neg hc]
    rw [cond_iff _ _ (Nat.le_of_lt (lo_lt g hg v)) (hi_le g hg v), live_iff g hg v] at hc
    have ht := total_ge g hg
    have hv : vid g v = vid g (v - 1) := by unfold vid; omega
    have he : ex g v = ex g (v - 1) := by unfold ex; rw [hv]
    refine (hd (by omega) (ex_lt g hg (v - 1)) k c).trans ?_
    simp only [he]

variable
  (x7 : Vec Ideal S256x2048 .fp8e4m3) (x8 : Vec Ideal S256x16 .f32) (x11 : Vec Ideal S256x1408 .fp8e5m2) (x12 : Vec Ideal S256x11 .f32)
  (h7 : ∀ (r : Fin 256) k, x7 (ix2 r k) = A.x (rowAt ⟨tile g v, tile_lt g hg v⟩ r) k)
  (h8 : ∀ (r : Fin 256) k, x8 (ix2 r k) = A.xs (rowAt ⟨tile g v, tile_lt g hg v⟩ r) k)
  (h11 : ∀ (r : Fin 256) k, x11 (ix2 r k) = A.h (rowAt ⟨tile g v, tile_lt g hg v⟩ r) k)
  (h12 : ∀ (r : Fin 256) k, x12 (ix2 r k) = A.hs (rowAt ⟨tile g v, tile_lt g hg v⟩ r) k)

include hg in
theorem upd_of {n : ℕ} (R : Fin 8192 → Fin 32 → Fin n → EReal) (Y X : (⟨2, ![256, n]⟩ : Shape).Idx → EReal)
    (h : ∀ (r : Fin 256) (c : Fin n), X (ix2 r c) = if lo g v ≤ r.val ∧ r.val < hi g v then
      R (rowAt ⟨tile g v, tile_lt g hg v⟩ r) ⟨ex g v, ex_lt g hg v⟩ c else Y (ix2 r c)) :
    Upd g v (byNum R) Y X := by
  intro ρ hρ
  refine funext fun c => ?_
  refine (rowOf_at X ρ hρ c).trans ((h ⟨ρ, hρ⟩ c).trans ?_)
  by_cases hl : lo g v ≤ ρ ∧ ρ < hi g v
  · rw [if_pos hl, if_pos hl]
    exact congrFun (byNum_at R (rowAt ⟨tile g v, tile_lt g hg v⟩ ⟨ρ, hρ⟩) ⟨ex g v, ex_lt g hg v⟩).symm c
  · rw [if_neg hl, if_neg hl]; exact (rowOf_at Y ρ hρ c).symm

include h9 h10 hd h7 h8 h11 h12 in
theorem updX (y : Vec Ideal S256x2048 .bf16) : Upd g v (byNum A.X) y
    (outX (F := Ideal) (BitVec.ofNat 32 (lo g v)) (BitVec.ofNat 32 (hi g v)) (BitVec.ofNat 32 (newe g v)) x7 x8 x9 x10 x11 x12 d y) :=
  upd_of hg v A.X y _ fun r c => outX_row (BitVec.ofNat 32 (newe g v)) x7 x8 x9 x10 x11 x12 d A ⟨tile g v, tile_lt g hg v⟩ ⟨ex g v, ex_lt g hg v⟩ h7 h8 h11 h12
    (newD_eq hg A v x9 x10 d h9 h10 hd) (lo g v) (hi g v) (Nat.le_of_lt (lo_lt g hg v)) (hi_le g hg v) y r c

include h9 h10 hd h7 h8 h11 h12 in
theorem updC (y : Vec Ideal S256x2816 .fp8e5m2) : Upd g v (byNum A.C) y
    (outC (F := Ideal) (BitVec.ofNat 32 (lo g v)) (BitVec.ofNat 32 (hi g v)) (BitVec.ofNat 32 (newe g v)) x7 x8 x9 x10 x11 x12 d y) :=
  upd_of hg v A.C y _ fun r c => outC_row (BitVec.ofNat 32 (newe g v)) x7 x8 x9 x10 x11 x12 d A ⟨tile g v, tile_lt g hg v⟩ ⟨ex g v, ex_lt g hg v⟩ h7 h8 h11 h12
    (newD_eq hg A v x9 x10 d h9 h10 hd) (lo g v) (hi g v) (Nat.le_of_lt (lo_lt g hg v)) (hi_le g hg v) y r c

include h9 h10 hd h7 h8 h11 h12 in
theorem updS (y : Vec Ideal S256x22 .f32) : Upd g v (byNum A.S) y
    (outS (F := Ideal) (BitVec.ofNat 32 (lo g v)) (BitVec.ofNat 32 (hi g v)) (BitVec.ofNat 32 (newe g v)) x7 x8 x9 x10 x11 x12 d y) :=
  upd_of hg v A.S y _ fun r c => outS_row (BitVec.ofNat 32 (newe g v)) x7 x8 x9 x10 x11 x12 d A ⟨tile g v, tile_lt g hg v⟩ ⟨ex g v, ex_lt g hg v⟩ h7 h8 h11 h12
    (newD_eq hg A v x9 x10 d h9 h10 hd) (lo g v) (hi g v) (Nat.le_of_lt (lo_lt g hg v)) (hi_le g hg v) y r c

end Step

variable (m : (ℓ : Loc nD τ sig) → Buf (Elt Ideal) ℓ) (g : ℕ → ℕ)

/-- What is said of the pipeline: an input's buffer is left as found, an output's has the visit's rows replaced, and the
    carried weights are those of the visit before. -/
def vdats (hO : Ok m) (c : Dev nD) : RDat τ (Elt Ideal) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => Upd (n := 2048) g t.val (byNum (arrs m c).X) Y X
    | ⟨7, _⟩ => fun Y X => Upd (n := 2816) g t.val (byNum (arrs m c).C) Y X
    | ⟨8, _⟩ => fun Y X => Upd (n := 22) g t.val (byNum (arrs m c).S) Y X
  Φ t := iprop(((∃ f : Buf (Elt Ideal) ((c : Thread nD τ).loc cc0_scratch0), ⌜Carried g (arrs m c) t.val f⌝ ∗ ((c : Thread nD τ).loc cc0_scratch0) ↦{fullShare} f)
      ∗ (∃ f : Buf (Elt Ideal) ((c : Thread nD τ).loc cc0_scratch1), ((c : Thread nD τ).loc cc0_scratch1) ↦{fullShare} f))
    ∗ (∃ r, prngReg c r) ∗ Pipeline.ΦT pre0 (tbl m) c)
  q _ := fullShare
  owed _ := 0

end Cert.KernelIdeal.Hand

end
-- ==== Proof.KernelIdealTrack.lean ====
/- The launch, followed visit by visit: at the end every row of the three results is its own expert's. -/
module

public import proofs.«01_k».proof.Proof.KernelIdealValue

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.KernelIdeal.Gen Cert.Sched Cert.SchedWords

local notation "𝕄" => MT nD τ sig Unit (Elt Ideal) ℕ (UR sig nD τ) ℕ

variable (m : (ℓ : Loc nD τ sig) → Buf (Elt Ideal) ℓ) {g : ℕ → ℕ} (hs : Sizes (gsz m) g) (ρ : Dev nD → PrngReg)

section Words
variable (c : Dev nD) (t : Fin grid0.N)

theorem off2_val (i : grid0.Coords) : k0_off2 i 0 = (i 0).val := by
  have hi : (i 0).val < 63 := (i 0).isLt
  show (BitVec.ofNat 32 (i 0).val).toNat = (i 0).val
  rw [BitVec.toNat_ofNat, Nat.mod_eq_of_lt (by omega)]

include hs

theorem w_lo : word1 (F := Ideal) c (grid0.coords t) (Memref.whole main_v52) (tbl m 2) = BitVec.ofNat 32 (lo g t.val) := by
  have e := (congrArg (tbl m 2) (unit_at (k0_off1 (grid0.coords t)) (k0_off1_inb (grid0.coords t)) ((grid0.coords t) 0) (off1_val (grid0.coords t)) (Shape.Idx.first (numel1_S1.symm ▸ Nat.one_pos : 0 < S1.numel)))).trans (tbl_lo hs ((grid0.coords t) 0))
  rw [coord_val] at e
  exact e
theorem w_hi : word1 (F := Ideal) c (grid0.coords t) (Memref.whole main_v65) (tbl m 3) = BitVec.ofNat 32 (hi g t.val) := by
  have e := (congrArg (tbl m 3) (unit_at (k0_off1 (grid0.coords t)) (k0_off1_inb (grid0.coords t)) ((grid0.coords t) 0) (off1_val (grid0.coords t)) (Shape.Idx.first (numel1_S1.symm ▸ Nat.one_pos : 0 < S1.numel)))).trans (tbl_hi hs ((grid0.coords t) 0))
  rw [coord_val] at e
  exact e
theorem w_ne : word2 (F := Ideal) c (grid0.coords t) (Memref.whole main_v71) (tbl m 4) = BitVec.ofNat 32 (newe g t.val) := by
  have e := (congrArg (tbl m 4) (unit_at (k0_off2 (grid0.coords t)) (k0_off2_inb (grid0.coords t)) ((grid0.coords t) 0) (off2_val (grid0.coords t)) (Shape.Idx.first (numel1_S1.symm ▸ Nat.one_pos : 0 < S1.numel)))).trans (tbl_newe hs ((grid0.coords t) 0))
  rw [coord_val] at e
  exact e
end Words

section Found
variable {m} (hO : Ok m) (c : Dev nD) (t : Fin (cfgM m hO).N) (Y : (w : Fin (cfgM m hO).W) → ((cfgM m hO).win w).block.Idx → Elt Ideal ((cfgM m hO).win w).elt)
  (hY : ∀ w, (vdats m g hO c).Finds w t (Y w))

include hY

theorem found0 (r : Fin 256) (k : Fin 2048) : (Y 0 : (⟨2, ![256, 2048]⟩ : Shape).Idx → EReal) (ix2 r k) = (arrs m c).x (rowAt ⟨tile g t.val, tile_lt g hs.sum t.val⟩ r) k := by
  obtain ⟨d, e⟩ := RDat.finds_in_eq_fetched (vdats m g hO c) 0 rfl (fun _ _ _ => rfl) (fun _ _ _ h => h) t (Y 0) (hY 0)
  exact (congrFun e (ix2 r k)).trans (fetched0 hs (vdats m g hO c) t rfl d r k)
theorem found1 (r : Fin 256) (k : Fin 16) : (Y 1 : (⟨2, ![256, 16]⟩ : Shape).Idx → EReal) (ix2 r k) = (arrs m c).xs (rowAt ⟨tile g t.val, tile_lt g hs.sum t.val⟩ r) k := by
  obtain ⟨d, e⟩ := RDat.finds_in_eq_fetched (vdats m g hO c) 1 rfl (fun _ _ _ => rfl) (fun _ _ _ h => h) t (Y 1) (hY 1)
  exact (congrFun e (ix2 r k)).trans (fetched1 hs (vdats m g hO c) t rfl d r k)
theorem found2 (k : Fin 2048) (j : Fin 2816) : (Y 2 : (⟨3, ![1, 2048, 2816]⟩ : Shape).Idx → EReal) (ix3 (0 : Fin 1) k j) = (arrs m c).w ⟨ex g t.val, ex_lt g hs.sum t.val⟩ k j := by
  obtain ⟨d, e⟩ := RDat.finds_in_eq_fetched (vdats m g hO c) 2 rfl (fun _ _ _ => rfl) (fun _ _ _ h => h) t (Y 2) (hY 2)
  exact (congrFun e (ix3 (0 : Fin 1) k j)).trans (fetched2 hs (vdats m g hO c) t rfl d k j)
theorem found3 (k : Fin 16) (j : Fin 22) : (Y 3 : (⟨3, ![1, 16, 22]⟩ : Shape).Idx → EReal) (ix3 (0 : Fin 1) k j) = (arrs m c).ws ⟨ex g t.val, ex_lt g hs.sum t.val⟩ k j := by
  obtain ⟨d, e⟩ := RDat.finds_in_eq_fetched (vdats m g hO c) 3 rfl (fun _ _ _ => rfl) (fun _ _ _ h => h) t (Y 3) (hY 3)
  exact (congrFun e (ix3 (0 : Fin 1) k j)).trans (fetched3 hs (vdats m g hO c) t rfl d k j)
theorem found4 (r : Fin 256) (k : Fin 1408) : (Y 4 : (⟨2, ![256, 1408]⟩ : Shape).Idx → EReal) (ix2 r k) = (arrs m c).h (rowAt ⟨tile g t.val, tile_lt g hs.sum t.val⟩ r) k := by
  obtain ⟨d, e⟩ := RDat.finds_in_eq_fetched (vdats m g hO c) 4 rfl (fun _ _ _ => rfl) (fun _ _ _ h => h) t (Y 4) (hY 4)
  exact (congrFun e (ix2 r k)).trans (fetched4 hs (vdats m g hO c) t rfl d r k)
theorem found5 (r : Fin 256) (k : Fin 11) : (Y 5 : (⟨2, ![256, 11]⟩ : Shape).Idx → EReal) (ix2 r k) = (arrs m c).hs (rowAt ⟨tile g t.val, tile_lt g hs.sum t.val⟩ r) k := by
  obtain ⟨d, e⟩ := RDat.finds_in_eq_fetched (vdats m g hO c) 5 rfl (fun _ _ _ => rfl) (fun _ _ _ h => h) t (Y 5) (hY 5)
  exact (congrFun e (ix2 r k)).trans (fetched5 hs (vdats m g hO c) t rfl d r k)

variable (d : Vec Ideal S2048x2816 .bf16) (hd : Carried g (arrs m c) t.val d)
include hs hd

theorem after6 : (vdats m g hO c).after 6 t (Y 6) (outX (F := Ideal) (word1 c (grid0.coords t) (Memref.whole main_v52) (tbl m 2)) (word1 c (grid0.coords t) (Memref.whole main_v65) (tbl m 3)) (word2 c (grid0.coords t) (Memref.whole main_v71) (tbl m 4)) (Y 0) (Y 1) (Y 2) (Y 3) (Y 4) (Y 5) d (Y 6)) := by
  rw [w_lo m hs c t, w_hi m hs c t, w_ne m hs c t]
  exact updX hs.sum (arrs m c) t.val (Y 2) (Y 3) d (found2 hs hO c t Y hY) (found3 hs hO c t Y hY) hd (Y 0) (Y 1) (Y 4) (Y 5)
    (found0 hs hO c t Y hY) (found1 hs hO c t Y hY) (found4 hs hO c t Y hY) (found5 hs hO c t Y hY) (Y 6)
theorem after7 : (vdats m g hO c).after 7 t (Y 7) (outC (F := Ideal) (word1 c (grid0.coords t) (Memref.whole main_v52) (tbl m 2)) (word1 c (grid0.coords t) (Memref.whole main_v65) (tbl m 3)) (word2 c (grid0.coords t) (Memref.whole main_v71) (tbl m 4)) (Y 0) (Y 1) (Y 2) (Y 3) (Y 4) (Y 5) d (Y 7)) := by
  rw [w_lo m hs c t, w_hi m hs c t, w_ne m hs c t]
  exact updC hs.sum (arrs m c) t.val (Y 2) (Y 3) d (found2 hs hO c t Y hY) (found3 hs hO c t Y hY) hd (Y 0) (Y 1) (Y 4) (Y 5)
    (found0 hs hO c t Y hY) (found1 hs hO c t Y hY) (found4 hs hO c t Y hY) (found5 hs hO c t Y hY) (Y 7)
theorem after8 : (vdats m g hO c).after 8 t (Y 8) (outS (F := Ideal) (word1 c (grid0.coords t) (Memref.whole main_v52) (tbl m 2)) (word1 c (grid0.coords t) (Memref.whole main_v65) (tbl m 3)) (word2 c (grid0.coords t) (Memref.whole main_v71) (tbl m 4)) (Y 0) (Y 1) (Y 2) (Y 3) (Y 4) (Y 5) d (Y 8)) := by
  rw [w_lo m hs c t, w_hi m hs c t, w_ne m hs c t]
  exact updS hs.sum (arrs m c) t.val (Y 2) (Y 3) d (found2 hs hO c t Y hY) (found3 hs hO c t Y hY) hd (Y 0) (Y 1) (Y 4) (Y 5)
    (found0 hs hO c t Y hY) (found1 hs hO c t Y hY) (found4 hs hO c t Y hY) (found5 hs hO c t Y hY) (Y 8)
theorem afterD : Carried g (arrs m c) (t.val + 1) (outD (F := Ideal) (word1 c (grid0.coords t) (Memref.whole main_v52) (tbl m 2)) (word1 c (grid0.coords t) (Memref.whole main_v65) (tbl m 3)) (word2 c (grid0.coords t) (Memref.whole main_v71) (tbl m 4)) (Y 2) (Y 3) d) := by
  rw [w_lo m hs c t, w_hi m hs c t, w_ne m hs c t]
  exact carried_succ hs.sum (arrs m c) t.val (Y 2) (Y 3) d (found2 hs hO c t Y hY) (found3 hs hO c t Y hY) hd
end Found

/-- The invariant before visit `n`. -/
def VPhi (g : ℕ → ℕ) (c : Dev nD) (n : ℕ) : sProp 𝕄 :=
  iprop(((∃ f : Buf (Elt Ideal) ((c : Thread nD τ).loc cc0_scratch0), ⌜Carried g (arrs m c) n f⌝ ∗ ((c : Thread nD τ).loc cc0_scratch0) ↦{fullShare} f)
      ∗ (∃ f : Buf (Elt Ideal) ((c : Thread nD τ).loc cc0_scratch1), ((c : Thread nD τ).loc cc0_scratch1) ↦{fullShare} f))
    ∗ (∃ r, prngReg c r) ∗ Pipeline.ΦT pre0 (tbl m) c)

include hs in
theorem vbody_obligation (hO : Ok m) (c : Dev nD) : (vdats m g hO c).BodyObligation (defs₀ (F := Ideal)) Variants.none () Set.univ := fun t Y hY => by
  rw [bigSep_W0, bigSep_W0, defs₀_row]
  rw [show (vdats m g hO c).Φ t.castSucc = VPhi m g c t.val from rfl,
    show (vdats m g hO c).Φ t.succ = VPhi m g c (t.val + 1) from rfl,
    show (vdats m g hO c).owesAt () t.succ = (vdats m g hO c).owesAt () t.castSucc from rfl]
  unfold VPhi
  rw [PhiT_eq]
  iintro ⟨⟨⟨⟨%s0, %hd, S0⟩, ⟨%s1, S1⟩⟩, HP, HT⟩, Ho, H0, H1, H2, H3, H4, H5, H6, H7, H8⟩
  icases HT with ⟨HT1, HT2, HT3, HT4, HT5, HT6⟩
  iapply (run_value c Set.univ (grid0.coords t) _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) s0 _)
  isplitl [HT1]; · iexact HT1
  isplitl [HT2]; · iexact HT2
  isplitl [HT3]; · iexact HT3
  isplitl [HT4]; · iexact HT4
  isplitl [HT5]; · iexact HT5
  isplitl [HT6]; · iexact HT6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · rw [owns_whole]; iexact S0
  isplitl [S1]; · iexists s1; rw [owns_whole]; iexact S1
  iintro ⟨HT1, HT2, HT3, HT4, HT5, HT6, H0, H1, H2, H3, H4, H5, H6, H7, H8, S0, ⟨%e1, S1⟩⟩
  isplitl [S0 S1 HP HT1 HT2 HT3 HT4 HT5 HT6]
  · isplitl [S0 S1]
    · isplitl [S0]
      · iexists _; isplitr
        swap
        · rw [← owns_whole (Val := Elt Ideal) (c : Thread nD τ) cc0_scratch0]; iexact S0
        ipureintro; exact afterD hs hO c t Y hY s0 hd
      · iexists e1; rw [← owns_whole (Val := Elt Ideal) (c : Thread nD τ) cc0_scratch1]; iexact S1
    isplitl [HP]
    · iexact HP
    isplitl [HT1]; · iexact HT1
    isplitl [HT2]; · iexact HT2
    isplitl [HT3]; · iexact HT3
    isplitl [HT4]; · iexact HT4
    isplitl [HT5]; · iexact HT5
    iexact HT6
  isplitl [Ho]; · iexact Ho
  isplitl [H0]
  · iexists (Y 0); isplitr
    · ipureintro; exact rfl
    iexact H0
  isplitl [H1]
  · iexists (Y 1); isplitr
    · ipureintro; exact rfl
    iexact H1
  isplitl [H2]
  · iexists (Y 2); isplitr
    · ipureintro; exact rfl
    iexact H2
  isplitl [H3]
  · iexists (Y 3); isplitr
    · ipureintro; exact rfl
    iexact H3
  isplitl [H4]
  · iexists (Y 4); isplitr
    · ipureintro; exact rfl
    iexact H4
  isplitl [H5]
  · iexists (Y 5); isplitr
    · ipureintro; exact rfl
    iexact H5
  isplitl [H6]
  · iexists _; isplitr
    swap; · iexact H6
    ipureintro; exact after6 hs hO c t Y hY s0 hd
  isplitl [H7]
  · iexists _; isplitr
    swap; · iexact H7
    ipureintro; exact after7 hs hO c t Y hY s0 hd
  iexists _; isplitr
  swap; · iexact H8
  ipureintro; exact after8 hs hO c t Y hY s0 hd

theorem v_in (hO : Ok m) (c : Dev nD) : iprop(Pipeline.ΦA spec0 c ∗ Pipeline.ΦT pre0 (tbl m) c) ⊢ (vdats m g hO c).Φ 0 := by
  rw [show (vdats m g hO c).Φ 0 = VPhi m g c 0 from rfl]
  unfold Pipeline.ΦA VPhi
  rw [scopedRest0_eq]
  iintro ⟨⟨⟨⟨%s0, S0⟩, S1⟩, HP⟩, HT⟩
  isplitl [S0 S1]
  · isplitl [S0]
    · iexists s0; isplitr
      · ipureintro; exact fun h => absurd h (Nat.lt_irrefl 0)
      iexact S0
    iexact S1
  isplitl [HP]
  · iexact HP
  iexact HT

theorem v_out (hO : Ok m) (c : Dev nD) : (vdats m g hO c).Φ (Fin.last (cfgM m hO).N) ⊢ (Pipeline.ΦA spec0 c : sProp 𝕄) := by
  rw [show (vdats m g hO c).Φ (Fin.last (cfgM m hO).N) = VPhi m g c (cfgM m hO).N from rfl]
  unfold Pipeline.ΦA VPhi
  rw [scopedRest0_eq]
  iintro ⟨⟨⟨%s0, %hd, S0⟩, S1⟩, HP, HT⟩
  isplitl [S0 S1]
  · isplitl [S0]
    · iexists s0; iexact S0
    iexact S1
  iexact HP

set_option backward.isDefEq.respectTransparency.types false in
set_option maxHeartbeats 800000 in
include hs in
/-- THE LAUNCH. -/
theorem vrun_main (hO : Ok m) : θ_run defs (onTc (τ := τ) (main (F := Ideal))) (s₀ m ρ)
    (fun r => RDat.FramePost (cfgM m hO) (vdats m g hO) (V m) r ∧ r.2.sem = fun _ => 0) :=
  RDat.θ_run_frameP_track (Q' := _) pcfgs (fun _ => adm m hO) (0 : Fin 1) launch0 defs₀ Variants.none (vdats m g hO) m ρ main
    (hbody := fun c => vbody_obligation m hs hO c) (hshare := fun c => (vdats m g hO c).share_full fun _ => rfl)
    (howed := fun _ _ => rfl) (V := V m) (hmain := hmain m Variants.none) (hA := fun c w => rfl)
    (hpf := fun c k => V_pre m c k) (hin := fun c => v_in m hO c) (hout := fun c => v_out m hO c) (hQ' := fun _ h => h)

end Cert.KernelIdeal.Hand

end
-- ==== Proof.KernelIdealRes.lean ====
/- What the kernel computes: row `r` of each result is row `r` under the expert whose group holds it. -/
module

public import proofs.«01_k».proof.Proof.KernelIdealTrack
public import proofs.«01_k».proof.Proof.SchedPre

@[expose] public section

set_option maxRecDepth 16384

noncomputable section

namespace Cert.KernelIdeal.Hand

open Idealize.ShloMosaic Idealize.ShloMosaic.TcCoe
open Idealize.SL Idealize.SL.RA Idealize.SL.Sem
open Idealize.ShloMosaic.Pipeline (RDat Cfg Window cellOf)
open Cert.KernelIdeal.Gen Cert.Sched Cert.SchedWords

variable {m : (ℓ : Loc nD τ sig) → Buf (Elt Ideal) ℓ} {g : ℕ → ℕ} (hs : Sizes (gsz m) g) (hO : Ok m) (c : Dev nD)

theorem vec_iff (a b : ℕ) : (![a, 0] : Fin 2 → ℕ) = ![b, 0] ↔ a = b := ⟨fun h => congrFun h 0, fun h => by rw [h]⟩

include hs
variable (r : Fin 8192) (e : Fin 32) (he1 : S g e.val ≤ r.val) (he2 : r.val < S g (e.val + 1))
include he1 he2

theorem rows6 (G : (⟨2, ![8192, 2048]⟩ : Shape).Idx → EReal) (hG : (vdats m g hO c).ArrAt 6 (cfgM m hO).N G) (k : Fin 2048) : G (ix2 r k) = (arrs m c).X r e k := by
  have hidx : ∀ t t' : Fin (cfgM m hO).N, ((cfgM m hO).win 6).index t = ((cfgM m hO).win 6).index t' ↔ tile g t.val = tile g t'.val := fun t t' => by
    rw [index6 hs t, index6 hs t']; exact vec_iff _ _
  have h := Cover.arr_row (vdats m g hO c) hs.sum 6 rfl hidx (rowOf (N := 256) (n := 2048)) (byNum (arrs m c).X) (fun t Y X h => h)
    (rowOf (N := 8192) (n := 2048)) (fun t G X r hr => write6 hs t G X r hr) rfl G hG r.val r.isLt e.val he1 he2
  exact ((rowOf_at G r.val r.isLt k).symm.trans (congrFun h k)).trans (congrFun (byNum_at (arrs m c).X r e) k)

theorem rows7 (G : (⟨2, ![8192, 2816]⟩ : Shape).Idx → EReal) (hG : (vdats m g hO c).ArrAt 7 (cfgM m hO).N G) (k : Fin 2816) : G (ix2 r k) = (arrs m c).C r e k := by
  have hidx : ∀ t t' : Fin (cfgM m hO).N, ((cfgM m hO).win 7).index t = ((cfgM m hO).win 7).index t' ↔ tile g t.val = tile g t'.val := fun t t' => by
    rw [index7 hs t, index7 hs t']; exact vec_iff _ _
  have h := Cover.arr_row (vdats m g hO c) hs.sum 7 rfl hidx (rowOf (N := 256) (n := 2816)) (byNum (arrs m c).C) (fun t Y X h => h)
    (rowOf (N := 8192) (n := 2816)) (fun t G X r hr => write7 hs t G X r hr) rfl G hG r.val r.isLt e.val he1 he2
  exact ((rowOf_at G r.val r.isLt k).symm.trans (congrFun h k)).trans (congrFun (byNum_at (arrs m c).C r e) k)

theorem rows8 (G : (⟨2, ![8192, 22]⟩ : Shape).Idx → EReal) (hG : (vdats m g hO c).ArrAt 8 (cfgM m hO).N G) (k : Fin 22) : G (ix2 r k) = (arrs m c).S r e k := by
  have hidx : ∀ t t' : Fin (cfgM m hO).N, ((cfgM m hO).win 8).index t = ((cfgM m hO).win 8).index t' ↔ tile g t.val = tile g t'.val := fun t t' => by
    rw [index8 hs t, index8 hs t']; exact vec_iff _ _
  have h := Cover.arr_row (vdats m g hO c) hs.sum 8 rfl hidx (rowOf (N := 256) (n := 22)) (byNum (arrs m c).S) (fun t Y X h => h)
    (rowOf (N := 8192) (n := 22)) (fun t G X r hr => write8 hs t G X r hr) rfl G hG r.val r.isLt e.val he1 he2
  exact ((rowOf_at G r.val r.isLt k).symm.trans (congrFun h k)).trans (congrFun (byNum_at (arrs m c).S r e) k)

omit hs he1 he2 r e in
theorem vA_eq (w : Fin 9) : (vdats m g hO c).A w = V m c (Pipeline.arrRef spec0 w) := by
  dsimp only [vdats]

omit he1 he2 r e in
set_option maxHeartbeats 1000000 in
/-- THE VALUE. -/
theorem value (ρ : Dev nD → PrngReg) (hO : Ok m) : θ_run defs (onTc (τ := τ) (main (F := Ideal))) ⟨m, fun _ => 0, ρ⟩ (fun q => ∀ c : Dev nD,
      (∀ (r : Fin 8192) (e : Fin 32), S g e.val ≤ r.val → r.val < S g (e.val + 1) →
        (∀ k : Fin 2048, q.2.mem ((c.tc : Thread nD τ).loc main_v78_0) (ix2 r k) = (arrs m c).X r e k)
        ∧ (∀ k : Fin 2816, q.2.mem ((c.tc : Thread nD τ).loc main_v78_1) (ix2 r k) = (arrs m c).C r e k)
        ∧ (∀ k : Fin 22, q.2.mem ((c.tc : Thread nD τ).loc main_v78_2) (ix2 r k) = (arrs m c).S r e k))
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)
      ∧ q.2.mem ((c.tc : Thread nD τ).loc main_arg5) = m ((c.tc : Thread nD τ).loc main_arg5)
      ∧ q.2.mem ((c.tc : Thread nD τ).loc main_arg6) = m ((c.tc : Thread nD τ).loc main_arg6)) :=
  (θ_run defs _ _).mono (fun q h c => ⟨fun r e h1 h2 => ⟨fun k => rows6 hs hO c r e h1 h2 _ ((h.1 c).1 6) k, fun k => rows7 hs hO c r e h1 h2 _ ((h.1 c).1 7) k, fun k => rows8 hs hO c r e h1 h2 _ ((h.1 c).1 8) k⟩,
    (h.1.arr_in c 0 rfl).trans ((vA_eq hO c 0).trans (V_main_arg0 m c)),
    (h.1.arr_in c 1 rfl).trans ((vA_eq hO c 1).trans (V_main_arg1 m c)),
    (h.1.arr_in c 2 rfl).trans ((vA_eq hO c 2).trans (V_main_arg2 m c)),
    (h.1.arr_in c 3 rfl).trans ((vA_eq hO c 3).trans (V_main_arg3 m c)),
    (h.1.arr_in c 4 rfl).trans ((vA_eq hO c 4).trans (V_main_arg4 m c)),
    (h.1.arr_in c 5 rfl).trans ((vA_eq hO c 5).trans (V_main_arg5 m c)),
    ((h.1 c).2 main_arg6 (show main_arg6 ∈ Pipeline.restRefs sig spec0 from Pipeline.mem_restRefs_of main_arg6 (by decide) (by decide))).trans (V_main_arg6 m c)⟩) (vrun_main m hs ρ hO)

end Cert.KernelIdeal.Hand

end
-- ==== Proof.RefRead.lean ====
/- The reference's values read at one row: the dequantised operands and the product summed over the experts. -/
module

public import proofs.«01_k».proof.Proof.Row
public import proofs.«01_k».proof.Proof.Gen.ReferenceIdeal.Frame
public import Idealize.ShloMosaic.Lib.Pointwise.TacticCore
public import Idealize.ShloMosaic.Lib.Pointwise.Contract
public import Idealize.ShloMosaic.Lib.MatmulPlain
public import Idealize.ShloMosaic.Lib.Pipeline.Value
public import Idealize.ShloMosaic.Lib.Pointwise.SelectCore
public import Idealize.ShloMosaic.Lib.ValueIdxCore

@[expose] public section

set_option maxRecDepth 16384

noncomputable section

namespace Cert.ReferenceIdeal.Read

open Idealize.ShloMosaic
open Cert.ReferenceIdeal.Gen

theorem idx2_ext {a b : ℕ} {i j : (⟨2, ![a, b]⟩ : Shape).Idx} (h0 : (i 0).val = (j 0).val) (h1 : (i 1).val = (j 1).val) : i = j :=
  funext fun k => Fin.ext (match k with | 0 => h0 | 1 => h1)

theorem idx3_ext {a b c : ℕ} {i j : (⟨3, ![a, b, c]⟩ : Shape).Idx} (h0 : (i 0).val = (j 0).val) (h1 : (i 1).val = (j 1).val) (h2 : (i 2).val = (j 2).val) : i = j :=
  funext fun k => Fin.ext (match k with | 0 => h0 | 1 => h1 | 2 => h2)

/-- The arrays of numbers. -/
def arr (x0 : Vec Ideal S8192x2048 .fp8e4m3) (x1 : Vec Ideal S8192x16 .f32) (x2 : Vec Ideal S32x2048x2816 .fp8e4m3) (x3 : Vec Ideal S32x16x22 .f32)
    (x4 : Vec Ideal S8192x1408 .fp8e5m2) (x5 : Vec Ideal S8192x11 .f32) : Moe.Arr where
  x r k := x0 (ix2 r k)
  xs r k := x1 (ix2 r k)
  w e k c := x2 (ix3 e k c)
  ws e k c := x3 (ix3 e k c)
  h r c := x4 (ix2 r c)
  hs r c := x5 (ix2 r c)

/-- Blocks of 128 side by side make the row. -/
theorem merge_apply {α : Type} {n nb N : ℕ} (hN : N = nb * 128) (X : (⟨3, ![n, nb, 128]⟩ : Shape).Idx → α)
    (h : (⟨3, ![n, nb, 128]⟩ : Shape).ShapeCasts ⟨2, ![n, N]⟩) (r : Fin n) (k : Fin N) (b : Fin nb) (l : Fin 128) (hb : b.val = k.val / 128) (hl : l.val = k.val % 128) :
    shapeCast ⟨2, ![n, N]⟩ X h (ix2 r k) = X (ix3 r b l) := by
  refine shapeCast_apply (s := ⟨3, ![n, nb, 128]⟩) _ _ _ (ix3 r b l) ?_
  rw [Shape.rowMajor_val_three, Shape.rowMajor_val_two]
  show (r.val * nb + b.val) * 128 + l.val = r.val * N + k.val
  have hr : r.val * N = r.val * nb * 128 := by rw [hN, Nat.mul_assoc]
  rw [hb, hl, hr]
  omega

/-- The row cut into blocks of 128. -/
theorem split_apply {α : Type} {n nb N : ℕ} (hN : N = nb * 128) (X : (⟨2, ![n, N]⟩ : Shape).Idx → α)
    (h : (⟨2, ![n, N]⟩ : Shape).ShapeCasts ⟨3, ![n, nb, 128]⟩) (r : Fin n) (b : Fin nb) (l : Fin 128) (k : Fin N) (hk : k.val = 128 * b.val + l.val) :
    shapeCast ⟨3, ![n, nb, 128]⟩ X h (ix3 r b l) = X (ix2 r k) := by
  refine shapeCast_apply (s := ⟨2, ![n, N]⟩) _ _ _ (ix2 r k) ?_
  rw [Shape.rowMajor_val_three, Shape.rowMajor_val_two]
  show r.val * N + k.val = (r.val * nb + b.val) * 128 + l.val
  have hr : r.val * N = r.val * nb * 128 := by rw [hN, Nat.mul_assoc]
  rw [hk, hr]
  omega

/-- A column per block, spread over the block's 128 columns. -/
theorem spread_apply {α : Type} {n nb : ℕ} (X : (⟨2, ![n, nb]⟩ : Shape).Idx → α) (h : (⟨2, ![n, nb]⟩ : Shape).ShapeCasts ⟨3, ![n, nb, 1]⟩)
    (h' : (⟨3, ![n, nb, 1]⟩ : Shape).Broadcasts ⟨3, ![n, nb, 128]⟩) (r : Fin n) (b : Fin nb) (l : Fin 128) (hn : n ≠ 1) (hnb : nb ≠ 1) :
    broadcastTo ⟨3, ![n, nb, 128]⟩ (shapeCast ⟨3, ![n, nb, 1]⟩ X h) h' (ix3 r b l) = X (ix2 r b) := by
  refine (broadcastTo_apply (s := ⟨3, ![n, nb, 1]⟩) _ _ _ (ix3 r b (0 : Fin 1)) ?_).trans (shapeCast_apply (s := ⟨2, ![n, nb]⟩) _ _ _ (ix2 r b) ?_)
  · intro a
    match a with
    | 0 => exact (if_neg hn).symm
    | 1 => exact (if_neg hnb).symm
    | 2 => rfl
  · rw [Shape.rowMajor_val_three, Shape.rowMajor_val_two]
    show r.val * nb + b.val = (r.val * nb + b.val) * 1 + 0
    omega

/-- One copy of the array for each of the 32 experts. -/
theorem copies_apply {α : Type} {n N : ℕ} (X : (⟨2, ![n, N]⟩ : Shape).Idx → α) (h : (⟨2, ![n, N]⟩ : Shape).ShapeCasts ⟨3, ![1, n, N]⟩)
    (h1 : (⟨3, ![1, n, N]⟩ : Shape).ShapeCasts ⟨3, ![1, n, N]⟩)
    (h' : (⟨3, ![1, n, N]⟩ : Shape).Broadcasts ⟨3, ![32, n, N]⟩) (e : Fin 32) (r : Fin n) (c : Fin N) (hn : n ≠ 1) (hN : N ≠ 1) :
    broadcastTo ⟨3, ![32, n, N]⟩ (shapeCast ⟨3, ![1, n, N]⟩ (shapeCast ⟨3, ![1, n, N]⟩ X h) h1) h' (ix3 e r c) = X (ix2 r c) := by
  refine (broadcastTo_apply (s := ⟨3, ![1, n, N]⟩) _ _ _ (ix3 (0 : Fin 1) r c) ?_).trans ((shapeCast_apply (s := ⟨3, ![1, n, N]⟩) _ _ _ (ix3 (0 : Fin 1) r c) rfl).trans
    (shapeCast_apply (s := ⟨2, ![n, N]⟩) _ _ _ (ix2 r c) ?_))
  · intro a
    match a with
    | 0 => rfl
    | 1 => exact (if_neg hn).symm
    | 2 => exact (if_neg hN).symm
  · rw [Shape.rowMajor_val_three, Shape.rowMajor_val_two]
    show r.val * N + c.val = (0 * n + r.val) * N + c.val
    rw [Nat.zero_mul, Nat.zero_add]

/-- A mark per expert and row, spread over the columns. -/
theorem marks_apply {N : ℕ} (K : IVec S32x8192x1 1) (h1 : S32x8192x1.ShapeCasts S32x8192x1)
    (h' : S32x8192x1.Broadcasts ⟨3, ![32, 8192, N]⟩) (e : Fin 32) (r : Fin 8192) (c : Fin N) :
    broadcastTo ⟨3, ![32, 8192, N]⟩ (shapeCast S32x8192x1 K h1) h' (ix3 e r c) = K (ix3 e r (0 : Fin 1)) := by
  refine (broadcastTo_apply (s := S32x8192x1) _ _ _ (ix3 e r (0 : Fin 1)) ?_).trans (shapeCast_apply (s := S32x8192x1) _ _ _ (ix3 e r (0 : Fin 1)) rfl)
  intro a
  match a with
  | 0 => rfl
  | 1 => rfl
  | 2 => rfl

/-- A sum over the experts in which only one is marked. -/
theorem pick (K : Fin 32 → BitVec 1) (e0 : Fin 32) (hK : ∀ e, K e = BitVec.ofBool (decide (e = e0))) (f : Fin 32 → EReal) :
    (∑ e : Fin 32, Scalar.select (K e) (f e) (Ideal.ofBits .f32 0x00000000#32)) = f e0 := by
  rw [Finset.sum_eq_single e0]
  · rw [hK]
    simp [Scalar.select]
  · intro e _ he
    rw [hK, decide_eq_false he, Ideal.ofBits_zero_f32]
    rfl
  · intro h
    exact absurd (Finset.mem_univ _) h

theorem lift0 {N : ℕ} (h : (⟨3, ![32, 8192, N]⟩ : Shape).Reduces [0] ⟨2, ![8192, N]⟩) (r : Fin 8192) (c : Fin N) (e : Fin 32) :
    h.lift (ix2 r c) e = ix3 e r c := idx3_ext rfl rfl rfl

variable (w : Vec Ideal S32x2048x2816 .fp8e4m3) (ws : Vec Ideal S32x16x22 .f32)

def kb (k : Fin 2048) : Fin 16 := ⟨k.val / 128, by omega⟩
def kl {n : ℕ} (k : Fin n) : Fin 128 := ⟨k.val % 128, Nat.mod_lt _ (by decide)⟩

/-- An expert's dequantised weights. -/
theorem pay3_apply (e : Fin 32) (k : Fin 2048) (c : Fin 2816) :
    k0_pay3 (F := Ideal) w ws (ix3 e k c) = ((w (ix3 e k c) : EReal) * (ws (ix3 e (kb k) (Moe.bk c)) : EReal) : EReal) := by
  unfold k0_pay3
  refine (shapeCast_apply (s := S32x16x128x22x128) _ _ _ (ix5 e (kb k) (kl k) (Moe.bk c) (kl c)) ?_).trans ?_
  · rw [Shape.rowMajor_val_five, Shape.rowMajor_val_three]
    show (((e.val * 16 + k.val / 128) * 128 + k.val % 128) * 22 + c.val / 128) * 128 + c.val % 128 = (e.val * 2048 + k.val) * 2816 + c.val
    omega
  · refine congrArg₂ (fun a b : EReal => a * b) ?_ ?_
    · refine shapeCast_apply (s := S32x2048x2816) _ _ _ (ix3 e k c) ?_
      rw [Shape.rowMajor_val_five, Shape.rowMajor_val_three]
      show (e.val * 2048 + k.val) * 2816 + c.val = (((e.val * 16 + k.val / 128) * 128 + k.val % 128) * 22 + c.val / 128) * 128 + c.val % 128
      omega
    · refine (broadcastTo_apply (s := S32x16x1x22x1) _ _ _ (ix5 e (kb k) (0 : Fin 1) (Moe.bk c) (0 : Fin 1)) ?_).trans
        (shapeCast_apply (s := S32x16x22) _ _ _ (ix3 e (kb k) (Moe.bk c)) ?_)
      · intro a
        match a with
        | 0 => rfl
        | 1 => rfl
        | 2 => rfl
        | 3 => rfl
        | 4 => rfl
      · rw [Shape.rowMajor_val_five, Shape.rowMajor_val_three]
        show (e.val * 16 + k.val / 128) * 22 + c.val / 128 = (((e.val * 16 + k.val / 128) * 1 + 0) * 22 + c.val / 128) * 1 + 0
        omega

/-- Each row times each expert's columns. -/
theorem dot1_apply (L : FVec Ideal S32x8192x2048 .bf16) (R : FVec Ideal S32x2048x2816 .bf16) (e : Fin 32) (r : Fin 8192) (c : Fin 2816) :
    (matmul dot_S32x8192x2048_S32x2048x2816_S32x8192x2816_2_1_1_2_0_0 none L R (constant S32x8192x2816 .f32 0x00000000#32)) (ix3 e r c)
      = ∑ k : Fin 2048, (L (ix3 e r k) : EReal) * (R (ix3 e k c) : EReal) := by
  refine (Ideal.matmul_apply₁_of dot_S32x8192x2048_S32x2048x2816_S32x8192x2816_2_1_1_2_0_0 (a := 2) rfl (K := 2048) rfl L R _ (ix3 e r c)
    (fun k => ix3 e r k) (fun k => ix3 e k c) (fun k => idx3_ext rfl rfl rfl) (fun k => idx3_ext rfl rfl rfl)).trans ?_
  show Ideal.ofBits .f32 0x00000000#32 + _ = _
  rw [Ideal.ofBits_zero_f32, zero_add]

/-- Each row times each expert's rows. -/
theorem dot2_apply (L : FVec Ideal S32x8192x2816 .bf16) (R : FVec Ideal S32x2048x2816 .bf16) (e : Fin 32) (r : Fin 8192) (k : Fin 2048) :
    (matmul dot_S32x8192x2816_S32x2048x2816_S32x8192x2048_2_2_1_1_0_0 none L R (constant S32x8192x2048 .f32 0x00000000#32)) (ix3 e r k)
      = ∑ c : Fin 2816, (L (ix3 e r c) : EReal) * (R (ix3 e k c) : EReal) := by
  refine (Ideal.matmul_apply₁_of dot_S32x8192x2816_S32x2048x2816_S32x8192x2048_2_2_1_1_0_0 (a := 2) rfl (K := 2816) rfl L R _ (ix3 e r k)
    (fun c => ix3 e r c) (fun c => ix3 e k c) (fun k => idx3_ext rfl rfl rfl) (fun k => idx3_ext rfl rfl rfl)).trans ?_
  show Ideal.ofBits .f32 0x00000000#32 + _ = _
  rw [Ideal.ofBits_zero_f32, zero_add]

end Cert.ReferenceIdeal.Read

end
-- ==== Proof.RefRead2.lean ====
/- The reference's results read at one row: the row's results under the one expert whose group holds the row. -/
module

public import proofs.«01_k».proof.Proof.RefRead

@[expose] public section

set_option maxRecDepth 16384

noncomputable section

namespace Cert.ReferenceIdeal.Read

open Idealize.ShloMosaic
open Cert.ReferenceIdeal.Gen

section Products

variable (x0 : Vec Ideal S8192x2048 .fp8e4m3) (x1 : Vec Ideal S8192x16 .f32) (x2 : Vec Ideal S32x2048x2816 .fp8e4m3) (x3 : Vec Ideal S32x16x22 .f32)
  (x4 : Vec Ideal S8192x1408 .fp8e5m2) (x5 : Vec Ideal S8192x11 .f32) (x6 : Vec Ideal S32x8192x1 .i32)

/-- The dequantised rows. -/
def rowsOf : FVec Ideal S8192x2048 .bf16 :=
  shapeCast S8192x2048 (mulf (shapeCast S8192x16x128 (extf .bf16 x0 bitsLt_fp8e4m3_bf16) shapeCasts_S8192x2048_S8192x16x128)
    (broadcastTo S8192x16x128 (shapeCast S8192x16x1 (truncf .bf16 x1 bitsLt_bf16_f32) shapeCasts_S8192x16_S8192x16x1) broadcasts_S8192x16x1_S8192x16x128))
    shapeCasts_S8192x16x128_S8192x2048

theorem rowsOf_apply (r : Fin 8192) (k : Fin 2048) : rowsOf x0 x1 (ix2 r k) = (arr x0 x1 x2 x3 x4 x5).row r k := by
  unfold rowsOf
  refine (merge_apply (n := 8192) (nb := 16) (N := 2048) rfl _ _ r k (kb k) (kl k) rfl rfl).trans ?_
  refine congrArg₂ (fun a b : EReal => a * b) (split_apply (n := 8192) (nb := 16) (N := 2048) rfl _ _ r (kb k) (kl k) k ?_) (spread_apply (n := 8192) (nb := 16) _ _ _ r (kb k) (kl k) (by decide) (by decide))
  show k.val = 128 * (k.val / 128) + k.val % 128
  omega

variable (r : Fin 8192) (e0 : Fin 32) (hK : ∀ e : Fin 32, k0_pay2 (F := Ideal) x6 (ix3 e r (0 : Fin 1)) = BitVec.ofBool (decide (e = e0)))

include hK in
theorem pay4_apply (c : Fin 2816) :
    k0_pay4 (F := Ideal) x6 x0 x1 x2 x3 (ix2 r c) = Moe.gu ((arr x0 x1 x2 x3 x4 x5).row r) ((arr x0 x1 x2 x3 x4 x5).D e0) c := by
  unfold k0_pay4
  refine (Ideal.multiReduction_add_single (s := S32x8192x2816) (a := 0) _ 0x00000000#32 _ (.inl rfl) rfl (ix2 r c)).trans ?_
  refine (Finset.sum_congr rfl fun e _ => ?_).trans (pick (fun e => k0_pay2 (F := Ideal) x6 (ix3 e r (0 : Fin 1))) e0 hK
    fun e => ∑ k : Fin 2048, (arr x0 x1 x2 x3 x4 x5).row r k * (arr x0 x1 x2 x3 x4 x5).D e k c)
  rw [lift0 reduces_S32x8192x2816_S8192x2816 r c e]
  refine congrArg₂ (fun (a : BitVec 1) (b : EReal) => Scalar.select a b (Ideal.ofBits .f32 0x00000000#32)) (marks_apply (N := 2816) _ _ _ e r c) ?_
  refine (dot1_apply _ _ e r c).trans (Finset.sum_congr rfl fun k _ => congrArg₂ (fun a b : EReal => a * b) ?_ ?_)
  · exact (copies_apply (n := 8192) (N := 2048) _ _ _ _ e r k (by decide) (by decide)).trans (rowsOf_apply x0 x1 x2 x3 x4 x5 r k)
  · exact pay3_apply x2 x3 e k c

include hK in
theorem pay5_apply (c : Fin 1408) :
    k0_pay5 (F := Ideal) x6 x0 x1 x2 x3 (ix2 r c) = Moe.gu ((arr x0 x1 x2 x3 x4 x5).row r) ((arr x0 x1 x2 x3 x4 x5).D e0) ⟨c.val, by omega⟩ := by
  unfold k0_pay5
  refine (extractStridedSlice_apply (s := S8192x2816) _ _ _ _ (ix2 r (⟨c.val, by omega⟩ : Fin 2816)) ?_).trans (pay4_apply x0 x1 x2 x3 x4 x5 x6 r e0 hK _)
  intro a
  match a with
  | 0 => show r.val = 0 + r.val; omega
  | 1 => show c.val = 0 + c.val; omega

include hK in
theorem pay6_apply (c : Fin 1408) :
    k0_pay6 (F := Ideal) x6 x0 x1 x2 x3 (ix2 r c) = Moe.gu ((arr x0 x1 x2 x3 x4 x5).row r) ((arr x0 x1 x2 x3 x4 x5).D e0) ⟨c.val + 1408, by omega⟩ := by
  unfold k0_pay6
  refine (extractStridedSlice_apply (s := S8192x2816) _ _ _ _ (ix2 r (⟨c.val + 1408, by omega⟩ : Fin 2816)) ?_).trans (pay4_apply x0 x1 x2 x3 x4 x5 x6 r e0 hK _)
  intro a
  match a with
  | 0 => show r.val = 0 + r.val; omega
  | 1 => show c.val + 1408 = 1408 + c.val; omega

theorem pay7_apply (b : Fin 11) (l : Fin 128) (c : Fin 1408) (hc : c.val = 128 * b.val + l.val) : k0_pay7 (F := Ideal) x4 (ix3 r b l) = x4 (ix2 r c) := by
  unfold k0_pay7
  exact split_apply (n := 8192) (nb := 11) (N := 1408) rfl _ _ r b l c hc

theorem pay8_apply (b : Fin 11) (l : Fin 128) : k0_pay8 (F := Ideal) x5 (ix3 r b l) = x5 (ix2 r b) := by
  unfold k0_pay8
  exact spread_apply (n := 8192) (nb := 11) _ _ _ r b l (by decide) (by decide)

/-- The dequantised incoming gradient. -/
theorem h_apply (c : Fin 1408) : (shapeCast S8192x1408 (mulf (k0_pay7 (F := Ideal) x4) (k0_pay8 x5)) shapeCasts_S8192x11x128_S8192x1408 : FVec Ideal S8192x1408 .f32) (ix2 r c)
    = (arr x0 x1 x2 x3 x4 x5).H r c := by
  refine (merge_apply (n := 8192) (nb := 11) (N := 1408) rfl _ _ r c (⟨c.val / 128, by omega⟩ : Fin 11) (kl c) rfl rfl).trans ?_
  refine congrArg₂ (fun a b : EReal => a * b) (pay7_apply x4 r _ (kl c) c ?_) (pay8_apply x5 r _ (kl c))
  show c.val = 128 * (c.val / 128) + c.val % 128
  omega

end Products

section Gradient

theorem lift2 (r : Fin 8192) (b : Fin 22) (l : Fin 128) : reduces_S8192x22x128_S8192x22.lift (ix2 r b) l = ix3 r b l := idx3_ext rfl rfl rfl

theorem max_at (X : FVec Ideal S8192x22x128 .f32) (r : Fin 8192) (b : Fin 22) :
    (multiReduction .maximumf [2] S8192x22 X 0xFF800000#32 reduces_S8192x22x128_S8192x22 (.inl rfl) rfl : FVec Ideal S8192x22 .f32) (ix2 r b)
      = (Finset.univ : Finset (Fin 128)).fold max (Ideal.ofBits .f32 0xFF800000#32) (fun l => X (ix3 r b l)) := by
  have h := Ideal.multiReduction_maximumf_single (φ := .f32) (s := S8192x22x128) (t := S8192x22) (a := 2) X 0xFF800000#32 reduces_S8192x22x128_S8192x22 (.inl rfl) rfl (ix2 r b)
  have e : X ∘ reduces_S8192x22x128_S8192x22.lift (ix2 r b) = fun l : Fin 128 => X (ix3 r b l) := funext fun l => congrArg X (lift2 r b l)
  rw [e] at h
  exact h

theorem absf_at {s : Shape} (X : FVec Ideal s .f32) (i : s.Idx) : absf X i = (max (X i) (-(X i)) : EReal) := rfl
theorem exp2_at {s : Shape} (X : FVec Ideal s .f32) (i : s.Idx) : exp2 X i = Ideal.exp2 (X i) := rfl
theorem inv_at {s : Shape} (X : FVec Ideal s .f32) (i : s.Idx) :
    exp2 (subf (broadcast s (Scalar.ofBits .f32 0x00000000#32 : Ideal .f32)) X) i = Ideal.exp2 (Ideal.ofBits .f32 0x00000000#32 - X i) := rfl
theorem clamp_at {s : Shape} (X Y : FVec Ideal s .f32) (i : s.Idx) :
    truncf .fp8e5m2 (minimumf (broadcast s (Scalar.ofBits .f32 0x47600000#32 : Ideal .f32)) (maximumf (broadcast s (Scalar.ofBits .f32 0xC7600000#32 : Ideal .f32)) (mulf X Y))) bitsLt_fp8e5m2_f32 i
      = (min (Ideal.ofBits .f32 0x47600000#32) (max (Ideal.ofBits .f32 0xC7600000#32) (X i * Y i)) : EReal) := rfl

/-- The exponent, from a block's largest magnitude. -/
def expo {s : Shape} (a : FVec Ideal s .f32) : FVec Ideal s .f32 :=
  select (cmpf .olt (mulf a (broadcast s (Scalar.ofBits .f32 0x37924925#32 : Ideal .f32))) (broadcast s (Scalar.ofBits .f32 0x00800000#32 : Ideal .f32)))
    (broadcast s (Scalar.ofBits .f32 0x00000000#32 : Ideal .f32))
    (minimumf (addf (floor (divf (log (mulf a (broadcast s (Scalar.ofBits .f32 0x37924925#32 : Ideal .f32)))) (log (broadcast s (Scalar.ofBits .f32 0x40000000#32 : Ideal .f32)))))
      (broadcast s (Scalar.ofBits .f32 0x3F800000#32 : Ideal .f32))) (broadcast s (Scalar.ofBits .f32 0x42FC0000#32 : Ideal .f32)))

theorem expo_at {s : Shape} (a : FVec Ideal s .f32) (i : s.Idx) : expo a i = Moe.ex ((a i : EReal) * Ideal.ofBits .f32 0x37924925#32) := rfl

variable (g u : FVec Ideal S8192x1408 .f32) (p q : FVec Ideal S8192x11x128 .f32) (r : Fin 8192) (G : Fin 2816 → EReal) (H : Fin 1408 → EReal)
  (hg : ∀ c : Fin 1408, g (ix2 r c) = G ⟨c.val, by omega⟩) (hu : ∀ c : Fin 1408, u (ix2 r c) = G ⟨c.val + 1408, by omega⟩)
  (hh : ∀ c : Fin 1408, (shapeCast S8192x1408 (mulf p q) shapeCasts_S8192x11x128_S8192x1408 : FVec Ideal S8192x1408 .f32) (ix2 r c) = H c)

include hg hu hh

/-- The gradient, block by block. -/
theorem pay9_apply (b : Fin 22) (l : Fin 128) : k0_pay9 (F := Ideal) g u p q (ix3 r b l) = Moe.blk (Moe.val G H) b l := by
  unfold k0_pay9
  refine (split_apply (n := 8192) (nb := 22) (N := 2816) rfl _ _ r b l ⟨128 * b.val + l.val, by omega⟩ rfl).trans ?_
  refine (concatenate_pair_apply (t := S8192x2816) (s₁ := S8192x1408) (s₂ := S8192x1408) 1 _ _ _ _).trans ?_
  unfold Moe.blk Moe.val
  by_cases hc : 128 * b.val + l.val < 1408
  · refine (dif_pos (show 128 * b.val + l.val < 1408 from hc)).trans ((?_ : _ = _).trans (dif_pos hc).symm)
    have key : ∀ i : S8192x1408.Idx, i = ix2 r (⟨128 * b.val + l.val, hc⟩ : Fin 1408) →
        (mulf (mulf (mulf (shapeCast S8192x1408 (mulf p q) shapeCasts_S8192x11x128_S8192x1408) u) (logistic g))
          (addf (broadcast S8192x1408 (Scalar.ofBits .f32 0x3F800000#32 : Ideal .f32)) (mulf g (subf (broadcast S8192x1408 (Scalar.ofBits .f32 0x3F800000#32 : Ideal .f32)) (logistic g)))) : FVec Ideal S8192x1408 .f32) i
        = Moe.dg (G ⟨128 * b.val + l.val, by omega⟩) (G ⟨128 * b.val + l.val + 1408, by omega⟩) (H ⟨128 * b.val + l.val, hc⟩) := by
      rintro i rfl
      rw [← hh, ← hg ⟨128 * b.val + l.val, hc⟩, ← hu ⟨128 * b.val + l.val, hc⟩]
      rfl
    exact key _ (idx2_ext rfl rfl)
  · refine (dif_neg (show ¬ 128 * b.val + l.val < 1408 from hc)).trans ((?_ : _ = _).trans (dif_neg hc).symm)
    have hc' : 128 * b.val + l.val - 1408 < 1408 := by omega
    have key : ∀ i : S8192x1408.Idx, i = ix2 r (⟨128 * b.val + l.val - 1408, hc'⟩ : Fin 1408) →
        (mulf (mulf (shapeCast S8192x1408 (mulf p q) shapeCasts_S8192x11x128_S8192x1408) g) (logistic g) : FVec Ideal S8192x1408 .f32) i
        = Moe.du (G ⟨128 * b.val + l.val - 1408, by omega⟩) (H ⟨128 * b.val + l.val - 1408, hc'⟩) := by
      rintro i rfl
      rw [← hh, ← hg ⟨128 * b.val + l.val - 1408, hc'⟩]
      rfl
    exact key _ (idx2_ext rfl rfl)

theorem amax_apply (b : Fin 22) :
    (multiReduction .maximumf [2] S8192x22 (absf (k0_pay9 (F := Ideal) g u p q)) 0xFF800000#32 reduces_S8192x22x128_S8192x22 (.inl rfl) rfl : FVec Ideal S8192x22 .f32) (ix2 r b)
      = (Finset.univ : Finset (Fin 128)).fold max (Ideal.ofBits .f32 0xFF800000#32) (fun l => max (Moe.blk (Moe.val G H) b l) (-(Moe.blk (Moe.val G H) b l))) := by
  rw [max_at]
  refine congrArg (fun f => (Finset.univ : Finset (Fin 128)).fold max (Ideal.ofBits .f32 0xFF800000#32) f) (funext fun l => ?_)
  rw [absf_at, pay9_apply g u p q r G H hg hu hh b l]

omit hg hu hh in
theorem pay10_eq : k0_pay10 (F := Ideal) g u p q
    = expo (multiReduction .maximumf [2] S8192x22 (absf (k0_pay9 (F := Ideal) g u p q)) 0xFF800000#32 reduces_S8192x22x128_S8192x22 (.inl rfl) rfl) := by
  unfold k0_pay10 expo
  rfl

theorem pay10_apply (b : Fin 22) : k0_pay10 (F := Ideal) g u p q (ix2 r b) = Moe.ex (Moe.quo (Moe.blk (Moe.val G H) b)) := by
  rw [pay10_eq, expo_at, amax_apply g u p q r G H hg hu hh b]
  unfold Moe.quo
  rfl

theorem pay11_apply (b : Fin 22) : k0_pay11 (F := Ideal) g u p q (ix2 r b) = Moe.rowS (Moe.val G H) b := by
  unfold k0_pay11 Moe.rowS Moe.scale
  rw [exp2_at, pay10_apply g u p q r G H hg hu hh b]

theorem pay12_apply (b : Fin 22) (l : Fin 128) : k0_pay12 (F := Ideal) g u p q (ix3 r b l) = Moe.code (Moe.blk (Moe.val G H) b) l := by
  unfold k0_pay12 Moe.code
  refine (clamp_at _ _ (ix3 r b l)).trans ?_
  rw [pay9_apply g u p q r G H hg hu hh b l, spread_apply (n := 8192) (nb := 22) _ _ _ r b l (by decide) (by decide), inv_at, pay10_apply g u p q r G H hg hu hh b]

theorem pay13_apply (c : Fin 2816) : k0_pay13 (F := Ideal) g u p q (ix2 r c) = Moe.rowC (Moe.val G H) c := by
  unfold k0_pay13
  exact (merge_apply (n := 8192) (nb := 22) (N := 2816) rfl _ _ r c (Moe.bk c) (Moe.ln c) rfl rfl).trans (pay12_apply g u p q r G H hg hu hh (Moe.bk c) (Moe.ln c))

omit hg hu hh in
/-- The input's gradient. -/
theorem pay1_apply (K : IVec S32x8192x1 1) (W : FVec Ideal S32x2048x2816 .bf16) (s : FVec Ideal S8192x22 .f32) (d : FVec Ideal S8192x22x128 .fp8e5m2)
    (e0 : Fin 32) (hK : ∀ e : Fin 32, K (ix3 e r (0 : Fin 1)) = BitVec.ofBool (decide (e = e0))) (V : Fin 2816 → EReal) (D : Fin 32 → Fin 2048 → Fin 2816 → EReal)
    (hW : ∀ e k c, W (ix3 e k c) = D e k c) (hs : ∀ b : Fin 22, s (ix2 r b) = Moe.rowS V b) (hd : ∀ (b : Fin 22) (l : Fin 128), d (ix3 r b l) = Moe.code (Moe.blk V b) l) (k : Fin 2048) :
    k0_pay1 (F := Ideal) K W s d (ix2 r k) = Moe.rowX V (D e0) k := by
  unfold k0_pay1
  refine (Ideal.multiReduction_add_single (s := S32x8192x2048) (a := 0) _ 0x00000000#32 _ (.inl rfl) rfl (ix2 r k)).trans ?_
  refine (Finset.sum_congr rfl fun e _ => ?_).trans (pick (fun e => K (ix3 e r (0 : Fin 1))) e0 hK
    fun e => ∑ c : Fin 2816, (Moe.rowC V c * Moe.rowS V (Moe.bk c)) * D e k c)
  rw [lift0 reduces_S32x8192x2048_S8192x2048 r k e]
  refine congrArg₂ (fun (a : BitVec 1) (b : EReal) => Scalar.select a b (Ideal.ofBits .f32 0x00000000#32)) (marks_apply (N := 2048) _ _ _ e r k) ?_
  refine (dot2_apply _ _ e r k).trans (Finset.sum_congr rfl fun c _ => congrArg₂ (fun a b : EReal => a * b) ?_ (hW e k c))
  refine (copies_apply (n := 8192) (N := 2816) _ _ _ _ e r c (by decide) (by decide)).trans ?_
  refine (merge_apply (n := 8192) (nb := 22) (N := 2816) rfl _ _ r c (Moe.bk c) (Moe.ln c) rfl rfl).trans ?_
  refine congrArg₂ (fun a b : EReal => a * b) (hd (Moe.bk c) (Moe.ln c)) ?_
  exact (spread_apply (n := 8192) (nb := 22) _ _ _ r (Moe.bk c) (Moe.ln c) (by decide) (by decide)).trans (hs (Moe.bk c))

end Gradient

end Cert.ReferenceIdeal.Read

end
-- ==== Proof.RefHost.lean ====
/- The reference's membership marks: expert `e` is marked at row `r` when the row lies in the expert's group. -/
module

public import proofs.«01_k».proof.Proof.SchedWords
public import proofs.«01_k».proof.Proof.Gen.ReferenceIdeal.Frame
public import Idealize.ShloMosaic.Lib.StableHlo.RunRead
public import Idealize.ShloMosaic.Lib.Affine

@[expose] public section

set_option maxRecDepth 16384

noncomputable section

namespace Cert.ReferenceIdeal.Read

open Idealize.ShloMosaic Idealize.ShloMosaic.TcCoe Idealize.ShloMosaic.ValueIdx Idealize.ShloMosaic.Routing
open Cert.ReferenceIdeal.Gen
open Cert.SchedWords Cert.Sched

variable (m : (ℓ : Loc nD τ sig) → Buf (Elt Ideal) ℓ)

/-- The group sizes. -/
abbrev gsz : IVec (shape1 32) 32 := m (((0 : Dev nD) : Thread nD τ).loc main_arg6)

/-- Running sums, as the reference's host takes them. -/
def ends (gs : IVec S32 32) : IVec S32 32 :=
  Host.reduceWindow IntOp.addi ![32] ![1] ![31] ![0] gs (broadcastInDim S_ ![] bcast_S_S_ (constantI S_ 32 0#32)) reduceWindows_S32_S32_w32s1p31_0 h_S_

def rowsW : IVec S32x8192 32 := broadcastInDim S32x8192 ![0, 1] bcast_S1x8192_S32x8192_0_1 (broadcastInDim S1x8192 ![1] bcast_S8192_S1x8192_1 (iotaInDim S8192 32 0))
def colsW (x : IVec S32 32) : IVec S32x8192 32 := broadcastInDim S32x8192 ![0, 1] bcast_S32x1_S32x8192_0_1 (broadcastInDim S32x1 ![0] bcast_S32_S32x1_0 x)

/-- The marks, as the host makes them. -/
def member (gs : IVec S32 32) : IVec S32x8192x1 32 :=
  broadcastInDim S32x8192x1 ![0, 1] bcast_S32x8192_S32x8192x1_0_1
    (extui 32 (andi (cmpi .sge rowsW (colsW (subi (ends gs) gs))) (cmpi .slt rowsW (colsW (ends gs)))) natLt_1_32)

set_option maxHeartbeats 1600000 in
theorem V_member (c : Dev nD) : V m c main_v15 = member (gsz m) := by
  obtain rfl : c = 0 := Subsingleton.elim _ _
  unfold V
  after_reads_simp
  simp -implicitDefEqProofs only [StableHlo.TRef.toBuf, StableHlo.TRef.ofBuf, cast_cast, cast_eq, id_eq]
  unfold member ends rowsW colsW
  rfl

variable {gs : IVec (shape1 32) 32} {g : ℕ → ℕ} (hs : Sizes gs g)
include hs

theorem ends_at (e : Fin 32) : ends gs (ValueIdx.ix1 e) = BitVec.ofNat 32 (S g (e.val + 1)) := by
  unfold ends
  refine cumsum1 (by decide) gs g hs.word _ ?_ reduceWindows_S32_S32_w32s1p31_0 h_S_ e
  rw [bc0]; rfl

theorem starts_at (e : Fin 32) : (subi (ends gs) gs : IVec S32 32) (ValueIdx.ix1 e) = BitVec.ofNat 32 (S g e.val) := by
  show ends gs (ValueIdx.ix1 e) - gs (ValueIdx.ix1 e) = _
  rw [ends_at hs, hs.word, ofNat32_sub (by rw [S_succ]; omega), S_succ, Nat.add_sub_cancel]

omit hs in
theorem rows_at (e : Fin 32) (r : Fin 8192) : rowsW (ValueIdx.ix2 e r) = BitVec.ofNat 32 r.val := by
  rfl

omit hs in
theorem cols_at (x : IVec S32 32) (e : Fin 32) (r : Fin 8192) : colsW x (ValueIdx.ix2 e r) = x (ValueIdx.ix1 e) := by
  refine congrArg x (funext fun a => ?_)
  match a with
  | 0 => rfl

omit hs in
theorem toInt_row (a : ℕ) (h : a ≤ 8192) : (BitVec.ofNat 32 a).toInt = (a : ℤ) := by
  rw [BitVec.toInt_eq_toNat_of_lt (by rw [BitVec.toNat_ofNat]; omega), BitVec.toNat_ofNat, Nat.mod_eq_of_lt (by omega)]

omit hs in
theorem slt_row (a b : ℕ) (ha : a ≤ 8192) (hb : b ≤ 8192) : (BitVec.ofNat 32 a).slt (BitVec.ofNat 32 b) = decide (a < b) := by
  rw [BitVec.slt, toInt_row a ha, toInt_row b hb]
  simp only [Nat.cast_lt]

omit hs in
theorem sle_row (a b : ℕ) (ha : a ≤ 8192) (hb : b ≤ 8192) : (BitVec.ofNat 32 a).sle (BitVec.ofNat 32 b) = decide (a ≤ b) := by
  rw [BitVec.sle, toInt_row a ha, toInt_row b hb]
  simp only [Nat.cast_le]

omit hs in
theorem spread_at (K : IVec S32x8192 32) (e : Fin 32) (r : Fin 8192) :
    broadcastInDim S32x8192x1 ![0, 1] bcast_S32x8192_S32x8192x1_0_1 K (ValueIdx.ix3 e r (0 : Fin 1)) = K (ValueIdx.ix2 e r) := by
  refine congrArg K (funext fun a => ?_)
  match a with
  | 0 => rfl
  | 1 => rfl

omit hs in
theorem between_at (R L U : IVec S32x8192 32) (i : S32x8192.Idx) :
    (extui 32 (andi (cmpi .sge R L) (cmpi .slt R U)) natLt_1_32 : IVec S32x8192 32) i
      = BitVec.setWidth 32 (IntOp.andi (BitVec.ofBool ((L i).sle (R i))) (BitVec.ofBool ((R i).slt (U i)))) := rfl

omit hs in
theorem both (p q : Prop) [Decidable p] [Decidable q] : IntOp.andi (BitVec.ofBool (decide p)) (BitVec.ofBool (decide q)) = BitVec.ofBool (decide (p ∧ q)) := by
  by_cases h1 : p <;> by_cases h2 : q <;> simp [h1, h2, IntOp.andi]

theorem member_at (e : Fin 32) (r : Fin 8192) :
    member gs (ValueIdx.ix3 e r (0 : Fin 1)) = BitVec.setWidth 32 (BitVec.ofBool (decide (S g e.val ≤ r.val ∧ r.val < S g (e.val + 1)))) := by
  have h1 : S g e.val ≤ 8192 := S_le hs.sum (by omega)
  have h2 : S g (e.val + 1) ≤ 8192 := S_le hs.sum (by omega)
  have h3 : r.val ≤ 8192 := r.isLt.le
  unfold member
  rw [spread_at, between_at, cols_at, cols_at, rows_at, starts_at hs, ends_at hs, sle_row _ _ h1 h3, slt_row _ _ h3 h2, both]

/-- At a row of expert `e0`'s group only `e0` is marked. -/
theorem mark_at (x6 : Vec Ideal S32x8192x1 .i32) (hx : x6 = member gs) (r : Fin 8192) (e0 : Fin 32) (h1 : S g e0.val ≤ r.val) (h2 : r.val < S g (e0.val + 1)) (e : Fin 32) :
    k0_pay2 (F := Ideal) x6 (ValueIdx.ix3 e r (0 : Fin 1)) = BitVec.ofBool (decide (e = e0)) := by
  subst hx
  have hp : k0_pay2 (F := Ideal) (member gs) (ValueIdx.ix3 e r (0 : Fin 1)) = IntOp.cmpi .eq (member gs (ValueIdx.ix3 e r (0 : Fin 1))) 1#32 := by
    unfold k0_pay2
    exact congrArg (fun z => IntOp.cmpi .eq z 1#32) (shapeCast_apply (s := S32x8192x1) _ _ _ (ValueIdx.ix3 e r (0 : Fin 1)) rfl)
  rw [hp, member_at hs]
  by_cases he : e = e0
  · subst he
    rw [decide_eq_true (And.intro h1 h2), decide_eq_true rfl]
    decide
  · have hn : ¬ (S g e.val ≤ r.val ∧ r.val < S g (e.val + 1)) := fun h => he (Fin.ext (group_unique g h.1 h.2 h1 h2))
    rw [decide_eq_false hn, decide_eq_false he]
    decide

end Cert.ReferenceIdeal.Read

end
-- ==== Proof.RefRes.lean ====
/- What the reference computes: row `r` of each result is row `r` under the expert whose group holds it. -/
module

public import proofs.«01_k».proof.Proof.RefRead2
public import proofs.«01_k».proof.Proof.RefHost
public import Idealize.ShloMosaic.Lib.Pipeline.ValueKit.Basic

@[expose] public section

set_option maxRecDepth 16384

noncomputable section

namespace Cert.ReferenceIdeal.Read

open Idealize.ShloMosaic Idealize.ShloMosaic.TcCoe
open Idealize.SL Idealize.SL.RA Idealize.SL.Sem
open Idealize.ShloMosaic.Pipeline (Dat Cfg Window cellOf)
open Cert.ReferenceIdeal.Gen Cert.Sched Cert.SchedWords

section Payloads

variable (x0 : Vec Ideal S8192x2048 .fp8e4m3) (x1 : Vec Ideal S8192x16 .f32) (x2 : Vec Ideal S32x2048x2816 .fp8e4m3) (x3 : Vec Ideal S32x16x22 .f32)
  (x4 : Vec Ideal S8192x1408 .fp8e5m2) (x5 : Vec Ideal S8192x11 .f32) (x6 : Vec Ideal S32x8192x1 .i32)

theorem pay14_eq : k0_pay14 (F := Ideal) x0 x1 x2 x3 x4 x5 x6 = k0_pay5 x6 x0 x1 x2 x3 := by
  unfold k0_pay14
  rw [View.ld_unit_lit inb_S32x8192x1_S32x8192x1_0_0_0 x6 (by decide), View.ld_unit_lit inb_S8192x2048_S8192x2048_0_0 x0 (by decide), View.ld_unit_lit inb_S8192x16_S8192x16_0_0 x1 (by decide),
    View.ld_unit_lit inb_S32x2048x2816_S32x2048x2816_0_0_0 x2 (by decide), View.ld_unit_lit inb_S32x16x22_S32x16x22_0_0_0 x3 (by decide)]
theorem pay15_eq : k0_pay15 (F := Ideal) x0 x1 x2 x3 x4 x5 x6 = k0_pay6 x6 x0 x1 x2 x3 := by
  unfold k0_pay15
  rw [View.ld_unit_lit inb_S32x8192x1_S32x8192x1_0_0_0 x6 (by decide), View.ld_unit_lit inb_S8192x2048_S8192x2048_0_0 x0 (by decide), View.ld_unit_lit inb_S8192x16_S8192x16_0_0 x1 (by decide),
    View.ld_unit_lit inb_S32x2048x2816_S32x2048x2816_0_0_0 x2 (by decide), View.ld_unit_lit inb_S32x16x22_S32x16x22_0_0_0 x3 (by decide)]
theorem pay16_eq : k0_pay16 (F := Ideal) x0 x1 x2 x3 x4 x5 x6 = k0_pay7 x4 := by
  unfold k0_pay16
  rw [View.ld_unit_lit inb_S8192x1408_S8192x1408_0_0 x4 (by decide)]
theorem pay17_eq : k0_pay17 (F := Ideal) x0 x1 x2 x3 x4 x5 x6 = k0_pay8 x5 := by
  unfold k0_pay17
  rw [View.ld_unit_lit inb_S8192x11_S8192x11_0_0 x5 (by decide)]

variable (r : Fin 8192) (e0 : Fin 32) (hK : ∀ e : Fin 32, k0_pay2 (F := Ideal) x6 (ix3 e r (0 : Fin 1)) = BitVec.ofBool (decide (e = e0)))
include hK

theorem pay18_apply (b : Fin 22) : k0_pay18 (F := Ideal) x0 x1 x2 x3 x4 x5 x6 (ix2 r b) = (arr x0 x1 x2 x3 x4 x5).S r e0 b := by
  unfold k0_pay18
  rw [pay14_eq, pay15_eq, pay16_eq, pay17_eq]
  exact pay11_apply _ _ _ _ r _ _ (pay5_apply x0 x1 x2 x3 x4 x5 x6 r e0 hK) (pay6_apply x0 x1 x2 x3 x4 x5 x6 r e0 hK) (h_apply x0 x1 x2 x3 x4 x5 r) b

theorem out9_apply (b : Fin 22) : out0_9 (F := Ideal) x0 x1 x2 x3 x4 x5 x6 (ix2 r b) = (arr x0 x1 x2 x3 x4 x5).S r e0 b := by
  unfold out0_9
  rw [View.canon_cons_unit_lit inb_S8192x22_S8192x22_0_0 _ _ (by decide)]
  exact pay18_apply x0 x1 x2 x3 x4 x5 x6 r e0 hK b

theorem out8_apply (c : Fin 2816) : out0_8 (F := Ideal) x0 x1 x2 x3 x4 x5 x6 (ix2 r c) = (arr x0 x1 x2 x3 x4 x5).C r e0 c := by
  unfold out0_8
  rw [View.canon_cons_unit_lit inb_S8192x2816_S8192x2816_0_0 _ _ (by decide), pay14_eq, pay15_eq, pay16_eq, pay17_eq]
  exact pay13_apply _ _ _ _ r _ _ (pay5_apply x0 x1 x2 x3 x4 x5 x6 r e0 hK) (pay6_apply x0 x1 x2 x3 x4 x5 x6 r e0 hK) (h_apply x0 x1 x2 x3 x4 x5 r) c

theorem out7_apply (k : Fin 2048) : out0_7 (F := Ideal) x0 x1 x2 x3 x4 x5 x6 (ix2 r k) = (arr x0 x1 x2 x3 x4 x5).X r e0 k := by
  unfold out0_7
  rw [View.canon_cons_unit_lit inb_S8192x2048_S8192x2048_0_0 _ _ (by decide), pay14_eq, pay15_eq, pay16_eq, pay17_eq,
    View.ld_unit_lit inb_S32x8192x1_S32x8192x1_0_0_0 x6 (by decide),
    View.ld_unit_lit inb_S32x2048x2816_S32x2048x2816_0_0_0 x2 (by decide), View.ld_unit_lit inb_S32x16x22_S32x16x22_0_0_0 x3 (by decide)]
  exact pay1_apply r _ _ _ _ e0 hK ((arr x0 x1 x2 x3 x4 x5).V r e0) (arr x0 x1 x2 x3 x4 x5).D (pay3_apply x2 x3)
    (pay18_apply x0 x1 x2 x3 x4 x5 x6 r e0 hK)
    (pay12_apply _ _ _ _ r _ _ (pay5_apply x0 x1 x2 x3 x4 x5 x6 r e0 hK) (pay6_apply x0 x1 x2 x3 x4 x5 x6 r e0 hK) (h_apply x0 x1 x2 x3 x4 x5 r)) k

end Payloads

variable (m : (ℓ : Loc nD τ sig) → Buf (Elt Ideal) ℓ) (c : Dev nD) (t : Fin cfg0.N)

/-- The arguments' numbers. -/
def arrs : Moe.Arr := arr (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))

theorem blk0 : (iblk m c 0 t : S8192x2048.Idx → EReal) = m ((c.tc : Thread nD τ).loc main_arg0) := by
  refine Eq.trans (funext fun i => ?_) (V_main_arg0 m c)
  show V m c main_arg0 ((win0_0.rect t).emb i) = V m c main_arg0 i
  refine congrArg (V m c main_arg0) (idx2_ext (a := 8192) (b := 2048) ?_ ?_)
  · exact (Pipeline.Window.rect_emb_val win0_0 t i (0 : Fin 2) rfl).trans (by show 0 * 8192 + _ = _; rw [Nat.zero_mul, Nat.zero_add])
  · exact (Pipeline.Window.rect_emb_val win0_0 t i (1 : Fin 2) rfl).trans (by show 0 * 2048 + _ = _; rw [Nat.zero_mul, Nat.zero_add])

theorem blk1 : (iblk m c 1 t : S8192x16.Idx → EReal) = m ((c.tc : Thread nD τ).loc main_arg1) := by
  refine Eq.trans (funext fun i => ?_) (V_main_arg1 m c)
  show V m c main_arg1 ((win0_1.rect t).emb i) = V m c main_arg1 i
  refine congrArg (V m c main_arg1) (idx2_ext (a := 8192) (b := 16) ?_ ?_)
  · exact (Pipeline.Window.rect_emb_val win0_1 t i (0 : Fin 2) rfl).trans (by show 0 * 8192 + _ = _; rw [Nat.zero_mul, Nat.zero_add])
  · exact (Pipeline.Window.rect_emb_val win0_1 t i (1 : Fin 2) rfl).trans (by show 0 * 16 + _ = _; rw [Nat.zero_mul, Nat.zero_add])

theorem blk2 : (iblk m c 2 t : S32x2048x2816.Idx → EReal) = m ((c.tc : Thread nD τ).loc main_arg2) := by
  refine Eq.trans (funext fun i => ?_) (V_main_arg2 m c)
  show V m c main_arg2 ((win0_2.rect t).emb i) = V m c main_arg2 i
  refine congrArg (V m c main_arg2) (idx3_ext (a := 32) (b := 2048) (c := 2816) ?_ ?_ ?_)
  · exact (Pipeline.Window.rect_emb_val win0_2 t i (0 : Fin 3) rfl).trans (by show 0 * 32 + _ = _; rw [Nat.zero_mul, Nat.zero_add])
  · exact (Pipeline.Window.rect_emb_val win0_2 t i (1 : Fin 3) rfl).trans (by show 0 * 2048 + _ = _; rw [Nat.zero_mul, Nat.zero_add])
  · exact (Pipeline.Window.rect_emb_val win0_2 t i (2 : Fin 3) rfl).trans (by show 0 * 2816 + _ = _; rw [Nat.zero_mul, Nat.zero_add])

theorem blk3 : (iblk m c 3 t : S32x16x22.Idx → EReal) = m ((c.tc : Thread nD τ).loc main_arg3) := by
  refine Eq.trans (funext fun i => ?_) (V_main_arg3 m c)
  show V m c main_arg3 ((win0_3.rect t).emb i) = V m c main_arg3 i
  refine congrArg (V m c main_arg3) (idx3_ext (a := 32) (b := 16) (c := 22) ?_ ?_ ?_)
  · exact (Pipeline.Window.rect_emb_val win0_3 t i (0 : Fin 3) rfl).trans (by show 0 * 32 + _ = _; rw [Nat.zero_mul, Nat.zero_add])
  · exact (Pipeline.Window.rect_emb_val win0_3 t i (1 : Fin 3) rfl).trans (by show 0 * 16 + _ = _; rw [Nat.zero_mul, Nat.zero_add])
  · exact (Pipeline.Window.rect_emb_val win0_3 t i (2 : Fin 3) rfl).trans (by show 0 * 22 + _ = _; rw [Nat.zero_mul, Nat.zero_add])

theorem blk4 : (iblk m c 4 t : S8192x1408.Idx → EReal) = m ((c.tc : Thread nD τ).loc main_arg4) := by
  refine Eq.trans (funext fun i => ?_) (V_main_arg4 m c)
  show V m c main_arg4 ((win0_4.rect t).emb i) = V m c main_arg4 i
  refine congrArg (V m c main_arg4) (idx2_ext (a := 8192) (b := 1408) ?_ ?_)
  · exact (Pipeline.Window.rect_emb_val win0_4 t i (0 : Fin 2) rfl).trans (by show 0 * 8192 + _ = _; rw [Nat.zero_mul, Nat.zero_add])
  · exact (Pipeline.Window.rect_emb_val win0_4 t i (1 : Fin 2) rfl).trans (by show 0 * 1408 + _ = _; rw [Nat.zero_mul, Nat.zero_add])

theorem blk5 : (iblk m c 5 t : S8192x11.Idx → EReal) = m ((c.tc : Thread nD τ).loc main_arg5) := by
  refine Eq.trans (funext fun i => ?_) (V_main_arg5 m c)
  show V m c main_arg5 ((win0_5.rect t).emb i) = V m c main_arg5 i
  refine congrArg (V m c main_arg5) (idx2_ext (a := 8192) (b := 11) ?_ ?_)
  · exact (Pipeline.Window.rect_emb_val win0_5 t i (0 : Fin 2) rfl).trans (by show 0 * 8192 + _ = _; rw [Nat.zero_mul, Nat.zero_add])
  · exact (Pipeline.Window.rect_emb_val win0_5 t i (1 : Fin 2) rfl).trans (by show 0 * 11 + _ = _; rw [Nat.zero_mul, Nat.zero_add])

theorem blk6 : (iblk m c 6 t : S32x8192x1.Idx → BitVec 32) = member (gsz m) := by
  refine Eq.trans (funext fun i => ?_) (V_member m c)
  show V m c main_v15 ((win0_6.rect t).emb i) = V m c main_v15 i
  refine congrArg (V m c main_v15) (idx3_ext (a := 32) (b := 8192) (c := 1) ?_ ?_ ?_)
  · exact (Pipeline.Window.rect_emb_val win0_6 t i (0 : Fin 3) rfl).trans (by show 0 * 32 + _ = _; rw [Nat.zero_mul, Nat.zero_add])
  · exact (Pipeline.Window.rect_emb_val win0_6 t i (1 : Fin 3) rfl).trans (by show 0 * 8192 + _ = _; rw [Nat.zero_mul, Nat.zero_add])
  · exact (Pipeline.Window.rect_emb_val win0_6 t i (2 : Fin 3) rfl).trans (by show 0 * 1 + _ = _; rw [Nat.zero_mul, Nat.zero_add])

theorem whole7 (i : S8192x2048.Idx) : ((cfg0.win 7).blk t).view.emb i = i := by
  refine idx2_ext (a := 8192) (b := 2048) ?_ ?_
  · exact (Pipeline.Window.rect_emb_val win0_7 t i (0 : Fin 2) rfl).trans (by show 0 * 8192 + _ = _; rw [Nat.zero_mul, Nat.zero_add])
  · exact (Pipeline.Window.rect_emb_val win0_7 t i (1 : Fin 2) rfl).trans (by show 0 * 2048 + _ = _; rw [Nat.zero_mul, Nat.zero_add])

theorem final7 (i : S8192x2048.Idx) : ((dats m 0 c).arrAt 7 cfg0.N : S8192x2048.Idx → EReal) i = out0_7 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (member (gsz m)) i := by
  have h := (dats m 0 c).arrAt_emb_eq_flushed 7 (fun t t' _ _ hne => absurd ((fin_N0 t).trans (fin_N0 t').symm) hne) t0_0 (flush0_7 t0_0) i
  rw [whole7 t0_0 i] at h
  refine Eq.trans h ?_
  refine Eq.trans (show _ = (dats m 0 c).after 7 t0_0 i from rfl) ?_
  rw [after0_7 m c t0_0, blk0, blk1, blk2, blk3, blk4, blk5, blk6]

theorem whole8 (i : S8192x2816.Idx) : ((cfg0.win 8).blk t).view.emb i = i := by
  refine idx2_ext (a := 8192) (b := 2816) ?_ ?_
  · exact (Pipeline.Window.rect_emb_val win0_8 t i (0 : Fin 2) rfl).trans (by show 0 * 8192 + _ = _; rw [Nat.zero_mul, Nat.zero_add])
  · exact (Pipeline.Window.rect_emb_val win0_8 t i (1 : Fin 2) rfl).trans (by show 0 * 2816 + _ = _; rw [Nat.zero_mul, Nat.zero_add])

theorem final8 (i : S8192x2816.Idx) : ((dats m 0 c).arrAt 8 cfg0.N : S8192x2816.Idx → EReal) i = out0_8 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (member (gsz m)) i := by
  have h := (dats m 0 c).arrAt_emb_eq_flushed 8 (fun t t' _ _ hne => absurd ((fin_N0 t).trans (fin_N0 t').symm) hne) t0_0 (flush0_8 t0_0) i
  rw [whole8 t0_0 i] at h
  refine Eq.trans h ?_
  refine Eq.trans (show _ = (dats m 0 c).after 8 t0_0 i from rfl) ?_
  rw [after0_8 m c t0_0, blk0, blk1, blk2, blk3, blk4, blk5, blk6]

theorem whole9 (i : S8192x22.Idx) : ((cfg0.win 9).blk t).view.emb i = i := by
  refine idx2_ext (a := 8192) (b := 22) ?_ ?_
  · exact (Pipeline.Window.rect_emb_val win0_9 t i (0 : Fin 2) rfl).trans (by show 0 * 8192 + _ = _; rw [Nat.zero_mul, Nat.zero_add])
  · exact (Pipeline.Window.rect_emb_val win0_9 t i (1 : Fin 2) rfl).trans (by show 0 * 22 + _ = _; rw [Nat.zero_mul, Nat.zero_add])

theorem final9 (i : S8192x22.Idx) : ((dats m 0 c).arrAt 9 cfg0.N : S8192x22.Idx → EReal) i = out0_9 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (member (gsz m)) i := by
  have h := (dats m 0 c).arrAt_emb_eq_flushed 9 (fun t t' _ _ hne => absurd ((fin_N0 t).trans (fin_N0 t').symm) hne) t0_0 (flush0_9 t0_0) i
  rw [whole9 t0_0 i] at h
  refine Eq.trans h ?_
  refine Eq.trans (show _ = (dats m 0 c).after 9 t0_0 i from rfl) ?_
  rw [after0_9 m c t0_0, blk0, blk1, blk2, blk3, blk4, blk5, blk6]

variable {m} {g : ℕ → ℕ} (hs : Sizes (gsz m) g)
include hs

/-- THE VALUE. -/
theorem value (ρ : Dev nD → PrngReg) : θ_run defs (onTc (τ := τ) (main (F := Ideal))) ⟨m, fun _ => 0, ρ⟩ (fun q => ∀ c : Dev nD,
      (∀ (r : Fin 8192) (e : Fin 32), S g e.val ≤ r.val → r.val < S g (e.val + 1) →
        (∀ k : Fin 2048, q.2.mem ((c.tc : Thread nD τ).loc main_v16_0) (ix2 r k) = (arrs m c).X r e k)
        ∧ (∀ k : Fin 2816, q.2.mem ((c.tc : Thread nD τ).loc main_v16_1) (ix2 r k) = (arrs m c).C r e k)
        ∧ (∀ k : Fin 22, q.2.mem ((c.tc : Thread nD τ).loc main_v16_2) (ix2 r k) = (arrs m c).S r e k))
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)
      ∧ q.2.mem ((c.tc : Thread nD τ).loc main_arg5) = m ((c.tc : Thread nD τ).loc main_arg5)
      ∧ q.2.mem ((c.tc : Thread nD τ).loc main_arg6) = m ((c.tc : Thread nD τ).loc main_arg6)) :=
  (θ_run defs _ _).mono (fun q h c => ⟨fun r e h1 h2 =>
    ⟨fun k => (congrFun ((h c).1 7) (ix2 r k)).trans ((final7 m c (ix2 r k)).trans (out7_apply _ _ _ _ _ _ _ r e (mark_at hs _ rfl r e h1 h2) k)),
      fun k => (congrFun ((h c).1 8) (ix2 r k)).trans ((final8 m c (ix2 r k)).trans (out8_apply _ _ _ _ _ _ _ r e (mark_at hs _ rfl r e h1 h2) k)),
      fun k => (congrFun ((h c).1 9) (ix2 r k)).trans ((final9 m c (ix2 r k)).trans (out9_apply _ _ _ _ _ _ _ r e (mark_at hs _ rfl r e h1 h2) k))⟩,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c)⟩) (run_main m ρ)

end Cert.ReferenceIdeal.Read

end
-- ==== Proof.Agree.lean ====
/- The kernel and the reference, from the same arguments, end with the same three results. -/
module

public import proofs.«01_k».proof.Defs
public import proofs.«01_k».proof.Proof.KernelIdealRes
public import proofs.«01_k».proof.Proof.RefRes
public import proofs.«01_k».proof.Proof.KernelIdealTables
public import proofs.«01_k».proof.Proof.SchedPre
public import proofs.«01_k».proof.Proof.Gen.Pre_groups_fill_rows
public import proofs.«01_k».proof.Proof.Gen.KernelIdeal
public import proofs.«01_k».proof.Proof.Gen.ReferenceIdeal

@[expose] public section

set_option maxRecDepth 16384

noncomputable section

namespace Cert.Agree

open Idealize.ShloMosaic Idealize.ShloMosaic.TcCoe Idealize.SL.Sem
open Cert.Sched Cert.SchedWords

/-- Every row lies in some expert's group, when the groups fill the rows. -/
theorem owner_exists (g : ℕ → ℕ) (hs : S g 32 = 8192) (r : Fin 8192) : ∃ e : Fin 32, S g e.val ≤ r.val ∧ r.val < S g (e.val + 1) := by
  have hex : ∃ e, r.val < S g (e + 1) := ⟨31, by rw [hs]; exact r.isLt⟩
  classical
  have h1 := Nat.find_spec hex
  have h3 : Nat.find hex < 32 := by have := Nat.find_le (h := hex) (n := 31) (by rw [hs]; exact r.isLt); omega
  refine ⟨⟨Nat.find hex, h3⟩, ?_, h1⟩
  show S g (Nat.find hex) ≤ r.val
  rcases Nat.eq_zero_or_pos (Nat.find hex) with h | h
  · rw [h, S_zero]; exact Nat.zero_le _
  · have h2 : S g (Nat.find hex - 1 + 1) ≤ r.val := not_lt.mp (Nat.find_min hex (Nat.sub_lt h Nat.one_pos))
    rwa [Nat.sub_add_cancel h] at h2

/-- The expert whose group holds row `r`. -/
def owner (g : ℕ → ℕ) (hs : S g 32 = 8192) (r : Fin 8192) : Fin 32 := (owner_exists g hs r).choose
theorem owner_lo (g : ℕ → ℕ) (hs : S g 32 = 8192) (r : Fin 8192) : S g (owner g hs r).val ≤ r.val := (owner_exists g hs r).choose_spec.1
theorem owner_hi (g : ℕ → ℕ) (hs : S g 32 = 8192) (r : Fin 8192) : r.val < S g ((owner g hs r).val + 1) := (owner_exists g hs r).choose_spec.2

/-- An array given by its rows. -/
def table {n : ℕ} (f : Fin 8192 → Fin n → EReal) : (⟨2, ![8192, n]⟩ : Shape).Idx → EReal := fun i => f (i 0) (i 1)

theorem table_ext {n : ℕ} (G : (⟨2, ![8192, n]⟩ : Shape).Idx → EReal) (f : Fin 8192 → Fin n → EReal) (h : ∀ r k, G (ix2 r k) = f r k) : G = table f := by
  funext i
  have e : i = ix2 (i 0 : Fin 8192) (i 1 : Fin n) := Cert.ReferenceIdeal.Read.idx2_ext rfl rfl
  exact (congrArg G e).trans (h (i 0) (i 1))

open Cert.KernelIdeal.Hand (ok)

/-- From the same arguments the two programs read the same numbers. -/
theorem arrs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Read.arrs m' c = Cert.KernelIdeal.Hand.arrs m c := by
  unfold Cert.ReferenceIdeal.Read.arrs
  rw [h0, h1, h2, h3, h4, h5]
  rfl

/-- THE CLAIM: the two programs' results are equal, element by element. -/
theorem algebraic : @Cert.algebraic_KernelIdeal_ReferenceIdeal Cert.KernelIdeal.Gen.facts Cert.ReferenceIdeal.Gen.facts Cert.Pre_groups_fill_rows.Gen.facts := by
  intro m ρ m' ρ' hpre hag
  obtain ⟨g, hs⟩ : ∃ g, Sizes (Cert.KernelIdeal.Hand.gsz m) g := ⟨_, sizes_of_pre _ _ _ _ _ _ _ (hpre 0)⟩
  have hs' : Sizes (Cert.ReferenceIdeal.Read.gsz m') g := by
    have e : Cert.ReferenceIdeal.Read.gsz m' = Cert.KernelIdeal.Hand.gsz m := (hag 0).2.2.2.2.2.2
    rw [e]; exact hs
  have lo := owner_lo g hs.sum
  have hi := owner_hi g hs.sum
  refine ⟨fun c => table fun r k => (Cert.KernelIdeal.Hand.arrs m c).X r (owner g hs.sum r) k,
    fun c => table fun r k => (Cert.KernelIdeal.Hand.arrs m c).C r (owner g hs.sum r) k,
    fun c => table fun r k => (Cert.KernelIdeal.Hand.arrs m c).S r (owner g hs.sum r) k, ?_, ?_⟩
  · refine (θ_run Cert.KernelIdeal.defs _ _).mono (fun q h c => ?_) (Cert.KernelIdeal.Hand.value hs ρ (ok hs))
    obtain ⟨hv, hargs⟩ := h c
    exact ⟨table_ext _ _ fun r k => (hv r _ (lo r) (hi r)).1 k, table_ext _ _ fun r k => (hv r _ (lo r) (hi r)).2.1 k,
      table_ext _ _ fun r k => (hv r _ (lo r) (hi r)).2.2 k, hargs⟩
  · refine (θ_run Cert.ReferenceIdeal.defs _ _).mono (fun q h c => ?_) (Cert.ReferenceIdeal.Read.value hs' ρ')
    obtain ⟨hv, hargs⟩ := h c
    obtain ⟨a0, a1, a2, a3, a4, a5, -⟩ := hag c
    rw [arrs_eq m m' c a0 a1 a2 a3 a4 a5] at hv
    exact ⟨table_ext _ _ fun r k => (hv r _ (lo r) (hi r)).1 k, table_ext _ _ fun r k => (hv r _ (lo r) (hi r)).2.1 k,
      table_ext _ _ fun r k => (hv r _ (lo r) (hi r)).2.2 k, hargs⟩

end Cert.Agree

end
-- ==== Proof.lean ====
/- The claims, put together. -/
module

public import proofs.«01_k».proof.Defs
public import proofs.«01_k».proof.Proof.KernelRun
public import proofs.«01_k».proof.Proof.KernelTables
public import proofs.«01_k».proof.Proof.KernelIdealRun
public import proofs.«01_k».proof.Proof.KernelIdealTables
public import proofs.«01_k».proof.Proof.SchedPre
public import proofs.«01_k».proof.Proof.Agree
public import proofs.«01_k».proof.Proof.Gen.Kernel
public import proofs.«01_k».proof.Proof.Gen.KernelIdeal
public import proofs.«01_k».proof.Proof.Gen.Pre_groups_fill_rows
public import proofs.«01_k».proof.Proof.Gen.ReferenceIdeal
public import proofs.«01_k».proof.Proof.Gen.ReferenceIdeal.Frame

@[expose] public section

noncomputable section

namespace Cert.Proof

open Idealize.ShloMosaic Idealize.SL.Sem

theorem claim : Cert.Claim := by
  refine ⟨Cert.Kernel.Gen.facts, Cert.KernelIdeal.Gen.facts, Cert.ReferenceIdeal.Gen.facts, Cert.Pre_groups_fill_rows.Gen.facts, ?_, ?_, ?_, ?_, ?_, ?_⟩
  · intro m g hpre
    exact Cert.Kernel.Hand.frame m g (Cert.Kernel.Hand.ok (Cert.SchedWords.sizes_of_pre _ _ _ _ _ _ _ (hpre 0)))
  · intro m g hpre
    exact Cert.KernelIdeal.Hand.frame m g (Cert.KernelIdeal.Hand.ok (Cert.SchedWords.sizes_of_pre _ _ _ _ _ _ _ (hpre 0)))
  · intro m g _
    exact Cert.ReferenceIdeal.Gen.frame m g
  · intro m g _
    exact Cert.ReferenceIdeal.Gen.frame m g
  · trivial
  · exact Cert.Agree.algebraic

end Cert.Proof

end
